-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "uncapped" .f32 0x7149F2CA#32 ⊤

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_and_keys.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S32x2048x1x32 : Shape := ⟨4, ![32, 2048, 1, 32]⟩
abbrev S32x2048x8x192 : Shape := ⟨4, ![32, 2048, 8, 192]⟩
abbrev S_ : Shape := ⟨0, ![]⟩

class Facts : Prop where
  bcast_S32x2048x32_S32x2048x1x32_0_1_3 : S32x2048x32.BroadcastsInDim S32x2048x1x32 (![0, 1, 3] : Fin 3 → Fin S32x2048x1x32.rank)
  bcast_S32x2048x1x32_S32x2048x8x32_0_1_2_3 : S32x2048x1x32.BroadcastsInDim S32x2048x8x32 (![0, 1, 2, 3] : Fin 4 → Fin S32x2048x8x32.rank)
  concatenates_S32x2048x8x64_S32x2048x8x32_S32x2048x8x64_S32x2048x8x32_S32x2048x8x192_d3 : Shape.Concatenates [S32x2048x8x64, S32x2048x8x32, S32x2048x8x64, S32x2048x8x32] S32x2048x8x192 3
  bcast_S_S32x2048x8x192 : S_.BroadcastsInDim S32x2048x8x192 (![] : Fin 0 → Fin S32x2048x8x192.rank)

variable [Facts]

def fn {F : FTy → Type} [FloatOps F] (main_arg0 : FVec F S32x2048x8x64 .f32) (main_arg1 : FVec F S32x2048x8x32 .f32) (main_arg2 : FVec F S32x2048x8x64 .f32) (main_arg3 : FVec F S32x2048x32 .f32) (main_arg4 : FVec F S32x2048x8x64 .f32) : IVec S32x2048x8x192 1 :=
  let main_v0 : FVec F S32x2048x1x32 .f32 := broadcastInDim S32x2048x1x32 ![0, 1, 3] bcast_S32x2048x32_S32x2048x1x32_0_1_3 main_arg3
  let main_v1 : FVec F S32x2048x8x32 .f32 := broadcastInDim S32x2048x8x32 ![0, 1, 2, 3] bcast_S32x2048x1x32_S32x2048x8x32_0_1_2_3 main_v0
  let main_v2 : FVec F S32x2048x8x192 .f32 := concatenate S32x2048x8x192 3 [⟨S32x2048x8x64, main_arg0⟩, ⟨S32x2048x8x32, main_arg1⟩, ⟨S32x2048x8x64, main_arg2⟩, ⟨S32x2048x8x32, main_v1⟩] concatenates_S32x2048x8x64_S32x2048x8x32_S32x2048x8x64_S32x2048x8x32_S32x2048x8x192_d3
  let main_cst : FVec F S_ .f32 := constant S_ .f32 0xFF800000#32
  let main_v3 : FVec F S32x2048x8x192 .f32 := broadcastInDim S32x2048x8x192 ![] bcast_S_S32x2048x8x192 main_cst
  let main_v4 : IVec S32x2048x8x192 1 := cmpf .ogt main_v2 main_v3
  let main_cst_0 : FVec F S_ .f32 := constant S_ .f32 0x7F800000#32
  let main_v5 : FVec F S32x2048x8x192 .f32 := broadcastInDim S32x2048x8x192 ![] bcast_S_S32x2048x8x192 main_cst_0
  let main_v6 : IVec S32x2048x8x192 1 := cmpf .olt main_v2 main_v5
  let main_v7 : IVec S32x2048x8x192 1 := andi main_v4 main_v6
  main_v7
-- ==== Kernel.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S_ : Shape := ⟨0, ![]⟩
abbrev S32x2048x8x128 : Shape := ⟨4, ![32, 2048, 8, 128]⟩
abbrev S32x2048x1x32 : Shape := ⟨4, ![32, 2048, 1, 32]⟩
abbrev S32x2048x1024 : Shape := ⟨3, ![32, 2048, 1024]⟩
abbrev S32x2048x512 : Shape := ⟨3, ![32, 2048, 512]⟩
abbrev S1x2048x1024 : Shape := ⟨3, ![1, 2048, 1024]⟩
abbrev S1x2048x512 : Shape := ⟨3, ![1, 2048, 512]⟩
abbrev S8x512x512 : Shape := ⟨3, ![8, 512, 512]⟩
abbrev S8x512x128 : Shape := ⟨3, ![8, 512, 128]⟩
abbrev S4x512x256 : Shape := ⟨3, ![4, 512, 256]⟩
abbrev S2x512x512 : Shape := ⟨3, ![2, 512, 512]⟩
abbrev S1x128 : Shape := ⟨2, ![1, 128]⟩
abbrev S512x128 : Shape := ⟨2, ![512, 128]⟩
abbrev S512x512 : Shape := ⟨2, ![512, 512]⟩
abbrev S1x512x512 : Shape := ⟨3, ![1, 512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S1024x256 : Shape := ⟨2, ![1024, 256]⟩
abbrev S512x1024 : Shape := ⟨2, ![512, 1024]⟩

abbrev nBuf : Space → Nat
  | .hbm => 27
  | .vmem => 13
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x32, .f32⟩
  | .hbm, ⟨2, _⟩ => ⟨S32x2048x8x64, .f32⟩
  | .hbm, ⟨3, _⟩ => ⟨S32x2048x32, .f32⟩
  | .hbm, ⟨4, _⟩ => ⟨S32x2048x8x64, .f32⟩
  | .hbm, ⟨5, _⟩ => ⟨S_, .f32⟩
  | .hbm, ⟨6, _⟩ => ⟨S32x2048x8x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x2048x8x128, .f32⟩
  | .hbm, ⟨15, _⟩ => ⟨S32x2048x8x128, .f32⟩
  | .hbm, ⟨16, _⟩ => ⟨S32x2048x8x128, .f32⟩
  | .hbm, ⟨17, _⟩ => ⟨S32x2048x1x32, .f32⟩
  | .hbm, ⟨18, _⟩ => ⟨S32x2048x8x32, .f32⟩
  | .hbm, ⟨19, _⟩ => ⟨S32x2048x8x128, .f32⟩
  | .hbm, ⟨20, _⟩ => ⟨S32x2048x1024, .f32⟩
  | .hbm, ⟨21, _⟩ => ⟨S32x2048x1024, .bf16⟩
  | .hbm, ⟨22, _⟩ => ⟨S32x2048x1024, .f32⟩
  | .hbm, ⟨23, _⟩ => ⟨S32x2048x1024, .bf16⟩
  | .hbm, ⟨24, _⟩ => ⟨S32x2048x512, .f32⟩
  | .hbm, ⟨25, _⟩ => ⟨S32x2048x512, .bf16⟩
  | .hbm, ⟨26, _⟩ => ⟨S32x2048x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S8x512x512, .f32⟩
  | .local _ .vmem, ⟨9, _⟩ => ⟨S8x512x128, .f32⟩
  | .local _ .vmem, ⟨10, _⟩ => ⟨S8x512x128, .f32⟩
  | .local _ .vmem, ⟨11, _⟩ => ⟨S4x512x256, .f32⟩
  | .local _ .vmem, ⟨12, _⟩ => ⟨S2x512x512, .f32⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def k0_mult1 : BitVec 32 :=
  let c0_i32_7 : BitVec 32 := 0#32
  c0_i32_7
def k0_mult2 : BitVec 32 :=
  let c0_i32_12 : BitVec 32 := 0#32
  c0_i32_12
def k0_off1 : Fin 3 → Nat :=
  let v_true : BitVec 1 := 1#1
  let c1_i32 : BitVec 32 := 1#32
  let c0_i32_13 : BitVec 32 := 0#32
  let v43 : BitVec 32 := Scalar.select v_true c1_i32 c0_i32_13
  let v44 : Index := Scalar.indexCast v43
  let c0_14 : Index := 0#32
  let c0_15 : Index := 0#32
  ![v44.toNat, 0, 0]
@[reducible] def k0_t1_loop : Scf.Loop 32 :=
  let c0_i32_83 : BitVec 32 := 0#32
  let c9_i32 : BitVec 32 := 9#32
  let v163 : BitVec 32 := Scalar.addi c0_i32_83 c9_i32
  let c1_i32_84 : BitVec 32 := 1#32
  ⟨c0_i32_83, v163, c1_i32_84⟩
def k0_mult3 (arg13 : BitVec 32) : BitVec 32 :=
  let c512_i32 : BitVec 32 := 512#32
  let v461 : BitVec 32 := Scalar.muli arg13 c512_i32
  v461

def k0_off2 (arg13 : BitVec 32) : Fin 3 → Nat :=
  let c0_248 : Index := 0#32
  let c512_i32 : BitVec 32 := 512#32
  let v461 : BitVec 32 := Scalar.muli arg13 c512_i32
  let v462 : BitVec 32 := v461
  let v465 : Index := Scalar.indexCast v462
  let c0_249 : Index := 0#32
  ![0, v465.toNat, 0]
def k0_off3 (arg13 : BitVec 32) : Fin 3 → Nat :=
  let c0_282 : Index := 0#32
  let c512_i32 : BitVec 32 := 512#32
  let v461 : BitVec 32 := Scalar.muli arg13 c512_i32
  let v462 : BitVec 32 := v461
  let v527 : Index := Scalar.indexCast v462
  let c128_283 : Index := 128#32
  ![0, v527.toNat, 128]
def k0_off4 (arg13 : BitVec 32) : Fin 3 → Nat :=
  let c0_316 : Index := 0#32
  let c512_i32 : BitVec 32 := 512#32
  let v461 : BitVec 32 := Scalar.muli arg13 c512_i32
  let v462 : BitVec 32 := v461
  let v589 : Index := Scalar.indexCast v462
  let c256_317 : Index := 256#32
  ![0, v589.toNat, 256]
def k0_off5 (arg13 : BitVec 32) : Fin 3 → Nat :=
  let c0_350 : Index := 0#32
  let c512_i32 : BitVec 32 := 512#32
  let v461 : BitVec 32 := Scalar.muli arg13 c512_i32
  let v462 : BitVec 32 := v461
  let v651 : Index := Scalar.indexCast v462
  let c384_351 : Index := 384#32
  ![0, v651.toNat, 384]
def k0_mult4 (arg12 : BitVec 32) (arg13 : BitVec 32) : BitVec 32 :=
  let v456 : BitVec 1 := Scalar.cmpi .eq arg13 arg12
  let c1_i32_242 : BitVec 32 := 1#32
  let v457 : BitVec 32 := Scalar.addi arg12 c1_i32_242
  let v458 : BitVec 32 := Scalar.select v456 v457 arg12
  let c512_i32_384 : BitVec 32 := 512#32
  let v713 : BitVec 32 := Scalar.muli v458 c512_i32_384
  v713
def k0_off6 (arg12 : BitVec 32) (arg13 : BitVec 32) : Fin 3 → Nat :=
  let c0_385 : Index := 0#32
  let v456 : BitVec 1 := Scalar.cmpi .eq arg13 arg12
  let c1_i32_242 : BitVec 32 := 1#32
  let v457 : BitVec 32 := Scalar.addi arg12 c1_i32_242
  let v458 : BitVec 32 := Scalar.select v456 v457 arg12
  let c512_i32_384 : BitVec 32 := 512#32
  let v713 : BitVec 32 := Scalar.muli v458 c512_i32_384
  let v714 : BitVec 32 := v713
  let v715 : Index := Scalar.indexCast v714
  let c0_386 : Index := 0#32
  ![0, v715.toNat, 0]
def k0_off7 (arg12 : BitVec 32) (arg13 : BitVec 32) : Fin 3 → Nat :=
  let c0_387 : Index := 0#32
  let v456 : BitVec 1 := Scalar.cmpi .eq arg13 arg12
  let c1_i32_242 : BitVec 32 := 1#32
  let v457 : BitVec 32 := Scalar.addi arg12 c1_i32_242
  let v458 : BitVec 32 := Scalar.select v456 v457 arg12
  let c512_i32_384 : BitVec 32 := 512#32
  let v713 : BitVec 32 := Scalar.muli v458 c512_i32_384
  let v714 : BitVec 32 := v713
  let v720 : Index := Scalar.indexCast v714
  let c256_388 : Index := 256#32
  ![0, v720.toNat, 256]
def k0_off8 (arg12 : BitVec 32) (arg13 : BitVec 32) : Fin 3 → Nat :=
  let c0_389 : Index := 0#32
  let v456 : BitVec 1 := Scalar.cmpi .eq arg13 arg12
  let c1_i32_242 : BitVec 32 := 1#32
  let v457 : BitVec 32 := Scalar.addi arg12 c1_i32_242
  let v458 : BitVec 32 := Scalar.select v456 v457 arg12
  let c512_i32_384 : BitVec 32 := 512#32
  let v713 : BitVec 32 := Scalar.muli v458 c512_i32_384
  let v714 : BitVec 32 := v713
  let v725 : Index := Scalar.indexCast v714
  let c512_390 : Index := 512#32
  ![0, v725.toNat, 512]
def k0_off9 (arg12 : BitVec 32) (arg13 : BitVec 32) : Fin 3 → Nat :=
  let c0_391 : Index := 0#32
  let v456 : BitVec 1 := Scalar.cmpi .eq arg13 arg12
  let c1_i32_242 : BitVec 32 := 1#32
  let v457 : BitVec 32 := Scalar.addi arg12 c1_i32_242
  let v458 : BitVec 32 := Scalar.select v456 v457 arg12
  let c512_i32_384 : BitVec 32 := 512#32
  let v713 : BitVec 32 := Scalar.muli v458 c512_i32_384
  let v714 : BitVec 32 := v713
  let v730 : Index := Scalar.indexCast v714
  let c768_392 : Index := 768#32
  ![0, v730.toNat, 768]
def k0_mult5 (arg12 : BitVec 32) (arg13 : BitVec 32) : BitVec 32 :=
  let v456 : BitVec 1 := Scalar.cmpi .eq arg13 arg12
  let c0_i32_244 : BitVec 32 := 0#32
  let c1_i32_243 : BitVec 32 := 1#32
  let v459 : BitVec 32 := Scalar.addi arg13 c1_i32_243
  let v460 : BitVec 32 := Scalar.select v456 c0_i32_244 v459
  let c512_i32_393 : BitVec 32 := 512#32
  let v735 : BitVec 32 := Scalar.muli v460 c512_i32_393
  v735
def k0_off10 (arg12 : BitVec 32) (arg13 : BitVec 32) : Fin 3 → Nat :=
  let v456 : BitVec 1 := Scalar.cmpi .eq arg13 arg12
  let c0_i32_244 : BitVec 32 := 0#32
  let c1_i32_243 : BitVec 32 := 1#32
  let v459 : BitVec 32 := Scalar.addi arg13 c1_i32_243
  let v460 : BitVec 32 := Scalar.select v456 c0_i32_244 v459
  let c1_i32_242 : BitVec 32 := 1#32
  let v457 : BitVec 32 := Scalar.addi arg12 c1_i32_242
  let v458 : BitVec 32 := Scalar.select v456 v457 arg12
  let v737 : BitVec 1 := Scalar.cmpi .eq v460 v458
  let c1_i32_394 : BitVec 32 := 1#32
  let c0_i32_395 : BitVec 32 := 0#32
  let v738 : BitVec 32 := Scalar.select v737 c1_i32_394 c0_i32_395
  let v739 : Index := Scalar.indexCast v738
  let c0_396 : Index := 0#32
  let c0_397 : Index := 0#32
  ![v739.toNat, 0, 0]
def k0_off11 (arg12 : BitVec 32) (arg13 : BitVec 32) : Fin 3 → Nat :=
  let c0_398 : Index := 0#32
  let v456 : BitVec 1 := Scalar.cmpi .eq arg13 arg12
  let c0_i32_244 : BitVec 32 := 0#32
  let c1_i32_243 : BitVec 32 := 1#32
  let v459 : BitVec 32 := Scalar.addi arg13 c1_i32_243
  let v460 : BitVec 32 := Scalar.select v456 c0_i32_244 v459
  let c512_i32_393 : BitVec 32 := 512#32
  let v735 : BitVec 32 := Scalar.muli v460 c512_i32_393
  let v736 : BitVec 32 := v735
  let v742 : Index := Scalar.indexCast v736
  let c0_399 : Index := 0#32
  ![0, v742.toNat, 0]
def k0_off12 (arg12 : BitVec 32) (arg13 : BitVec 32) : Fin 3 → Nat :=
  let c0_416 : Index := 0#32
  let v456 : BitVec 1 := Scalar.cmpi .eq arg13 arg12
  let c0_i32_244 : BitVec 32 := 0#32
  let c1_i32_243 : BitVec 32 := 1#32
  let v459 : BitVec 32 := Scalar.addi arg13 c1_i32_243
  let v460 : BitVec 32 := Scalar.select v456 c0_i32_244 v459
  let c512_i32_393 : BitVec 32 := 512#32
  let v735 : BitVec 32 := Scalar.muli v460 c512_i32_393
  let v736 : BitVec 32 := v735
  let v771 : Index := Scalar.indexCast v736
  let c256_417 : Index := 256#32
  ![0, v771.toNat, 256]
def k0_off13 (arg12 : BitVec 32) (arg13 : BitVec 32) : Fin 3 → Nat :=
  let c0_434 : Index := 0#32
  let v456 : BitVec 1 := Scalar.cmpi .eq arg13 arg12
  let c0_i32_244 : BitVec 32 := 0#32
  let c1_i32_243 : BitVec 32 := 1#32
  let v459 : BitVec 32 := Scalar.addi arg13 c1_i32_243
  let v460 : BitVec 32 := Scalar.select v456 c0_i32_244 v459
  let c512_i32_393 : BitVec 32 := 512#32
  let v735 : BitVec 32 := Scalar.muli v460 c512_i32_393
  let v736 : BitVec 32 := v735
  let v800 : Index := Scalar.indexCast v736
  let c512_435 : Index := 512#32
  ![0, v800.toNat, 512]
def k0_off14 (arg12 : BitVec 32) (arg13 : BitVec 32) : Fin 3 → Nat :=
  let c0_452 : Index := 0#32
  let v456 : BitVec 1 := Scalar.cmpi .eq arg13 arg12
  let c0_i32_244 : BitVec 32 := 0#32
  let c1_i32_243 : BitVec 32 := 1#32
  let v459 : BitVec 32 := Scalar.addi arg13 c1_i32_243
  let v460 : BitVec 32 := Scalar.select v456 c0_i32_244 v459
  let c512_i32_393 : BitVec 32 := 512#32
  let v735 : BitVec 32 := Scalar.muli v460 c512_i32_393
  let v736 : BitVec 32 := v735
  let v829 : Index := Scalar.indexCast v736
  let c768_453 : Index := 768#32
  ![0, v829.toNat, 768]
def k0_mult6 (arg12 : BitVec 32) : BitVec 32 :=
  let c512_i32_471 : BitVec 32 := 512#32
  let v860 : BitVec 32 := Scalar.muli arg12 c512_i32_471
  v860
def k0_cond2 (arg12 : BitVec 32) (arg13 : BitVec 32) : BitVec 1 :=
  let v456 : BitVec 1 := Scalar.cmpi .eq arg13 arg12
  let v858 : BitVec 32 := Scalar.extui v456
  let c0_i32_470 : BitVec 32 := 0#32
  let v859 : BitVec 1 := Scalar.cmpi .ne v858 c0_i32_470
  v859

def k0_off15 (arg12 : BitVec 32) : Fin 3 → Nat :=
  let c0_475 : Index := 0#32
  let c512_i32_471 : BitVec 32 := 512#32
  let v860 : BitVec 32 := Scalar.muli arg12 c512_i32_471
  let v861 : BitVec 32 := v860
  let v868 : Index := Scalar.indexCast v861
  let c0_476 : Index := 0#32
  ![0, v868.toNat, 0]
def k0_off16 (arg12 : BitVec 32) : Fin 3 → Nat :=
  let c0_480 : Index := 0#32
  let c512_i32_471 : BitVec 32 := 512#32
  let v860 : BitVec 32 := Scalar.muli arg12 c512_i32_471
  let v861 : BitVec 32 := v860
  let v878 : Index := Scalar.indexCast v861
  let c128_481 : Index := 128#32
  ![0, v878.toNat, 128]
def k0_off17 (arg12 : BitVec 32) : Fin 3 → Nat :=
  let c0_485 : Index := 0#32
  let c512_i32_471 : BitVec 32 := 512#32
  let v860 : BitVec 32 := Scalar.muli arg12 c512_i32_471
  let v861 : BitVec 32 := v860
  let v888 : Index := Scalar.indexCast v861
  let c256_486 : Index := 256#32
  ![0, v888.toNat, 256]
def k0_off18 (arg12 : BitVec 32) : Fin 3 → Nat :=
  let c0_490 : Index := 0#32
  let c512_i32_471 : BitVec 32 := 512#32
  let v860 : BitVec 32 := Scalar.muli arg12 c512_i32_471
  let v861 : BitVec 32 := v860
  let v898 : Index := Scalar.indexCast v861
  let c384_491 : Index := 384#32
  ![0, v898.toNat, 384]

def k0_chk1 (arg12 : BitVec 32) (arg13 : BitVec 32) : Prop :=
  (512 ∣ (k0_mult3 arg13).toNat) ∧
  (∀ a, (k0_off2 arg13) a + S1x512x128.size a ≤ S1x2048x512.size a) ∧
  (∀ a, (k0_off3 arg13) a + S1x512x128.size a ≤ S1x2048x512.size a) ∧
  (∀ a, (k0_off4 arg13) a + S1x512x128.size a ≤ S1x2048x512.size a) ∧
  (∀ a, (k0_off5 arg13) a + S1x512x128.size a ≤ S1x2048x512.size a) ∧
  (512 ∣ (k0_mult4 arg12 arg13).toNat) ∧
  (∀ a, (k0_off6 arg12 arg13) a + S1x512x256.size a ≤ S1x2048x1024.size a) ∧
  (∀ a, (k0_off7 arg12 arg13) a + S1x512x256.size a ≤ S1x2048x1024.size a) ∧
  (∀ a, (k0_off8 arg12 arg13) a + S1x512x256.size a ≤ S1x2048x1024.size a) ∧
  (∀ a, (k0_off9 arg12 arg13) a + S1x512x256.size a ≤ S1x2048x1024.size a) ∧
  (512 ∣ (k0_mult5 arg12 arg13).toNat) ∧
  (∀ a, (k0_off10 arg12 arg13) a + S1x512x512.size a ≤ S2x512x512.size a) ∧
  (∀ a, (k0_off11 arg12 arg13) a + S1x512x256.size a ≤ S1x2048x1024.size a) ∧
  (∀ a, (k0_off12 arg12 arg13) a + S1x512x256.size a ≤ S1x2048x1024.size a) ∧
  (∀ a, (k0_off13 arg12 arg13) a + S1x512x256.size a ≤ S1x2048x1024.size a) ∧
  (∀ a, (k0_off14 arg12 arg13) a + S1x512x256.size a ≤ S1x2048x1024.size a) ∧
  (∀ (k0_h2 : k0_cond2 arg12 arg13 = 1#1), 512 ∣ (k0_mult6 arg12).toNat) ∧
  (∀ (k0_h2 : k0_cond2 arg12 arg13 = 1#1), ∀ a, (k0_off15 arg12) a + S1x512x128.size a ≤ S1x2048x512.size a) ∧
  (∀ (k0_h2 : k0_cond2 arg12 arg13 = 1#1), ∀ (hinb : ∀ a, (k0_off15 arg12) a + S1x512x128.size a ≤ S1x2048x512.size a), (Rect.unit (s := S1x2048x512) (k0_off15 arg12) S1x512x128.size hinb).PackedRows (EltTy.packing .bf16)) ∧
  (∀ (k0_h2 : k0_cond2 arg12 arg13 = 1#1), ∀ a, (k0_off16 arg12) a + S1x512x128.size a ≤ S1x2048x512.size a) ∧
  (∀ (k0_h2 : k0_cond2 arg12 arg13 = 1#1), ∀ (hinb : ∀ a, (k0_off16 arg12) a + S1x512x128.size a ≤ S1x2048x512.size a), (Rect.unit (s := S1x2048x512) (k0_off16 arg12) S1x512x128.size hinb).PackedRows (EltTy.packing .bf16)) ∧
  (∀ (k0_h2 : k0_cond2 arg12 arg13 = 1#1), ∀ a, (k0_off17 arg12) a + S1x512x128.size a ≤ S1x2048x512.size a) ∧
  (∀ (k0_h2 : k0_cond2 arg12 arg13 = 1#1), ∀ (hinb : ∀ a, (k0_off17 arg12) a + S1x512x128.size a ≤ S1x2048x512.size a), (Rect.unit (s := S1x2048x512) (k0_off17 arg12) S1x512x128.size hinb).PackedRows (EltTy.packing .bf16)) ∧
  (∀ (k0_h2 : k0_cond2 arg12 arg13 = 1#1), ∀ a, (k0_off18 arg12) a + S1x512x128.size a ≤ S1x2048x512.size a) ∧
  (∀ (k0_h2 : k0_cond2 arg12 arg13 = 1#1), ∀ (hinb : ∀ a, (k0_off18 arg12) a + S1x512x128.size a ≤ S1x2048x512.size a), (Rect.unit (s := S1x2048x512) (k0_off18 arg12) S1x512x128.size hinb).PackedRows (EltTy.packing .bf16))
theorem k0_mult3_dvd : ∀ (arg12 : BitVec 32) (arg13 : BitVec 32) (k0_hw1 : k0_chk1 arg12 arg13), 512 ∣ (k0_mult3 arg13).toNat := fun arg12 arg13 k0_hw1 => k0_hw1.1
theorem k0_off2_inb : ∀ (arg12 : BitVec 32) (arg13 : BitVec 32) (k0_hw1 : k0_chk1 arg12 arg13), ∀ a, (k0_off2 arg13) a + S1x512x128.size a ≤ S1x2048x512.size a := fun arg12 arg13 k0_hw1 => k0_hw1.2.1
theorem k0_off3_inb : ∀ (arg12 : BitVec 32) (arg13 : BitVec 32) (k0_hw1 : k0_chk1 arg12 arg13), ∀ a, (k0_off3 arg13) a + S1x512x128.size a ≤ S1x2048x512.size a := fun arg12 arg13 k0_hw1 => k0_hw1.2.2.1
theorem k0_off4_inb : ∀ (arg12 : BitVec 32) (arg13 : BitVec 32) (k0_hw1 : k0_chk1 arg12 arg13), ∀ a, (k0_off4 arg13) a + S1x512x128.size a ≤ S1x2048x512.size a := fun arg12 arg13 k0_hw1 => k0_hw1.2.2.2.1
theorem k0_off5_inb : ∀ (arg12 : BitVec 32) (arg13 : BitVec 32) (k0_hw1 : k0_chk1 arg12 arg13), ∀ a, (k0_off5 arg13) a + S1x512x128.size a ≤ S1x2048x512.size a := fun arg12 arg13 k0_hw1 => k0_hw1.2.2.2.2.1
theorem k0_mult4_dvd : ∀ (arg12 : BitVec 32) (arg13 : BitVec 32) (k0_hw1 : k0_chk1 arg12 arg13), 512 ∣ (k0_mult4 arg12 arg13).toNat := fun arg12 arg13 k0_hw1 => k0_hw1.2.2.2.2.2.1
theorem k0_off6_inb : ∀ (arg12 : BitVec 32) (arg13 : BitVec 32) (k0_hw1 : k0_chk1 arg12 arg13), ∀ a, (k0_off6 arg12 arg13) a + S1x512x256.size a ≤ S1x2048x1024.size a := fun arg12 arg13 k0_hw1 => k0_hw1.2.2.2.2.2.2.1
theorem k0_off7_inb : ∀ (arg12 : BitVec 32) (arg13 : BitVec 32) (k0_hw1 : k0_chk1 arg12 arg13), ∀ a, (k0_off7 arg12 arg13) a + S1x512x256.size a ≤ S1x2048x1024.size a := fun arg12 arg13 k0_hw1 => k0_hw1.2.2.2.2.2.2.2.1
theorem k0_off8_inb : ∀ (arg12 : BitVec 32) (arg13 : BitVec 32) (k0_hw1 : k0_chk1 arg12 arg13), ∀ a, (k0_off8 arg12 arg13) a + S1x512x256.size a ≤ S1x2048x1024.size a := fun arg12 arg13 k0_hw1 => k0_hw1.2.2.2.2.2.2.2.2.1
theorem k0_off9_inb : ∀ (arg12 : BitVec 32) (arg13 : BitVec 32) (k0_hw1 : k0_chk1 arg12 arg13), ∀ a, (k0_off9 arg12 arg13) a + S1x512x256.size a ≤ S1x2048x1024.size a := fun arg12 arg13 k0_hw1 => k0_hw1.2.2.2.2.2.2.2.2.2.1
theorem k0_mult5_dvd : ∀ (arg12 : BitVec 32) (arg13 : BitVec 32) (k0_hw1 : k0_chk1 arg12 arg13), 512 ∣ (k0_mult5 arg12 arg13).toNat := fun arg12 arg13 k0_hw1 => k0_hw1.2.2.2.2.2.2.2.2.2.2.1
theorem k0_off10_inb : ∀ (arg12 : BitVec 32) (arg13 : BitVec 32) (k0_hw1 : k0_chk1 arg12 arg13), ∀ a, (k0_off10 arg12 arg13) a + S1x512x512.size a ≤ S2x512x512.size a := fun arg12 arg13 k0_hw1 => k0_hw1.2.2.2.2.2.2.2.2.2.2.2.1
theorem k0_off11_inb : ∀ (arg12 : BitVec 32) (arg13 : BitVec 32) (k0_hw1 : k0_chk1 arg12 arg13), ∀ a, (k0_off11 arg12 arg13) a + S1x512x256.size a ≤ S1x2048x1024.size a := fun arg12 arg13 k0_hw1 => k0_hw1.2.2.2.2.2.2.2.2.2.2.2.2.1
theorem k0_off12_inb : ∀ (arg12 : BitVec 32) (arg13 : BitVec 32) (k0_hw1 : k0_chk1 arg12 arg13), ∀ a, (k0_off12 arg12 arg13) a + S1x512x256.size a ≤ S1x2048x1024.size a := fun arg12 arg13 k0_hw1 => k0_hw1.2.2.2.2.2.2.2.2.2.2.2.2.2.1
theorem k0_off13_inb : ∀ (arg12 : BitVec 32) (arg13 : BitVec 32) (k0_hw1 : k0_chk1 arg12 arg13), ∀ a, (k0_off13 arg12 arg13) a + S1x512x256.size a ≤ S1x2048x1024.size a := fun arg12 arg13 k0_hw1 => k0_hw1.2.2.2.2.2.2.2.2.2.2.2.2.2.2.1
theorem k0_off14_inb : ∀ (arg12 : BitVec 32) (arg13 : BitVec 32) (k0_hw1 : k0_chk1 arg12 arg13), ∀ a, (k0_off14 arg12 arg13) a + S1x512x256.size a ≤ S1x2048x1024.size a := fun arg12 arg13 k0_hw1 => k0_hw1.2.2.2.2.2.2.2.2.2.2.2.2.2.2.2.1
theorem k0_mult6_dvd : ∀ (arg12 : BitVec 32) (arg13 : BitVec 32) (k0_hw1 : k0_chk1 arg12 arg13), ∀ (k0_h2 : k0_cond2 arg12 arg13 = 1#1), 512 ∣ (k0_mult6 arg12).toNat := fun arg12 arg13 k0_hw1 k0_h2 => k0_hw1.2.2.2.2.2.2.2.2.2.2.2.2.2.2.2.2.1 k0_h2
theorem k0_off15_inb : ∀ (arg12 : BitVec 32) (arg13 : BitVec 32) (k0_hw1 : k0_chk1 arg12 arg13), ∀ (k0_h2 : k0_cond2 arg12 arg13 = 1#1), ∀ a, (k0_off15 arg12) a + S1x512x128.size a ≤ S1x2048x512.size a := fun arg12 arg13 k0_hw1 k0_h2 => k0_hw1.2.2.2.2.2.2.2.2.2.2.2.2.2.2.2.2.2.1 k0_h2
theorem k0_off15_packedbf16 : ∀ (arg12 : BitVec 32) (arg13 : BitVec 32) (k0_hw1 : k0_chk1 arg12 arg13), ∀ (k0_h2 : k0_cond2 arg12 arg13 = 1#1), (Rect.unit (s := S1x2048x512) (k0_off15 arg12) S1x512x128.size (k0_off15_inb arg12 arg13 k0_hw1 k0_h2)).PackedRows (EltTy.packing .bf16) := fun arg12 arg13 k0_hw1 k0_h2 => k0_hw1.2.2.2.2.2.2.2.2.2.2.2.2.2.2.2.2.2.2.1 k0_h2 (k0_off15_inb arg12 arg13 k0_hw1 k0_h2)
theorem k0_off16_inb : ∀ (arg12 : BitVec 32) (arg13 : BitVec 32) (k0_hw1 : k0_chk1 arg12 arg13), ∀ (k0_h2 : k0_cond2 arg12 arg13 = 1#1), ∀ a, (k0_off16 arg12) a + S1x512x128.size a ≤ S1x2048x512.size a := fun arg12 arg13 k0_hw1 k0_h2 => k0_hw1.2.2.2.2.2.2.2.2.2.2.2.2.2.2.2.2.2.2.2.1 k0_h2
theorem k0_off16_packedbf16 : ∀ (arg12 : BitVec 32) (arg13 : BitVec 32) (k0_hw1 : k0_chk1 arg12 arg13), ∀ (k0_h2 : k0_cond2 arg12 arg13 = 1#1), (Rect.unit (s := S1x2048x512) (k0_off16 arg12) S1x512x128.size (k0_off16_inb arg12 arg13 k0_hw1 k0_h2)).PackedRows (EltTy.packing .bf16) := fun arg12 arg13 k0_hw1 k0_h2 => k0_hw1.2.2.2.2.2.2.2.2.2.2.2.2.2.2.2.2.2.2.2.2.1 k0_h2 (k0_off16_inb arg12 arg13 k0_hw1 k0_h2)
theorem k0_off17_inb : ∀ (arg12 : BitVec 32) (arg13 : BitVec 32) (k0_hw1 : k0_chk1 arg12 arg13), ∀ (k0_h2 : k0_cond2 arg12 arg13 = 1#1), ∀ a, (k0_off17 arg12) a + S1x512x128.size a ≤ S1x2048x512.size a := fun arg12 arg13 k0_hw1 k0_h2 => k0_hw1.2.2.2.2.2.2.2.2.2.2.2.2.2.2.2.2.2.2.2.2.2.1 k0_h2
theorem k0_off17_packedbf16 : ∀ (arg12 : BitVec 32) (arg13 : BitVec 32) (k0_hw1 : k0_chk1 arg12 arg13), ∀ (k0_h2 : k0_cond2 arg12 arg13 = 1#1), (Rect.unit (s := S1x2048x512) (k0_off17 arg12) S1x512x128.size (k0_off17_inb arg12 arg13 k0_hw1 k0_h2)).PackedRows (EltTy.packing .bf16) := fun arg12 arg13 k0_hw1 k0_h2 => k0_hw1.2.2.2.2.2.2.2.2.2.2.2.2.2.2.2.2.2.2.2.2.2.2.1 k0_h2 (k0_off17_inb arg12 arg13 k0_hw1 k0_h2)
theorem k0_off18_inb : ∀ (arg12 : BitVec 32) (arg13 : BitVec 32) (k0_hw1 : k0_chk1 arg12 arg13), ∀ (k0_h2 : k0_cond2 arg12 arg13 = 1#1), ∀ a, (k0_off18 arg12) a + S1x512x128.size a ≤ S1x2048x512.size a := fun arg12 arg13 k0_hw1 k0_h2 => k0_hw1.2.2.2.2.2.2.2.2.2.2.2.2.2.2.2.2.2.2.2.2.2.2.2.1 k0_h2
theorem k0_off18_packedbf16 : ∀ (arg12 : BitVec 32) (arg13 : BitVec 32) (k0_hw1 : k0_chk1 arg12 arg13), ∀ (k0_h2 : k0_cond2 arg12 arg13 = 1#1), (Rect.unit (s := S1x2048x512) (k0_off18 arg12) S1x512x128.size (k0_off18_inb arg12 arg13 k0_hw1 k0_h2)).PackedRows (EltTy.packing .bf16) := fun arg12 arg13 k0_hw1 k0_h2 => k0_hw1.2.2.2.2.2.2.2.2.2.2.2.2.2.2.2.2.2.2.2.2.2.2.2.2 k0_h2 (k0_off18_inb arg12 arg13 k0_hw1 k0_h2)

def k0_mult7 : BitVec 32 :=
  let c1536_i32 : BitVec 32 := 1536#32
  c1536_i32
def k0_mult8 : BitVec 32 :=
  let c1536_i32_221 : BitVec 32 := 1536#32
  c1536_i32_221
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "uncapped" => some ⊤
  | _ => none
-- ==== ReferenceIdeal.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S_ : Shape := ⟨0, ![]⟩
abbrev S32x8x2048x2048 : Shape := ⟨4, ![32, 8, 2048, 2048]⟩
abbrev S32x2048x2048x8 : Shape := ⟨4, ![32, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x512 : Shape := ⟨3, ![32, 2048, 512]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x32, .f32⟩
  | .hbm, ⟨2, _⟩ => ⟨S32x2048x8x64, .f32⟩
  | .hbm, ⟨3, _⟩ => ⟨S32x2048x32, .f32⟩
  | .hbm, ⟨4, _⟩ => ⟨S32x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x8x2048x2048, .f32⟩
  | .hbm, ⟨10, _⟩ => ⟨S32x2048x2048x8, .f32⟩
  | .hbm, ⟨11, _⟩ => ⟨S32x8x2048x2048, .f32⟩
  | .hbm, ⟨12, _⟩ => ⟨S32x8x2048x2048, .f32⟩
  | .hbm, ⟨13, _⟩ => ⟨S32x8x2048x2048, .f32⟩
  | .hbm, ⟨14, _⟩ => ⟨S32x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S32x8x2048x2048, .i1⟩
  | .hbm, ⟨24, _⟩ => ⟨S32x8x2048x2048, .f32⟩
  | .hbm, ⟨25, _⟩ => ⟨S32x8x2048x2048, .f32⟩
  | .hbm, ⟨26, _⟩ => ⟨S_, .f32⟩
  | .hbm, ⟨27, _⟩ => ⟨S32x8x2048, .f32⟩
  | .hbm, ⟨28, _⟩ => ⟨S_, .f32⟩
  | .hbm, ⟨29, _⟩ => ⟨S32x8x2048, .f32⟩
  | .hbm, ⟨30, _⟩ => ⟨S32x8x2048, .f32⟩
  | .hbm, ⟨31, _⟩ => ⟨S32x8x2048x1, .f32⟩
  | .hbm, ⟨32, _⟩ => ⟨S32x8x2048x2048, .f32⟩
  | .hbm, ⟨33, _⟩ => ⟨S32x8x2048x2048, .f32⟩
  | .hbm, ⟨34, _⟩ => ⟨S32x8x2048x2048, .f32⟩
  | .hbm, ⟨35, _⟩ => ⟨S_, .f32⟩
  | .hbm, ⟨36, _⟩ => ⟨S32x8x2048, .f32⟩
  | .hbm, ⟨37, _⟩ => ⟨S32x8x2048x1, .f32⟩
  | .hbm, ⟨38, _⟩ => ⟨S32x8x2048x2048, .f32⟩
  | .hbm, ⟨39, _⟩ => ⟨S32x8x2048x2048, .f32⟩
  | .hbm, ⟨40, _⟩ => ⟨S32x8x64x2048, .f32⟩
  | .hbm, ⟨41, _⟩ => ⟨S32x2048x8x64, .f32⟩
  | .hbm, ⟨42, _⟩ => ⟨S32x2048x512, .f32⟩
  | .hbm, ⟨43, _⟩ => ⟨S32x2048x512, .bf16⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel2.lean ====
abbrev S32x2048x512 : Shape := ⟨3, ![32, 2048, 512]⟩
abbrev S1024x1024 : Shape := ⟨2, ![1024, 1024]⟩
abbrev S32x2048x1024 : Shape := ⟨3, ![32, 2048, 1024]⟩
abbrev S1024 : Shape := ⟨1, ![1024]⟩
abbrev S1024x4096 : Shape := ⟨2, ![1024, 4096]⟩
abbrev S4096x1024 : Shape := ⟨2, ![4096, 1024]⟩
abbrev S4x32x2048x256 : Shape := ⟨4, ![4, 32, 2048, 256]⟩
abbrev S256x1024 : Shape := ⟨2, ![256, 1024]⟩
abbrev S65536x512 : Shape := ⟨2, ![65536, 512]⟩
abbrev S512x1024 : Shape := ⟨2, ![512, 1024]⟩
abbrev S65536x1024 : Shape := ⟨2, ![65536, 1024]⟩
abbrev S1x1024 : Shape := ⟨2, ![1, 1024]⟩
abbrev S4x65536x256 : Shape := ⟨3, ![4, 65536, 256]⟩
abbrev S512x512 : Shape := ⟨2, ![512, 512]⟩
abbrev S1x512x256 : Shape := ⟨3, ![1, 512, 256]⟩
abbrev S256x512 : Shape := ⟨2, ![256, 512]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 32
  | .vmem => 21
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S1024x1024, .f32⟩
  | .hbm, ⟨3, _⟩ => ⟨S32x2048x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x32x2048x256, .f32⟩
  | .hbm, ⟨13, _⟩ => ⟨S256x1024, .f32⟩
  | .hbm, ⟨14, _⟩ => ⟨S65536x512, .bf16⟩
  | .hbm, ⟨15, _⟩ => ⟨S65536x512, .bf16⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S65536x1024, .f32⟩
  | .hbm, ⟨21, _⟩ => ⟨S1x1024, .f32⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S1024x1024, .bf16⟩
  | .hbm, ⟨28, _⟩ => ⟨S1x1024, .f32⟩
  | .hbm, ⟨29, _⟩ => ⟨S4x65536x256, .f32⟩
  | .hbm, ⟨30, _⟩ => ⟨S256x1024, .bf16⟩
  | .hbm, ⟨31, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1x512x256, .f32⟩
  | .local _ .vmem, ⟨17, _⟩ => ⟨S1x512x256, .f32⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32x2048x512 : Shape := ⟨3, ![32, 2048, 512]⟩
abbrev S1024x1024 : Shape := ⟨2, ![1024, 1024]⟩
abbrev S32x2048x1024 : Shape := ⟨3, ![32, 2048, 1024]⟩
abbrev S1024 : Shape := ⟨1, ![1024]⟩
abbrev S1024x4096 : Shape := ⟨2, ![1024, 4096]⟩
abbrev S4096x1024 : Shape := ⟨2, ![4096, 1024]⟩
abbrev S4x32x2048x256 : Shape := ⟨4, ![4, 32, 2048, 256]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S1x32x2048x256 : Shape := ⟨4, ![1, 32, 2048, 256]⟩
abbrev S32x2048x256 : Shape := ⟨3, ![32, 2048, 256]⟩
abbrev S65536x1024 : Shape := ⟨2, ![65536, 1024]⟩

abbrev nBuf : Space → Nat
  | .hbm => 107
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S1024x1024, .f32⟩
  | .hbm, ⟨3, _⟩ => ⟨S32x2048x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x32x2048x256, .f32⟩
  | .hbm, ⟨13, _⟩ => ⟨S256x1024, .f32⟩
  | .hbm, ⟨14, _⟩ => ⟨S32x2048x1024, .bf16⟩
  | .hbm, ⟨15, _⟩ => ⟨S32x2048x1024, .f32⟩
  | .hbm, ⟨16, _⟩ => ⟨S32x2048x1024, .f32⟩
  | .hbm, ⟨17, _⟩ => ⟨S_, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S32x2048x1024, .f32⟩
  | .hbm, ⟨37, _⟩ => ⟨S32x2048x1024, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1, .f32⟩
  | .hbm, ⟨42, _⟩ => ⟨S32x2048x1024, .f32⟩
  | .hbm, ⟨43, _⟩ => ⟨S32x2048x1024, .f32⟩
  | .hbm, ⟨44, _⟩ => ⟨S1x1x1024, .f32⟩
  | .hbm, ⟨45, _⟩ => ⟨S32x2048x1024, .f32⟩
  | .hbm, ⟨46, _⟩ => ⟨S32x2048x1024, .f32⟩
  | .hbm, ⟨47, _⟩ => ⟨S1x1x1024, .f32⟩
  | .hbm, ⟨48, _⟩ => ⟨S32x2048x1024, .f32⟩
  | .hbm, ⟨49, _⟩ => ⟨S32x2048x1024, .f32⟩
  | .hbm, ⟨50, _⟩ => ⟨S_, .f32⟩
  | .hbm, ⟨51, _⟩ => ⟨S32x2048x1024, .f32⟩
  | .hbm, ⟨52, _⟩ => ⟨S32x2048x1024, .f32⟩
  | .hbm, ⟨53, _⟩ => ⟨S32x2048x4096, .f32⟩
  | .hbm, ⟨54, _⟩ => ⟨S_, .f32⟩
  | .hbm, ⟨55, _⟩ => ⟨S32x2048x4096, .f32⟩
  | .hbm, ⟨56, _⟩ => ⟨S32x2048x4096, .f32⟩
  | .hbm, ⟨57, _⟩ => ⟨S32x2048x4096, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x2048, .f32⟩
  | .hbm, ⟨62, _⟩ => ⟨S32x2048x1, .f32⟩
  | .hbm, ⟨63, _⟩ => ⟨S_, .f32⟩
  | .hbm, ⟨64, _⟩ => ⟨S32x2048x1, .f32⟩
  | .hbm, ⟨65, _⟩ => ⟨S32x2048x1, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S_, .f32⟩
  | .hbm, ⟨70, _⟩ => ⟨S32x2048, .f32⟩
  | .hbm, ⟨71, _⟩ => ⟨S32x2048x1, .f32⟩
  | .hbm, ⟨72, _⟩ => ⟨S_, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S_, .f32⟩
  | .hbm, ⟨78, _⟩ => ⟨S32x2048x1, .f32⟩
  | .hbm, ⟨79, _⟩ => ⟨S32x2048x1, .f32⟩
  | .hbm, ⟨80, _⟩ => ⟨S32x2048x1, .f32⟩
  | .hbm, ⟨81, _⟩ => ⟨S32x2048x1024, .f32⟩
  | .hbm, ⟨82, _⟩ => ⟨S32x2048x1024, .f32⟩
  | .hbm, ⟨83, _⟩ => ⟨S1x1x1024, .f32⟩
  | .hbm, ⟨84, _⟩ => ⟨S32x2048x1024, .f32⟩
  | .hbm, ⟨85, _⟩ => ⟨S32x2048x1024, .f32⟩
  | .hbm, ⟨86, _⟩ => ⟨S1x1x1024, .f32⟩
  | .hbm, ⟨87, _⟩ => ⟨S32x2048x1024, .f32⟩
  | .hbm, ⟨88, _⟩ => ⟨S32x2048x1024, .f32⟩
  | .hbm, ⟨89, _⟩ => ⟨S32x2048x1024, .f32⟩
  | .hbm, ⟨90, _⟩ => ⟨S1x1x1024, .f32⟩
  | .hbm, ⟨91, _⟩ => ⟨S32x2048x1024, .f32⟩
  | .hbm, ⟨92, _⟩ => ⟨S32x2048x1024, .f32⟩
  | .hbm, ⟨93, _⟩ => ⟨S32x2048x1024, .f32⟩
  | .hbm, ⟨94, _⟩ => ⟨S32x2048x1024, .f32⟩
  | .hbm, ⟨95, _⟩ => ⟨S_, .f32⟩
  | .hbm, ⟨96, _⟩ => ⟨S32x2048x1024, .f32⟩
  | .hbm, ⟨97, _⟩ => ⟨S32x2048x1024, .f32⟩
  | .hbm, ⟨98, _⟩ => ⟨S_, .f32⟩
  | .hbm, ⟨99, _⟩ => ⟨S32x2048x1024, .f32⟩
  | .hbm, ⟨100, _⟩ => ⟨S32x2048x1024, .f32⟩
  | .hbm, ⟨101, _⟩ => ⟨S1x32x2048x256, .f32⟩
  | .hbm, ⟨102, _⟩ => ⟨S32x2048x256, .f32⟩
  | .hbm, ⟨103, _⟩ => ⟨S32x2048x1024, .f32⟩
  | .hbm, ⟨104, _⟩ => ⟨S32x2048x1024, .f32⟩
  | .hbm, ⟨105, _⟩ => ⟨S32x2048x1024, .f32⟩
  | .hbm, ⟨106, _⟩ => ⟨S65536x1024, .f32⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call0_cst : Ref sig .tc := ⟨.hbm, 54, rfl⟩
abbrev main_call0_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x32x2048x256 : Shape := ⟨4, ![4, 32, 2048, 256]⟩
abbrev S256x1024 : Shape := ⟨2, ![256, 1024]⟩
abbrev S65536x1024 : Shape := ⟨2, ![65536, 1024]⟩
abbrev S1x1024 : Shape := ⟨2, ![1, 1024]⟩
abbrev S4x65536x256 : Shape := ⟨3, ![4, 65536, 256]⟩
abbrev S512x1024 : Shape := ⟨2, ![512, 1024]⟩
abbrev S1x512x256 : Shape := ⟨3, ![1, 512, 256]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 27
  | .vmem => 18
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .f32⟩
  | .hbm, ⟨2, _⟩ => ⟨S32x2048x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x32x2048x256, .f32⟩
  | .hbm, ⟨12, _⟩ => ⟨S256x1024, .f32⟩
  | .hbm, ⟨13, _⟩ => ⟨S65536x1024, .bf16⟩
  | .hbm, ⟨14, _⟩ => ⟨S1024x1024, .bf16⟩
  | .hbm, ⟨15, _⟩ => ⟨S65536x1024, .f32⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1x1024, .f32⟩
  | .hbm, ⟨24, _⟩ => ⟨S4x65536x256, .f32⟩
  | .hbm, ⟨25, _⟩ => ⟨S256x1024, .bf16⟩
  | .hbm, ⟨26, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x512x256, .f32⟩
  | .local _ .vmem, ⟨14, _⟩ => ⟨S1x512x256, .f32⟩
  | .local _ .vmem, ⟨15, _⟩ => ⟨S256x1024, .bf16⟩
  | .local _ .vmem, ⟨16, _⟩ => ⟨S512x1024, .f32⟩
  | .local _ .vmem, ⟨17, _⟩ => ⟨S512x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32x2048x1024 : Shape := ⟨3, ![32, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x32x2048x256 : Shape := ⟨4, ![4, 32, 2048, 256]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S1x32x2048x256 : Shape := ⟨4, ![1, 32, 2048, 256]⟩
abbrev S32x2048x256 : Shape := ⟨3, ![32, 2048, 256]⟩
abbrev S65536x1024 : Shape := ⟨2, ![65536, 1024]⟩

abbrev nBuf : Space → Nat
  | .hbm => 105
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .f32⟩
  | .hbm, ⟨2, _⟩ => ⟨S32x2048x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x32x2048x256, .f32⟩
  | .hbm, ⟨12, _⟩ => ⟨S256x1024, .f32⟩
  | .hbm, ⟨13, _⟩ => ⟨S32x2048x1024, .f32⟩
  | .hbm, ⟨14, _⟩ => ⟨S32x2048x1024, .f32⟩
  | .hbm, ⟨15, _⟩ => ⟨S_, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x1024, .f32⟩
  | .hbm, ⟨41, _⟩ => ⟨S32x2048x1024, .f32⟩
  | .hbm, ⟨42, _⟩ => ⟨S1x1x1024, .f32⟩
  | .hbm, ⟨43, _⟩ => ⟨S32x2048x1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x2048x1024, .f32⟩
  | .hbm, ⟨50, _⟩ => ⟨S32x2048x1024, .f32⟩
  | .hbm, ⟨51, _⟩ => ⟨S32x2048x4096, .f32⟩
  | .hbm, ⟨52, _⟩ => ⟨S_, .f32⟩
  | .hbm, ⟨53, _⟩ => ⟨S32x2048x4096, .f32⟩
  | .hbm, ⟨54, _⟩ => ⟨S32x2048x4096, .f32⟩
  | .hbm, ⟨55, _⟩ => ⟨S32x2048x4096, .f32⟩
  | .hbm, ⟨56, _⟩ => ⟨S32x2048x1024, .f32⟩
  | .hbm, ⟨57, _⟩ => ⟨S32x2048x1024, .f32⟩
  | .hbm, ⟨58, _⟩ => ⟨S_, .f32⟩
  | .hbm, ⟨59, _⟩ => ⟨S32x2048, .f32⟩
  | .hbm, ⟨60, _⟩ => ⟨S32x2048x1, .f32⟩
  | .hbm, ⟨61, _⟩ => ⟨S_, .f32⟩
  | .hbm, ⟨62, _⟩ => ⟨S32x2048x1, .f32⟩
  | .hbm, ⟨63, _⟩ => ⟨S32x2048x1, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S_, .f32⟩
  | .hbm, ⟨68, _⟩ => ⟨S32x2048, .f32⟩
  | .hbm, ⟨69, _⟩ => ⟨S32x2048x1, .f32⟩
  | .hbm, ⟨70, _⟩ => ⟨S_, .f32⟩
  | .hbm, ⟨71, _⟩ => ⟨S32x2048x1, .f32⟩
  | .hbm, ⟨72, _⟩ => ⟨S32x2048x1, .f32⟩
  | .hbm, ⟨73, _⟩ => ⟨S32x2048x1024, .f32⟩
  | .hbm, ⟨74, _⟩ => ⟨S32x2048x1024, .f32⟩
  | .hbm, ⟨75, _⟩ => ⟨S_, .f32⟩
  | .hbm, ⟨76, _⟩ => ⟨S32x2048x1, .f32⟩
  | .hbm, ⟨77, _⟩ => ⟨S32x2048x1, .f32⟩
  | .hbm, ⟨78, _⟩ => ⟨S32x2048x1, .f32⟩
  | .hbm, ⟨79, _⟩ => ⟨S32x2048x1024, .f32⟩
  | .hbm, ⟨80, _⟩ => ⟨S32x2048x1024, .f32⟩
  | .hbm, ⟨81, _⟩ => ⟨S1x1x1024, .f32⟩
  | .hbm, ⟨82, _⟩ => ⟨S32x2048x1024, .f32⟩
  | .hbm, ⟨83, _⟩ => ⟨S32x2048x1024, .f32⟩
  | .hbm, ⟨84, _⟩ => ⟨S1x1x1024, .f32⟩
  | .hbm, ⟨85, _⟩ => ⟨S32x2048x1024, .f32⟩
  | .hbm, ⟨86, _⟩ => ⟨S32x2048x1024, .f32⟩
  | .hbm, ⟨87, _⟩ => ⟨S32x2048x1024, .f32⟩
  | .hbm, ⟨88, _⟩ => ⟨S1x1x1024, .f32⟩
  | .hbm, ⟨89, _⟩ => ⟨S32x2048x1024, .f32⟩
  | .hbm, ⟨90, _⟩ => ⟨S32x2048x1024, .f32⟩
  | .hbm, ⟨91, _⟩ => ⟨S32x2048x1024, .f32⟩
  | .hbm, ⟨92, _⟩ => ⟨S32x2048x1024, .f32⟩
  | .hbm, ⟨93, _⟩ => ⟨S_, .f32⟩
  | .hbm, ⟨94, _⟩ => ⟨S32x2048x1024, .f32⟩
  | .hbm, ⟨95, _⟩ => ⟨S32x2048x1024, .f32⟩
  | .hbm, ⟨96, _⟩ => ⟨S_, .f32⟩
  | .hbm, ⟨97, _⟩ => ⟨S32x2048x1024, .f32⟩
  | .hbm, ⟨98, _⟩ => ⟨S32x2048x1024, .f32⟩
  | .hbm, ⟨99, _⟩ => ⟨S1x32x2048x256, .f32⟩
  | .hbm, ⟨100, _⟩ => ⟨S32x2048x256, .f32⟩
  | .hbm, ⟨101, _⟩ => ⟨S32x2048x1024, .f32⟩
  | .hbm, ⟨102, _⟩ => ⟨S32x2048x1024, .f32⟩
  | .hbm, ⟨103, _⟩ => ⟨S32x2048x1024, .f32⟩
  | .hbm, ⟨104, _⟩ => ⟨S65536x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.Mem.lean ====
module

public import Idealize.ShloMosaic.Lib.VecWindow

@[expose] public section

set_option maxRecDepth 16384

noncomputable section

namespace Cert.Mem

open Idealize.ShloMosaic
open Idealize.SL
open Idealize.SL.RA Idealize.SL.Sem Idealize.SL.ProofMode
open scoped Idealize.SL.BI
open Idealize.SL.BI (sProp)
open Idealize.SL.BI.BIBase Idealize.SL.BI.Laws
open VecWindow (window put)

/-! ## A rank-three buffer as its slabs -/

/-- The one slab of a rank-three shape: the same shape with a first axis of one. -/
def unslab {n a b : ℕ} {α : Type} (X : Fin n → (⟨3, ![1, a, b]⟩ : Shape).Idx → α) : (⟨3, ![n, a, b]⟩ : Shape).Idx → α :=
  fun y => X (y 0) (fun i => match i with | ⟨0, _⟩ => (0 : Fin 1) | ⟨1, _⟩ => (y 1 : Fin a) | ⟨2, _⟩ => (y 2 : Fin b))

/-- The window at slab `h` is slab `h`. -/
theorem window_unslab {n a b : ℕ} {α : Type} (X : Fin n → (⟨3, ![1, a, b]⟩ : Shape).Idx → α) (h : Fin n) {off : Fin 3 → ℕ} (ho : off = ![h.val, 0, 0])
    (inb : ∀ i, off i + (⟨3, ![1, a, b]⟩ : Shape).size i ≤ (⟨3, ![n, a, b]⟩ : Shape).size i) :
    window (s := ⟨3, ![n, a, b]⟩) (unslab X) off (⟨3, ![1, a, b]⟩ : Shape).size inb = X h := by
  subst ho
  funext y
  have h0 : (Rect.unit (s := ⟨3, ![n, a, b]⟩) ![h.val, 0, 0] (⟨3, ![1, a, b]⟩ : Shape).size inb).emb y 0 = h := Fin.ext (by
    show h.val + 1 * (y 0).val = h.val
    have : (y 0).val < 1 := (y 0).isLt
    omega)
  unfold window unslab
  rw [h0]
  refine congrArg (X h) (funext fun i => Fin.ext ?_)
  match i with
  | ⟨0, _⟩ => have : (y 0).val < 1 := (y 0).isLt; show 0 = (y 0).val; omega
  | ⟨1, _⟩ => show 0 + 1 * (y 1).val = (y 1).val; omega
  | ⟨2, _⟩ => show 0 + 1 * (y 2).val = (y 2).val; omega

/-- A put over slab `h` replaces slab `h`. -/
theorem put_unslab {n a b : ℕ} {α : Type} (X : Fin n → (⟨3, ![1, a, b]⟩ : Shape).Idx → α) (h : Fin n) {off : Fin 3 → ℕ} (ho : off = ![h.val, 0, 0])
    (w : (⟨3, ![1, a, b]⟩ : Shape).Idx → α) :
    put (s := ⟨3, ![n, a, b]⟩) (unslab X) off (⟨3, ![1, a, b]⟩ : Shape).size w = unslab (Function.update X h w) := by
  subst ho
  funext y
  unfold put unslab
  by_cases hy : y 0 = h
  · have hall : ∀ i, (![h.val, 0, 0] : Fin 3 → ℕ) i ≤ (y i).val ∧ (y i).val < (![h.val, 0, 0] : Fin 3 → ℕ) i + (⟨3, ![1, a, b]⟩ : Shape).size i := by
      intro i
      match i with
      | ⟨0, _⟩ => have : (y 0).val = h.val := congrArg Fin.val hy; exact ⟨this.ge, by show (y 0).val < h.val + 1; omega⟩
      | ⟨1, _⟩ => exact ⟨Nat.zero_le _, by show (y 1).val < 0 + a; have : (y 1).val < a := (y 1).isLt; omega⟩
      | ⟨2, _⟩ => exact ⟨Nat.zero_le _, by show (y 2).val < 0 + b; have : (y 2).val < b := (y 2).isLt; omega⟩
    rw [dif_pos hall, hy, Function.update_self]
    refine congrArg w (funext fun i => Fin.ext ?_)
    match i with
    | ⟨0, _⟩ => have : (y 0).val = h.val := congrArg Fin.val hy; show (y 0).val - h.val = 0; omega
    | ⟨1, _⟩ => rfl
    | ⟨2, _⟩ => rfl
  · rw [dif_neg]
    · exact (congrFun (Function.update_of_ne (f := X) (v := w) (show (y 0 : Fin n) ≠ h from hy)) _).symm
    intro hall
    apply hy
    have := hall 0
    have h1 : h.val ≤ (y 0).val ∧ (y 0).val < h.val + 1 := this
    exact Fin.ext (by omega)

/-- Every array is made of its slabs. -/
theorem exists_unslab {n a b : ℕ} {α : Type} (x : (⟨3, ![n, a, b]⟩ : Shape).Idx → α) :
    ∃ X : Fin n → (⟨3, ![1, a, b]⟩ : Shape).Idx → α, x = unslab X := by
  refine ⟨fun h y => x (fun i => match i with | ⟨0, _⟩ => h | ⟨1, _⟩ => (y 1 : Fin a) | ⟨2, _⟩ => (y 2 : Fin b)), funext fun y => congrArg x (funext fun i => ?_)⟩
  match i with
  | ⟨0, _⟩ => rfl
  | ⟨1, _⟩ => rfl
  | ⟨2, _⟩ => rfl

/-! ## Loads and stores of one owned buffer -/

variable {nD : Nat} {τ : Topo} {sig : RefSig} {Ix : Type} [DecidableEq Ix]
variable {Val : EltTy → Type} {Name : Type} [DecidableEq Name]
variable {U : Type} [URA U]
variable {Lvl : Type} {Λ : Labels}

variable [Preorder Lvl] {defs : Defs nD τ sig Val Λ} {𝒱 : Variants} {c : Thread nD τ}
  {bd : Option 𝒱.V} {E : Set Name} {α : Type} {Q : α → sProp (MT nD τ sig Ix Val Name U Lvl)}

theorem load_owns {s : Shape} {e : EltTy} {a : Memref sig c.2.kind .vmem s e} {x : s.Idx → Val e} {off size : Fin s.rank → ℕ} {inb : ∀ i, off i + size i ≤ s.size i}
    {hl : a.view.LoadsAt (Rect.unit off size inb).toLoadRect} {k : ((Rect.unit off size inb).shape.Idx → Val e) → Prog (TpuEff nD τ sig Val Λ c.2) α} (P R : sProp (MT nD τ sig Ix Val Name U Lvl))
    (hP : P ⊢ iprop(owns c a fullShare x ∗ R)) (hP' : iprop(owns c a fullShare x ∗ R) ⊢ P)
    (h : P ⊢ wp frame (wpE defs 𝒱 c bd) E (k (window x off size inb)) Q) :
    P ⊢ wp frame (wpE defs 𝒱 c bd) E (Prog.lift (.load a (Rect.unit off size inb).toLoadRect hl) >>= k) Q := by
  refine hP.trans ?_
  have h' := hP'.trans h
  unfold owns at h' ⊢
  iintro ⟨⟨%f, %hf, H⟩, HR⟩
  subst hf
  iapply (wp_load (defs := defs) 𝒱 c bd (Γ := _) E (m := a) (r := (Rect.unit off size inb).toLoadRect) (hl := hl) (k := k) (q := fullShare) (f := f) (S := a.view.set)
    (View.setOn_subset_set _ _)) $$ H
  iintro H
  iapply h'
  isplitl [H]
  · iexists f
    isplitr
    · ipureintro; rfl
    · iexact H
  · iexact HR

theorem store_owns {s : Shape} {e : EltTy} {a : Memref sig c.2.kind .vmem s e} {x : s.Idx → Val e} {off size : Fin s.rank → ℕ} {inb : ∀ i, off i + size i ≤ s.size i}
    {w : (Rect.unit off size inb).shape.Idx → Val e} {hx : (a.access (Rect.unit off size inb)).Stores Finset.univ} {hm : Finset.univ = Finset.univ ∨ ∀ i, (Rect.unit off size inb).stride i = 1}
    {k : PUnit → Prog (TpuEff nD τ sig Val Λ c.2) α} (P P' R : sProp (MT nD τ sig Ix Val Name U Lvl))
    (hP : P ⊢ iprop(owns c a fullShare x ∗ R)) (hP' : iprop(owns c a fullShare (put x off size w) ∗ R) ⊢ P')
    (h : P' ⊢ wp frame (wpE defs 𝒱 c bd) E (k ⟨⟩) Q) :
    P ⊢ wp frame (wpE defs 𝒱 c bd) E (Prog.lift (.store a (Rect.unit off size inb) w Finset.univ hx hm) >>= k) Q := by
  refine hP.trans ?_
  have h' := hP'.trans h
  unfold owns at h' ⊢
  iintro ⟨⟨%f, %hf, H⟩, HR⟩
  subst hf
  iapply (wp_store (defs := defs) 𝒱 c bd (Γ := _) E (m := a) (r := Rect.unit off size inb) (w := w) (Mk := Finset.univ) (hx := hx) (hm := hm) (k := k) (f := f) (S := a.view.set)
    (((View.setOn_subset_set _ _).trans (View.set_slice_subset _ _)))) $$ H
  iintro H
  iapply h'
  isplitl [H]
  · iexists _
    isplitr
    swap
    · iexact H
    · ipureintro
      exact View.read_writes_cons_put a.view f inb w [] rfl
  · iexact HR

/-! ## The nine buffers of the attention body -/

variable
  {a2 : Memref sig c.2.kind .vmem (⟨3, ![1, 2048, 1024]⟩ : Shape) .bf16}
  {a3 : Memref sig c.2.kind .vmem (⟨3, ![1, 2048, 1024]⟩ : Shape) .bf16}
  {a4 : Memref sig c.2.kind .vmem (⟨3, ![1, 2048, 512]⟩ : Shape) .bf16}
  {a5 : Memref sig c.2.kind .vmem (⟨3, ![1, 2048, 512]⟩ : Shape) .bf16}
  {a6 : Memref sig c.2.kind .vmem (⟨3, ![8, 512, 512]⟩ : Shape) .f32}
  {a7 : Memref sig c.2.kind .vmem (⟨3, ![8, 512, 128]⟩ : Shape) .f32}
  {a8 : Memref sig c.2.kind .vmem (⟨3, ![8, 512, 128]⟩ : Shape) .f32}
  {a9 : Memref sig c.2.kind .vmem (⟨3, ![4, 512, 256]⟩ : Shape) .f32}
  {a10 : Memref sig c.2.kind .vmem (⟨3, ![2, 512, 512]⟩ : Shape) .f32}

/-- The nine buffers at given contents, the four scratch buffers by slabs. -/
def Own (a2 : Memref sig c.2.kind .vmem (⟨3, ![1, 2048, 1024]⟩ : Shape) .bf16)
  (a3 : Memref sig c.2.kind .vmem (⟨3, ![1, 2048, 1024]⟩ : Shape) .bf16)
  (a4 : Memref sig c.2.kind .vmem (⟨3, ![1, 2048, 512]⟩ : Shape) .bf16)
  (a5 : Memref sig c.2.kind .vmem (⟨3, ![1, 2048, 512]⟩ : Shape) .bf16)
  (a6 : Memref sig c.2.kind .vmem (⟨3, ![8, 512, 512]⟩ : Shape) .f32)
  (a7 : Memref sig c.2.kind .vmem (⟨3, ![8, 512, 128]⟩ : Shape) .f32)
  (a8 : Memref sig c.2.kind .vmem (⟨3, ![8, 512, 128]⟩ : Shape) .f32)
  (a9 : Memref sig c.2.kind .vmem (⟨3, ![4, 512, 256]⟩ : Shape) .f32)
  (a10 : Memref sig c.2.kind .vmem (⟨3, ![2, 512, 512]⟩ : Shape) .f32)
  (x2 : (⟨3, ![1, 2048, 1024]⟩ : Shape).Idx → Val .bf16)
  (x3 : (⟨3, ![1, 2048, 1024]⟩ : Shape).Idx → Val .bf16)
  (x4 : (⟨3, ![1, 2048, 512]⟩ : Shape).Idx → Val .bf16)
  (x5 : (⟨3, ![1, 2048, 512]⟩ : Shape).Idx → Val .bf16)
  (x6 : Fin 8 → (⟨3, ![1, 512, 512]⟩ : Shape).Idx → Val .f32)
  (x7 : Fin 8 → (⟨3, ![1, 512, 128]⟩ : Shape).Idx → Val .f32)
  (x8 : Fin 8 → (⟨3, ![1, 512, 128]⟩ : Shape).Idx → Val .f32)
  (x9 : Fin 4 → (⟨3, ![1, 512, 256]⟩ : Shape).Idx → Val .f32)
  (x10 : (⟨3, ![2, 512, 512]⟩ : Shape).Idx → Val .f32) : sProp (MT nD τ sig Ix Val Name U Lvl) :=
  iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a9 fullShare (unslab x9) ∗ owns c a10 fullShare x10)

variable {x2 : (⟨3, ![1, 2048, 1024]⟩ : Shape).Idx → Val .bf16} {x3 : (⟨3, ![1, 2048, 1024]⟩ : Shape).Idx → Val .bf16} {x4 : (⟨3, ![1, 2048, 512]⟩ : Shape).Idx → Val .bf16} {x5 : (⟨3, ![1, 2048, 512]⟩ : Shape).Idx → Val .bf16} {x6 : Fin 8 → (⟨3, ![1, 512, 512]⟩ : Shape).Idx → Val .f32} {x7 : Fin 8 → (⟨3, ![1, 512, 128]⟩ : Shape).Idx → Val .f32} {x8 : Fin 8 → (⟨3, ![1, 512, 128]⟩ : Shape).Idx → Val .f32} {x9 : Fin 4 → (⟨3, ![1, 512, 256]⟩ : Shape).Idx → Val .f32} {x10 : (⟨3, ![2, 512, 512]⟩ : Shape).Idx → Val .f32}

theorem ld2 {off size : Fin 3 → ℕ} {inb : ∀ i, off i + size i ≤ (⟨3, ![1, 2048, 1024]⟩ : Shape).size i}
    {hl : a2.view.LoadsAt (Rect.unit (s := (⟨3, ![1, 2048, 1024]⟩ : Shape)) off size inb).toLoadRect}
    {k : ((Rect.unit (s := (⟨3, ![1, 2048, 1024]⟩ : Shape)) off size inb).shape.Idx → Val .bf16) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (window (s := (⟨3, ![1, 2048, 1024]⟩ : Shape)) x2 off size inb)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a2 (Rect.unit (s := (⟨3, ![1, 2048, 1024]⟩ : Shape)) off size inb).toLoadRect hl) >>= k) Q := by
  refine load_owns (x := x2) _ iprop(owns c a3 fullShare x3 ∗ owns c a4 fullShare x4 ∗ owns c a5 fullShare x5 ∗ owns c a6 fullShare (unslab x6) ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · unfold Own
    iintro ⟨H2, H3, H4, H5, H6, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld3 {off size : Fin 3 → ℕ} {inb : ∀ i, off i + size i ≤ (⟨3, ![1, 2048, 1024]⟩ : Shape).size i}
    {hl : a3.view.LoadsAt (Rect.unit (s := (⟨3, ![1, 2048, 1024]⟩ : Shape)) off size inb).toLoadRect}
    {k : ((Rect.unit (s := (⟨3, ![1, 2048, 1024]⟩ : Shape)) off size inb).shape.Idx → Val .bf16) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (window (s := (⟨3, ![1, 2048, 1024]⟩ : Shape)) x3 off size inb)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a3 (Rect.unit (s := (⟨3, ![1, 2048, 1024]⟩ : Shape)) off size inb).toLoadRect hl) >>= k) Q := by
  refine load_owns (x := x3) _ iprop(owns c a2 fullShare x2 ∗ owns c a4 fullShare x4 ∗ owns c a5 fullShare x5 ∗ owns c a6 fullShare (unslab x6) ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H3]; · iexact H3
    isplitl [H2]; · iexact H2
    isplitl [H4]; · iexact H4
    isplitl [H5]; · iexact H5
    isplitl [H6]; · iexact H6
    isplitl [H7]; · iexact H7
    isplitl [H8]; · iexact H8
    isplitl [H9]; · iexact H9
    iexact H10
  · unfold Own
    iintro ⟨H3, H2, H4, H5, H6, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld4 {off size : Fin 3 → ℕ} {inb : ∀ i, off i + size i ≤ (⟨3, ![1, 2048, 512]⟩ : Shape).size i}
    {hl : a4.view.LoadsAt (Rect.unit (s := (⟨3, ![1, 2048, 512]⟩ : Shape)) off size inb).toLoadRect}
    {k : ((Rect.unit (s := (⟨3, ![1, 2048, 512]⟩ : Shape)) off size inb).shape.Idx → Val .bf16) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (window (s := (⟨3, ![1, 2048, 512]⟩ : Shape)) x4 off size inb)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a4 (Rect.unit (s := (⟨3, ![1, 2048, 512]⟩ : Shape)) off size inb).toLoadRect hl) >>= k) Q := by
  refine load_owns (x := x4) _ iprop(owns c a2 fullShare x2 ∗ owns c a3 fullShare x3 ∗ owns c a5 fullShare x5 ∗ owns c a6 fullShare (unslab x6) ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H4]; · iexact H4
    isplitl [H2]; · iexact H2
    isplitl [H3]; · iexact H3
    isplitl [H5]; · iexact H5
    isplitl [H6]; · iexact H6
    isplitl [H7]; · iexact H7
    isplitl [H8]; · iexact H8
    isplitl [H9]; · iexact H9
    iexact H10
  · unfold Own
    iintro ⟨H4, H2, H3, H5, H6, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld5 {off size : Fin 3 → ℕ} {inb : ∀ i, off i + size i ≤ (⟨3, ![1, 2048, 512]⟩ : Shape).size i}
    {hl : a5.view.LoadsAt (Rect.unit (s := (⟨3, ![1, 2048, 512]⟩ : Shape)) off size inb).toLoadRect}
    {k : ((Rect.unit (s := (⟨3, ![1, 2048, 512]⟩ : Shape)) off size inb).shape.Idx → Val .bf16) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (window (s := (⟨3, ![1, 2048, 512]⟩ : Shape)) x5 off size inb)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a5 (Rect.unit (s := (⟨3, ![1, 2048, 512]⟩ : Shape)) off size inb).toLoadRect hl) >>= k) Q := by
  refine load_owns (x := x5) _ iprop(owns c a2 fullShare x2 ∗ owns c a3 fullShare x3 ∗ owns c a4 fullShare x4 ∗ owns c a6 fullShare (unslab x6) ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H5]; · iexact H5
    isplitl [H2]; · iexact H2
    isplitl [H3]; · iexact H3
    isplitl [H4]; · iexact H4
    isplitl [H6]; · iexact H6
    isplitl [H7]; · iexact H7
    isplitl [H8]; · iexact H8
    isplitl [H9]; · iexact H9
    iexact H10
  · unfold Own
    iintro ⟨H5, H2, H3, H4, H6, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem st5 {off size : Fin 3 → ℕ} {inb : ∀ i, off i + size i ≤ (⟨3, ![1, 2048, 512]⟩ : Shape).size i}
    {w : (Rect.unit (s := (⟨3, ![1, 2048, 512]⟩ : Shape)) off size inb).shape.Idx → Val .bf16}
    {hx : (a5.access (Rect.unit (s := (⟨3, ![1, 2048, 512]⟩ : Shape)) off size inb)).Stores Finset.univ} {hm : Finset.univ = Finset.univ ∨ ∀ i, (Rect.unit (s := (⟨3, ![1, 2048, 512]⟩ : Shape)) off size inb).stride i = 1}
    {k : PUnit → Prog (TpuEff nD τ sig Val Λ c.2) α}
    (H : (Own a2 a3 a4 a5 a6 a7 a8 a9 a10 x2 x3 x4 (put (s := (⟨3, ![1, 2048, 512]⟩ : Shape)) x5 off size w) x6 x7 x8 x9 x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a5 (Rect.unit (s := (⟨3, ![1, 2048, 512]⟩ : Shape)) off size inb) w Finset.univ hx hm) >>= k) Q := by
  refine store_owns (x := x5) _ _ iprop(owns c a2 fullShare x2 ∗ owns c a3 fullShare x3 ∗ owns c a4 fullShare x4 ∗ owns c a6 fullShare (unslab x6) ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H5]; · iexact H5
    isplitl [H2]; · iexact H2
    isplitl [H3]; · iexact H3
    isplitl [H4]; · iexact H4
    isplitl [H6]; · iexact H6
    isplitl [H7]; · iexact H7
    isplitl [H8]; · iexact H8
    isplitl [H9]; · iexact H9
    iexact H10
  · unfold Own
    iintro ⟨H5, H2, H3, H4, H6, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld6 {off : Fin 3 → ℕ} (h : Fin 8) (ho : off = ![h.val, 0, 0]) {inb : ∀ i, off i + (⟨3, ![1, 512, 512]⟩ : Shape).size i ≤ (⟨3, ![8, 512, 512]⟩ : Shape).size i}
    {hl : a6.view.LoadsAt (Rect.unit (s := (⟨3, ![8, 512, 512]⟩ : Shape)) off (⟨3, ![1, 512, 512]⟩ : Shape).size inb).toLoadRect}
    {k : ((Rect.unit (s := (⟨3, ![8, 512, 512]⟩ : Shape)) off (⟨3, ![1, 512, 512]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (x6 h)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a6 (Rect.unit (s := (⟨3, ![8, 512, 512]⟩ : Shape)) off (⟨3, ![1, 512, 512]⟩ : Shape).size inb).toLoadRect hl) >>= k) Q := by
  rw [← window_unslab x6 h ho inb] at H
  refine load_owns (x := unslab x6) _ iprop(owns c a2 fullShare x2 ∗ owns c a3 fullShare x3 ∗ owns c a4 fullShare x4 ∗ owns c a5 fullShare x5 ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H6]; · iexact H6
    isplitl [H2]; · iexact H2
    isplitl [H3]; · iexact H3
    isplitl [H4]; · iexact H4
    isplitl [H5]; · iexact H5
    isplitl [H7]; · iexact H7
    isplitl [H8]; · iexact H8
    isplitl [H9]; · iexact H9
    iexact H10
  · unfold Own
    iintro ⟨H6, H2, H3, H4, H5, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem st6 {off : Fin 3 → ℕ} (h : Fin 8) (ho : off = ![h.val, 0, 0]) {inb : ∀ i, off i + (⟨3, ![1, 512, 512]⟩ : Shape).size i ≤ (⟨3, ![8, 512, 512]⟩ : Shape).size i}
    {w : (⟨3, ![1, 512, 512]⟩ : Shape).Idx → Val .f32}
    {hx : (a6.access (Rect.unit (s := (⟨3, ![8, 512, 512]⟩ : Shape)) off (⟨3, ![1, 512, 512]⟩ : Shape).size inb)).Stores Finset.univ} {hm : Finset.univ = Finset.univ ∨ ∀ i, (Rect.unit (s := (⟨3, ![8, 512, 512]⟩ : Shape)) off (⟨3, ![1, 512, 512]⟩ : Shape).size inb).stride i = 1}
    {k : PUnit → Prog (TpuEff nD τ sig Val Λ c.2) α}
    (H : (Own a2 a3 a4 a5 a6 a7 a8 a9 a10 x2 x3 x4 x5 (Function.update x6 h w) x7 x8 x9 x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a6 (Rect.unit (s := (⟨3, ![8, 512, 512]⟩ : Shape)) off (⟨3, ![1, 512, 512]⟩ : Shape).size inb) w Finset.univ hx hm) >>= k) Q := by
  refine store_owns (x := unslab x6) _ _ iprop(owns c a2 fullShare x2 ∗ owns c a3 fullShare x3 ∗ owns c a4 fullShare x4 ∗ owns c a5 fullShare x5 ∗ owns c a7 fullShare (unslab x7) ∗ owns c a8 fullShare (unslab x8) ∗ owns c a9 fullShare (unslab x9) ∗ owns c a10 fullShare x10) ?_ ?_ H
  · unfold Own
    iintro ⟨H2, H3, H4, H5, H6, H7, H8, H9, H10⟩
    isplitl [H6]; · iexact H6
    isplitl [H2]; · iexact H2
    isplitl [H3]; · iexact H3
    isplitl [H4]; · iexact H4
    isplitl [H5]; · iexact H5
    isplitl [H7]; · iexact H7
    isplitl [H8]; · iexact H8
    isplitl [H9]; · iexact H9
    iexact H10
  · rw [put_unslab x6 h ho w]
    unfold Own
    iintro ⟨H6, H2, H3, H4, H5, H7, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld7 {off : Fin 3 → ℕ} (h : Fin 8) (ho : off = ![h.val, 0, 0]) {inb : ∀ i, off i + (⟨3, ![1, 512, 128]⟩ : Shape).size i ≤ (⟨3, ![8, 512, 128]⟩ : Shape).size i}
    {hl : a7.view.LoadsAt (Rect.unit (s := (⟨3, ![8, 512, 128]⟩ : Shape)) off (⟨3, ![1, 512, 128]⟩ : Shape).size inb).toLoadRect}
    {k : ((Rect.unit (s := (⟨3, ![8, 512, 128]⟩ : Shape)) off (⟨3, ![1, 512, 128]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (x7 h)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a7 (Rect.unit (s := (⟨3, ![8, 512, 128]⟩ : Shape)) off (⟨3, ![1, 512, 128]⟩ : Shape).size inb).toLoadRect hl) >>= k) Q := by
  rw [← window_unslab x7 h ho inb] at H
  refine load_owns (x := unslab x7) _ iprop(owns c a2 fullShare x2 ∗ owns c a3 fullShare x3 ∗ owns c a4 fullShare x4 ∗ owns c a5 fullShare x5 ∗ owns c a6 fullShare (unslab x6) ∗ owns c a8 fullShare (unslab x8) ∗ owns c a9 fullShare (unslab x9) ∗ owns c a10 fullShare x10) ?_ ?_ H
  · unfold Own
    iintro ⟨H2, H3, H4, H5, H6, H7, H8, H9, H10⟩
    isplitl [H7]; · iexact H7
    isplitl [H2]; · iexact H2
    isplitl [H3]; · iexact H3
    isplitl [H4]; · iexact H4
    isplitl [H5]; · iexact H5
    isplitl [H6]; · iexact H6
    isplitl [H8]; · iexact H8
    isplitl [H9]; · iexact H9
    iexact H10
  · unfold Own
    iintro ⟨H7, H2, H3, H4, H5, H6, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem st7 {off : Fin 3 → ℕ} (h : Fin 8) (ho : off = ![h.val, 0, 0]) {inb : ∀ i, off i + (⟨3, ![1, 512, 128]⟩ : Shape).size i ≤ (⟨3, ![8, 512, 128]⟩ : Shape).size i}
    {w : (⟨3, ![1, 512, 128]⟩ : Shape).Idx → Val .f32}
    {hx : (a7.access (Rect.unit (s := (⟨3, ![8, 512, 128]⟩ : Shape)) off (⟨3, ![1, 512, 128]⟩ : Shape).size inb)).Stores Finset.univ} {hm : Finset.univ = Finset.univ ∨ ∀ i, (Rect.unit (s := (⟨3, ![8, 512, 128]⟩ : Shape)) off (⟨3, ![1, 512, 128]⟩ : Shape).size inb).stride i = 1}
    {k : PUnit → Prog (TpuEff nD τ sig Val Λ c.2) α}
    (H : (Own a2 a3 a4 a5 a6 a7 a8 a9 a10 x2 x3 x4 x5 x6 (Function.update x7 h w) x8 x9 x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a7 (Rect.unit (s := (⟨3, ![8, 512, 128]⟩ : Shape)) off (⟨3, ![1, 512, 128]⟩ : Shape).size inb) w Finset.univ hx hm) >>= k) Q := by
  refine store_owns (x := unslab x7) _ _ iprop(owns c a2 fullShare x2 ∗ owns c a3 fullShare x3 ∗ owns c a4 fullShare x4 ∗ owns c a5 fullShare x5 ∗ owns c a6 fullShare (unslab x6) ∗ owns c a8 fullShare (unslab x8) ∗ owns c a9 fullShare (unslab x9) ∗ owns c a10 fullShare x10) ?_ ?_ H
  · unfold Own
    iintro ⟨H2, H3, H4, H5, H6, H7, H8, H9, H10⟩
    isplitl [H7]; · iexact H7
    isplitl [H2]; · iexact H2
    isplitl [H3]; · iexact H3
    isplitl [H4]; · iexact H4
    isplitl [H5]; · iexact H5
    isplitl [H6]; · iexact H6
    isplitl [H8]; · iexact H8
    isplitl [H9]; · iexact H9
    iexact H10
  · rw [put_unslab x7 h ho w]
    unfold Own
    iintro ⟨H7, H2, H3, H4, H5, H6, H8, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld8 {off : Fin 3 → ℕ} (h : Fin 8) (ho : off = ![h.val, 0, 0]) {inb : ∀ i, off i + (⟨3, ![1, 512, 128]⟩ : Shape).size i ≤ (⟨3, ![8, 512, 128]⟩ : Shape).size i}
    {hl : a8.view.LoadsAt (Rect.unit (s := (⟨3, ![8, 512, 128]⟩ : Shape)) off (⟨3, ![1, 512, 128]⟩ : Shape).size inb).toLoadRect}
    {k : ((Rect.unit (s := (⟨3, ![8, 512, 128]⟩ : Shape)) off (⟨3, ![1, 512, 128]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (x8 h)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a8 (Rect.unit (s := (⟨3, ![8, 512, 128]⟩ : Shape)) off (⟨3, ![1, 512, 128]⟩ : Shape).size inb).toLoadRect hl) >>= k) Q := by
  rw [← window_unslab x8 h ho inb] at H
  refine load_owns (x := unslab x8) _ iprop(owns c a2 fullShare x2 ∗ owns c a3 fullShare x3 ∗ owns c a4 fullShare x4 ∗ owns c a5 fullShare x5 ∗ owns c a6 fullShare (unslab x6) ∗ owns c a7 fullShare (unslab x7) ∗ owns c a9 fullShare (unslab x9) ∗ owns c a10 fullShare x10) ?_ ?_ H
  · unfold Own
    iintro ⟨H2, H3, H4, H5, H6, H7, H8, H9, H10⟩
    isplitl [H8]; · iexact H8
    isplitl [H2]; · iexact H2
    isplitl [H3]; · iexact H3
    isplitl [H4]; · iexact H4
    isplitl [H5]; · iexact H5
    isplitl [H6]; · iexact H6
    isplitl [H7]; · iexact H7
    isplitl [H9]; · iexact H9
    iexact H10
  · unfold Own
    iintro ⟨H8, H2, H3, H4, H5, H6, H7, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem st8 {off : Fin 3 → ℕ} (h : Fin 8) (ho : off = ![h.val, 0, 0]) {inb : ∀ i, off i + (⟨3, ![1, 512, 128]⟩ : Shape).size i ≤ (⟨3, ![8, 512, 128]⟩ : Shape).size i}
    {w : (⟨3, ![1, 512, 128]⟩ : Shape).Idx → Val .f32}
    {hx : (a8.access (Rect.unit (s := (⟨3, ![8, 512, 128]⟩ : Shape)) off (⟨3, ![1, 512, 128]⟩ : Shape).size inb)).Stores Finset.univ} {hm : Finset.univ = Finset.univ ∨ ∀ i, (Rect.unit (s := (⟨3, ![8, 512, 128]⟩ : Shape)) off (⟨3, ![1, 512, 128]⟩ : Shape).size inb).stride i = 1}
    {k : PUnit → Prog (TpuEff nD τ sig Val Λ c.2) α}
    (H : (Own a2 a3 a4 a5 a6 a7 a8 a9 a10 x2 x3 x4 x5 x6 x7 (Function.update x8 h w) x9 x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a8 (Rect.unit (s := (⟨3, ![8, 512, 128]⟩ : Shape)) off (⟨3, ![1, 512, 128]⟩ : Shape).size inb) w Finset.univ hx hm) >>= k) Q := by
  refine store_owns (x := unslab x8) _ _ iprop(owns c a2 fullShare x2 ∗ owns c a3 fullShare x3 ∗ owns c a4 fullShare x4 ∗ owns c a5 fullShare x5 ∗ owns c a6 fullShare (unslab x6) ∗ owns c a7 fullShare (unslab x7) ∗ owns c a9 fullShare (unslab x9) ∗ owns c a10 fullShare x10) ?_ ?_ H
  · unfold Own
    iintro ⟨H2, H3, H4, H5, H6, H7, H8, H9, H10⟩
    isplitl [H8]; · iexact H8
    isplitl [H2]; · iexact H2
    isplitl [H3]; · iexact H3
    isplitl [H4]; · iexact H4
    isplitl [H5]; · iexact H5
    isplitl [H6]; · iexact H6
    isplitl [H7]; · iexact H7
    isplitl [H9]; · iexact H9
    iexact H10
  · rw [put_unslab x8 h ho w]
    unfold Own
    iintro ⟨H8, H2, H3, H4, H5, H6, H7, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld9 {off : Fin 3 → ℕ} (h : Fin 4) (ho : off = ![h.val, 0, 0]) {inb : ∀ i, off i + (⟨3, ![1, 512, 256]⟩ : Shape).size i ≤ (⟨3, ![4, 512, 256]⟩ : Shape).size i}
    {hl : a9.view.LoadsAt (Rect.unit (s := (⟨3, ![4, 512, 256]⟩ : Shape)) off (⟨3, ![1, 512, 256]⟩ : Shape).size inb).toLoadRect}
    {k : ((Rect.unit (s := (⟨3, ![4, 512, 256]⟩ : Shape)) off (⟨3, ![1, 512, 256]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (x9 h)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a9 (Rect.unit (s := (⟨3, ![4, 512, 256]⟩ : Shape)) off (⟨3, ![1, 512, 256]⟩ : Shape).size inb).toLoadRect hl) >>= k) Q := by
  rw [← window_unslab x9 h ho inb] at H
  refine load_owns (x := unslab x9) _ iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a10 fullShare x10) ?_ ?_ H
  · unfold Own
    iintro ⟨H2, H3, H4, H5, H6, H7, H8, H9, H10⟩
    isplitl [H9]; · iexact H9
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  · unfold Own
    iintro ⟨H9, H2, H3, H4, H5, H6, H7, H8, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem st9 {off : Fin 3 → ℕ} (h : Fin 4) (ho : off = ![h.val, 0, 0]) {inb : ∀ i, off i + (⟨3, ![1, 512, 256]⟩ : Shape).size i ≤ (⟨3, ![4, 512, 256]⟩ : Shape).size i}
    {w : (⟨3, ![1, 512, 256]⟩ : Shape).Idx → Val .f32}
    {hx : (a9.access (Rect.unit (s := (⟨3, ![4, 512, 256]⟩ : Shape)) off (⟨3, ![1, 512, 256]⟩ : Shape).size inb)).Stores Finset.univ} {hm : Finset.univ = Finset.univ ∨ ∀ i, (Rect.unit (s := (⟨3, ![4, 512, 256]⟩ : Shape)) off (⟨3, ![1, 512, 256]⟩ : Shape).size inb).stride i = 1}
    {k : PUnit → Prog (TpuEff nD τ sig Val Λ c.2) α}
    (H : (Own a2 a3 a4 a5 a6 a7 a8 a9 a10 x2 x3 x4 x5 x6 x7 x8 (Function.update x9 h w) x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a9 (Rect.unit (s := (⟨3, ![4, 512, 256]⟩ : Shape)) off (⟨3, ![1, 512, 256]⟩ : Shape).size inb) w Finset.univ hx hm) >>= k) Q := by
  refine store_owns (x := unslab x9) _ _ iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a10 fullShare x10) ?_ ?_ H
  · unfold Own
    iintro ⟨H2, H3, H4, H5, H6, H7, H8, H9, H10⟩
    isplitl [H9]; · iexact H9
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  · rw [put_unslab x9 h ho w]
    unfold Own
    iintro ⟨H9, H2, H3, H4, H5, H6, H7, H8, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ld10 {off size : Fin 3 → ℕ} {inb : ∀ i, off i + size i ≤ (⟨3, ![2, 512, 512]⟩ : Shape).size i}
    {hl : a10.view.LoadsAt (Rect.unit (s := (⟨3, ![2, 512, 512]⟩ : Shape)) off size inb).toLoadRect}
    {k : ((Rect.unit (s := (⟨3, ![2, 512, 512]⟩ : Shape)) off size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k (window (s := (⟨3, ![2, 512, 512]⟩ : Shape)) x10 off size inb)) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a10 (Rect.unit (s := (⟨3, ![2, 512, 512]⟩ : Shape)) off size inb).toLoadRect hl) >>= k) Q := by
  refine load_owns (x := x10) _ iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a9 fullShare (unslab x9)) ?_ ?_ H
  · unfold Own
    iintro ⟨H2, H3, H4, H5, H6, H7, H8, H9, H10⟩
    isplitl [H10]; · iexact H10
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · unfold Own
    iintro ⟨H10, H2, H3, H4, H5, H6, H7, H8, H9⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem st10 {off size : Fin 3 → ℕ} {inb : ∀ i, off i + size i ≤ (⟨3, ![2, 512, 512]⟩ : Shape).size i}
    {w : (Rect.unit (s := (⟨3, ![2, 512, 512]⟩ : Shape)) off size inb).shape.Idx → Val .f32}
    {hx : (a10.access (Rect.unit (s := (⟨3, ![2, 512, 512]⟩ : Shape)) off size inb)).Stores Finset.univ} {hm : Finset.univ = Finset.univ ∨ ∀ i, (Rect.unit (s := (⟨3, ![2, 512, 512]⟩ : Shape)) off size inb).stride i = 1}
    {k : PUnit → Prog (TpuEff nD τ sig Val Λ c.2) α}
    (H : (Own a2 a3 a4 a5 a6 a7 a8 a9 a10 x2 x3 x4 x5 x6 x7 x8 x9 (put (s := (⟨3, ![2, 512, 512]⟩ : Shape)) x10 off size w) : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a10 (Rect.unit (s := (⟨3, ![2, 512, 512]⟩ : Shape)) off size inb) w Finset.univ hx hm) >>= k) Q := by
  refine store_owns (x := x10) _ _ iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a9 fullShare (unslab x9)) ?_ ?_ H
  · unfold Own
    iintro ⟨H2, H3, H4, H5, H6, H7, H8, H9, H10⟩
    isplitl [H10]; · iexact H10
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · unfold Own
    iintro ⟨H10, H2, H3, H4, H5, H6, H7, H8, H9⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Mem

end
-- ==== Proof.MemWhole.lean ====
module

public import proofs.«01_k».proof.Proof.Mem

@[expose] public section

set_option maxRecDepth 16384

noncomputable section

namespace Cert.Mem

open Idealize.ShloMosaic
open Idealize.SL
open Idealize.SL.RA Idealize.SL.Sem Idealize.SL.ProofMode
open scoped Idealize.SL.BI
open Idealize.SL.BI (sProp)
open Idealize.SL.BI.BIBase Idealize.SL.BI.Laws
open VecWindow (window put)

/-! ## Whole scratch buffers, and the rules that move no memory -/

/-- The slabs of an array. -/
def slabs {n a b : ℕ} {α : Type} (x : (⟨3, ![n, a, b]⟩ : Shape).Idx → α) : Fin n → (⟨3, ![1, a, b]⟩ : Shape).Idx → α :=
  fun h y => x (fun i => match i with | ⟨0, _⟩ => h | ⟨1, _⟩ => (y 1 : Fin a) | ⟨2, _⟩ => (y 2 : Fin b))

theorem unslab_slabs {n a b : ℕ} {α : Type} (x : (⟨3, ![n, a, b]⟩ : Shape).Idx → α) : unslab (slabs x) = x := by
  funext y
  refine congrArg x (funext fun i => ?_)
  match i with
  | ⟨0, _⟩ => rfl
  | ⟨1, _⟩ => rfl
  | ⟨2, _⟩ => rfl

/-- A put over everything leaves what was put. -/
theorem put_whole {n a b : ℕ} {α : Type} (x w : (⟨3, ![n, a, b]⟩ : Shape).Idx → α) {off : Fin 3 → ℕ} (ho : off = ![0, 0, 0]) :
    put (s := ⟨3, ![n, a, b]⟩) x off (⟨3, ![n, a, b]⟩ : Shape).size w = w := by
  subst ho
  funext y
  unfold put
  have hall : ∀ i, (![0, 0, 0] : Fin 3 → ℕ) i ≤ (y i).val ∧ (y i).val < (![0, 0, 0] : Fin 3 → ℕ) i + (⟨3, ![n, a, b]⟩ : Shape).size i := by
    intro i
    match i with
    | ⟨0, _⟩ => exact ⟨Nat.zero_le _, by show (y 0).val < 0 + n; have : (y 0).val < n := (y 0).isLt; omega⟩
    | ⟨1, _⟩ => exact ⟨Nat.zero_le _, by show (y 1).val < 0 + a; have : (y 1).val < a := (y 1).isLt; omega⟩
    | ⟨2, _⟩ => exact ⟨Nat.zero_le _, by show (y 2).val < 0 + b; have : (y 2).val < b := (y 2).isLt; omega⟩
  rw [dif_pos hall]
  refine congrArg w (funext fun i => Fin.ext ?_)
  match i with
  | ⟨0, _⟩ => rfl
  | ⟨1, _⟩ => rfl
  | ⟨2, _⟩ => rfl

theorem upd4 {α : Type} (x : Fin 4 → α) (a b c d : α) :
    Function.update (Function.update (Function.update (Function.update x 0 a) 1 b) 2 c) 3 d = ![a, b, c, d] := by
  funext i
  match i with
  | ⟨0, _⟩ => rfl
  | ⟨1, _⟩ => rfl
  | ⟨2, _⟩ => rfl
  | ⟨3, _⟩ => rfl

theorem upd8 {α : Type} (x : Fin 8 → α) (a b c d e f g h : α) :
    Function.update (Function.update (Function.update (Function.update (Function.update (Function.update (Function.update (Function.update x 0 a) 1 b) 2 c) 3 d) 4 e) 5 f) 6 g) 7 h
      = ![a, b, c, d, e, f, g, h] := by
  funext i
  match i with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

variable {nD : Nat} {τ : Topo} {sig : RefSig} {Ix : Type} [DecidableEq Ix]
variable {Val : EltTy → Type} {Name : Type} [DecidableEq Name]
variable {U : Type} [URA U]
variable {Lvl : Type} {Λ : Labels}

variable [Preorder Lvl] {defs : Defs nD τ sig Val Λ} {𝒱 : Variants} {c : Thread nD τ}
  {bd : Option 𝒱.V} {E : Set Name} {α : Type} {Q : α → sProp (MT nD τ sig Ix Val Name U Lvl)}

theorem bind_step {P : sProp (MT nD τ sig Ix Val Name U Lvl)} {β : Type} {p : Prog (TpuEff nD τ sig Val Λ c.2) β} {k : β → Prog (TpuEff nD τ sig Val Λ c.2) α}
    (H : P ⊢ wp frame (wpE defs 𝒱 c bd) E p (fun x => wp frame (wpE defs 𝒱 c bd) E (k x) Q)) :
    P ⊢ wp frame (wpE defs 𝒱 c bd) E (p >>= k) Q := by
  rw [wp_bind]; exact H

theorem ret_step {P : sProp (MT nD τ sig Ix Val Name U Lvl)} {r : α} (H : P ⊢ Q r) :
    P ⊢ wp frame (wpE defs 𝒱 c bd) E (pure r : Prog (TpuEff nD τ sig Val Λ c.2) α) Q := by
  rw [wp_pure]; exact H.trans Idealize.SL.BI.fupd_intro

theorem assume_step {P : sProp (MT nD τ sig Ix Val Name U Lvl)} {C : Prop} {dec : Decidable C} {k : PLift C → Prog (TpuEff nD τ sig Val Λ c.2) α} (hc : C)
    (H : P ⊢ wp frame (wpE defs 𝒱 c bd) E (k ⟨hc⟩) Q) :
    P ⊢ wp frame (wpE defs 𝒱 c bd) E (Prog.lift (TpuEff.assume C dec) >>= k) Q :=
  H.trans (wp_assume 𝒱 c bd E hc)

theorem if_step {P : sProp (MT nD τ sig Ix Val Name U Lvl)} {C : Prop} [Decidable C] {p : C → Prog (TpuEff nD τ sig Val Λ c.2) α} {q : ¬ C → Prog (TpuEff nD τ sig Val Λ c.2) α}
    (H1 : ∀ h : C, P ⊢ wp frame (wpE defs 𝒱 c bd) E (p h) Q) (H2 : ∀ h : ¬ C, P ⊢ wp frame (wpE defs 𝒱 c bd) E (q h) Q) :
    P ⊢ wp frame (wpE defs 𝒱 c bd) E (if h : C then p h else q h) Q := by
  split
  · exact H1 _
  · exact H2 _

/-- A state with a fact about it, the state not named. -/
def Some {ι : Type} (S : ι → Prop) (O : ι → sProp (MT nD τ sig Ix Val Name U Lvl)) : sProp (MT nD τ sig Ix Val Name U Lvl) :=
  iprop(∃ s, ⌜S s⌝ ∗ O s)

theorem some_intro {ι : Type} {S : ι → Prop} {O : ι → sProp (MT nD τ sig Ix Val Name U Lvl)} (s : ι) (h : S s) : O s ⊢ Some S O := by
  unfold Some
  iintro H
  iexists s
  isplitr
  · ipureintro; exact h
  · iexact H

theorem some_elim {ι : Type} {S : ι → Prop} {O : ι → sProp (MT nD τ sig Ix Val Name U Lvl)} {R : sProp (MT nD τ sig Ix Val Name U Lvl)}
    (h : ∀ s, S s → O s ⊢ R) : Some S O ⊢ R := by
  unfold Some
  iintro ⟨%s, %hs, H⟩
  iapply (h s hs)
  iexact H

theorem loop_step {P : sProp (MT nD τ sig Ix Val Name U Lvl)} {w : ℕ} {σ : Type} {lb ub st : BitVec w} {hok : Scf.OK lb ub st} {init : σ}
    {body : Fin (Scf.trips lb ub st) → σ → Prog (TpuEff nD τ sig Val Λ c.2) σ} (I : ℕ → σ → sProp (MT nD τ sig Ix Val Name U Lvl))
    (h0 : P ⊢ I 0 init) (hb : ∀ k acc, I k.val acc ⊢ wp frame (wpE defs 𝒱 c bd) E (body k acc) (I (k.val + 1)))
    {kk : σ → Prog (TpuEff nD τ sig Val Λ c.2) α} (hk : ∀ acc, I (Scf.trips lb ub st) acc ⊢ wp frame (wpE defs 𝒱 c bd) E (kk acc) Q) :
    P ⊢ wp frame (wpE defs 𝒱 c bd) E (Scf.for lb ub st hok init body >>= kk) Q := by
  refine h0.trans ?_
  iintro H
  iapply (Scf.wp_for_bind frame (wpE defs 𝒱 c bd) E lb ub st hok init body I hb (kk := kk)) $$ H
  iintro %acc H
  iapply (hk acc)
  iexact H

variable
  {a2 : Memref sig c.2.kind .vmem (⟨3, ![1, 2048, 1024]⟩ : Shape) .bf16}
  {a3 : Memref sig c.2.kind .vmem (⟨3, ![1, 2048, 1024]⟩ : Shape) .bf16}
  {a4 : Memref sig c.2.kind .vmem (⟨3, ![1, 2048, 512]⟩ : Shape) .bf16}
  {a5 : Memref sig c.2.kind .vmem (⟨3, ![1, 2048, 512]⟩ : Shape) .bf16}
  {a6 : Memref sig c.2.kind .vmem (⟨3, ![8, 512, 512]⟩ : Shape) .f32}
  {a7 : Memref sig c.2.kind .vmem (⟨3, ![8, 512, 128]⟩ : Shape) .f32}
  {a8 : Memref sig c.2.kind .vmem (⟨3, ![8, 512, 128]⟩ : Shape) .f32}
  {a9 : Memref sig c.2.kind .vmem (⟨3, ![4, 512, 256]⟩ : Shape) .f32}
  {a10 : Memref sig c.2.kind .vmem (⟨3, ![2, 512, 512]⟩ : Shape) .f32}

variable {x2 : (⟨3, ![1, 2048, 1024]⟩ : Shape).Idx → Val .bf16} {x3 : (⟨3, ![1, 2048, 1024]⟩ : Shape).Idx → Val .bf16} {x4 : (⟨3, ![1, 2048, 512]⟩ : Shape).Idx → Val .bf16} {x5 : (⟨3, ![1, 2048, 512]⟩ : Shape).Idx → Val .bf16} {x6 : Fin 8 → (⟨3, ![1, 512, 512]⟩ : Shape).Idx → Val .f32} {x7 : Fin 8 → (⟨3, ![1, 512, 128]⟩ : Shape).Idx → Val .f32} {x8 : Fin 8 → (⟨3, ![1, 512, 128]⟩ : Shape).Idx → Val .f32} {x9 : Fin 4 → (⟨3, ![1, 512, 256]⟩ : Shape).Idx → Val .f32} {x10 : (⟨3, ![2, 512, 512]⟩ : Shape).Idx → Val .f32}

theorem ld6' {off : Fin 3 → ℕ} (h : Fin 8) (ho : off = ![h.val, 0, 0]) (v : (⟨3, ![1, 512, 512]⟩ : Shape).Idx → Val .f32) (hv : x6 h = v) {inb : ∀ i, off i + (⟨3, ![1, 512, 512]⟩ : Shape).size i ≤ (⟨3, ![8, 512, 512]⟩ : Shape).size i}
    {hl : a6.view.LoadsAt (Rect.unit (s := (⟨3, ![8, 512, 512]⟩ : Shape)) off (⟨3, ![1, 512, 512]⟩ : Shape).size inb).toLoadRect}
    {k : ((Rect.unit (s := (⟨3, ![8, 512, 512]⟩ : Shape)) off (⟨3, ![1, 512, 512]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k v) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a6 (Rect.unit (s := (⟨3, ![8, 512, 512]⟩ : Shape)) off (⟨3, ![1, 512, 512]⟩ : Shape).size inb).toLoadRect hl) >>= k) Q := by
  subst hv
  exact ld6 h ho H

theorem ld7' {off : Fin 3 → ℕ} (h : Fin 8) (ho : off = ![h.val, 0, 0]) (v : (⟨3, ![1, 512, 128]⟩ : Shape).Idx → Val .f32) (hv : x7 h = v) {inb : ∀ i, off i + (⟨3, ![1, 512, 128]⟩ : Shape).size i ≤ (⟨3, ![8, 512, 128]⟩ : Shape).size i}
    {hl : a7.view.LoadsAt (Rect.unit (s := (⟨3, ![8, 512, 128]⟩ : Shape)) off (⟨3, ![1, 512, 128]⟩ : Shape).size inb).toLoadRect}
    {k : ((Rect.unit (s := (⟨3, ![8, 512, 128]⟩ : Shape)) off (⟨3, ![1, 512, 128]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k v) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a7 (Rect.unit (s := (⟨3, ![8, 512, 128]⟩ : Shape)) off (⟨3, ![1, 512, 128]⟩ : Shape).size inb).toLoadRect hl) >>= k) Q := by
  subst hv
  exact ld7 h ho H

theorem ld8' {off : Fin 3 → ℕ} (h : Fin 8) (ho : off = ![h.val, 0, 0]) (v : (⟨3, ![1, 512, 128]⟩ : Shape).Idx → Val .f32) (hv : x8 h = v) {inb : ∀ i, off i + (⟨3, ![1, 512, 128]⟩ : Shape).size i ≤ (⟨3, ![8, 512, 128]⟩ : Shape).size i}
    {hl : a8.view.LoadsAt (Rect.unit (s := (⟨3, ![8, 512, 128]⟩ : Shape)) off (⟨3, ![1, 512, 128]⟩ : Shape).size inb).toLoadRect}
    {k : ((Rect.unit (s := (⟨3, ![8, 512, 128]⟩ : Shape)) off (⟨3, ![1, 512, 128]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k v) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a8 (Rect.unit (s := (⟨3, ![8, 512, 128]⟩ : Shape)) off (⟨3, ![1, 512, 128]⟩ : Shape).size inb).toLoadRect hl) >>= k) Q := by
  subst hv
  exact ld8 h ho H

theorem ld9' {off : Fin 3 → ℕ} (h : Fin 4) (ho : off = ![h.val, 0, 0]) (v : (⟨3, ![1, 512, 256]⟩ : Shape).Idx → Val .f32) (hv : x9 h = v) {inb : ∀ i, off i + (⟨3, ![1, 512, 256]⟩ : Shape).size i ≤ (⟨3, ![4, 512, 256]⟩ : Shape).size i}
    {hl : a9.view.LoadsAt (Rect.unit (s := (⟨3, ![4, 512, 256]⟩ : Shape)) off (⟨3, ![1, 512, 256]⟩ : Shape).size inb).toLoadRect}
    {k : ((Rect.unit (s := (⟨3, ![4, 512, 256]⟩ : Shape)) off (⟨3, ![1, 512, 256]⟩ : Shape).size inb).shape.Idx → Val .f32) → Prog (TpuEff nD τ sig Val Λ c.2) α}
    (H : (Own a2 a3 a4 a5 a6 a7 a8 a9 a10 x2 x3 x4 x5 x6 x7 x8 x9 x10 : sProp (MT nD τ sig Ix Val Name U Lvl)) ⊢ wp frame (wpE defs 𝒱 c bd) E (k v) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a9 (Rect.unit (s := (⟨3, ![4, 512, 256]⟩ : Shape)) off (⟨3, ![1, 512, 256]⟩ : Shape).size inb).toLoadRect hl) >>= k) Q := by
  subst hv
  exact ld9 h ho H

theorem ldw8 {off : Fin 3 → ℕ} {inb : ∀ i, off i + (⟨3, ![8, 512, 128]⟩ : Shape).size i ≤ (⟨3, ![8, 512, 128]⟩ : Shape).size i}
    {hl : a8.view.LoadsAt (Rect.unit (s := (⟨3, ![8, 512, 128]⟩ : Shape)) off (⟨3, ![8, 512, 128]⟩ : Shape).size inb).toLoadRect}
    {k : ((Rect.unit (s := (⟨3, ![8, 512, 128]⟩ : Shape)) off (⟨3, ![8, 512, 128]⟩ : Shape).size inb).shape.Idx → Val .f32) → Prog (TpuEff nD τ sig Val Λ c.2) α}
    (H : ∀ v, (Own a2 a3 a4 a5 a6 a7 a8 a9 a10 x2 x3 x4 x5 x6 x7 x8 x9 x10 : sProp (MT nD τ sig Ix Val Name U Lvl)) ⊢ wp frame (wpE defs 𝒱 c bd) E (k v) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a8 (Rect.unit (s := (⟨3, ![8, 512, 128]⟩ : Shape)) off (⟨3, ![8, 512, 128]⟩ : Shape).size inb).toLoadRect hl) >>= k) Q := by
  refine load_owns (x := unslab x8) _ iprop(owns c a2 fullShare x2 ∗ owns c a3 fullShare x3 ∗ owns c a4 fullShare x4 ∗ owns c a5 fullShare x5 ∗ owns c a6 fullShare (unslab x6) ∗ owns c a7 fullShare (unslab x7) ∗ owns c a9 fullShare (unslab x9) ∗ owns c a10 fullShare x10) ?_ ?_ (H _)
  · unfold Own
    iintro ⟨H2, H3, H4, H5, H6, H7, H8, H9, H10⟩
    isplitl [H8]; · iexact H8
    isplitl [H2]; · iexact H2
    isplitl [H3]; · iexact H3
    isplitl [H4]; · iexact H4
    isplitl [H5]; · iexact H5
    isplitl [H6]; · iexact H6
    isplitl [H7]; · iexact H7
    isplitl [H9]; · iexact H9
    iexact H10
  · unfold Own
    iintro ⟨H8, H2, H3, H4, H5, H6, H7, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem stw8 {off : Fin 3 → ℕ} (ho : off = ![0, 0, 0]) {inb : ∀ i, off i + (⟨3, ![8, 512, 128]⟩ : Shape).size i ≤ (⟨3, ![8, 512, 128]⟩ : Shape).size i}
    {w : (⟨3, ![8, 512, 128]⟩ : Shape).Idx → Val .f32}
    {hx : (a8.access (Rect.unit (s := (⟨3, ![8, 512, 128]⟩ : Shape)) off (⟨3, ![8, 512, 128]⟩ : Shape).size inb)).Stores Finset.univ} {hm : Finset.univ = Finset.univ ∨ ∀ i, (Rect.unit (s := (⟨3, ![8, 512, 128]⟩ : Shape)) off (⟨3, ![8, 512, 128]⟩ : Shape).size inb).stride i = 1}
    {k : PUnit → Prog (TpuEff nD τ sig Val Λ c.2) α}
    (H : (Own a2 a3 a4 a5 a6 a7 a8 a9 a10 x2 x3 x4 x5 x6 x7 (slabs w) x9 x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a8 (Rect.unit (s := (⟨3, ![8, 512, 128]⟩ : Shape)) off (⟨3, ![8, 512, 128]⟩ : Shape).size inb) w Finset.univ hx hm) >>= k) Q := by
  refine store_owns (x := unslab x8) _ _ iprop(owns c a2 fullShare x2 ∗ owns c a3 fullShare x3 ∗ owns c a4 fullShare x4 ∗ owns c a5 fullShare x5 ∗ owns c a6 fullShare (unslab x6) ∗ owns c a7 fullShare (unslab x7) ∗ owns c a9 fullShare (unslab x9) ∗ owns c a10 fullShare x10) ?_ ?_ H
  · unfold Own
    iintro ⟨H2, H3, H4, H5, H6, H7, H8, H9, H10⟩
    isplitl [H8]; · iexact H8
    isplitl [H2]; · iexact H2
    isplitl [H3]; · iexact H3
    isplitl [H4]; · iexact H4
    isplitl [H5]; · iexact H5
    isplitl [H6]; · iexact H6
    isplitl [H7]; · iexact H7
    isplitl [H9]; · iexact H9
    iexact H10
  · rw [put_whole _ _ ho]
    unfold Own
    rw [unslab_slabs]
    iintro ⟨H8, H2, H3, H4, H5, H6, H7, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem ldw9 {off : Fin 3 → ℕ} {inb : ∀ i, off i + (⟨3, ![4, 512, 256]⟩ : Shape).size i ≤ (⟨3, ![4, 512, 256]⟩ : Shape).size i}
    {hl : a9.view.LoadsAt (Rect.unit (s := (⟨3, ![4, 512, 256]⟩ : Shape)) off (⟨3, ![4, 512, 256]⟩ : Shape).size inb).toLoadRect}
    {k : ((Rect.unit (s := (⟨3, ![4, 512, 256]⟩ : Shape)) off (⟨3, ![4, 512, 256]⟩ : Shape).size inb).shape.Idx → Val .f32) → Prog (TpuEff nD τ sig Val Λ c.2) α}
    (H : ∀ v, (Own a2 a3 a4 a5 a6 a7 a8 a9 a10 x2 x3 x4 x5 x6 x7 x8 x9 x10 : sProp (MT nD τ sig Ix Val Name U Lvl)) ⊢ wp frame (wpE defs 𝒱 c bd) E (k v) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.load a9 (Rect.unit (s := (⟨3, ![4, 512, 256]⟩ : Shape)) off (⟨3, ![4, 512, 256]⟩ : Shape).size inb).toLoadRect hl) >>= k) Q := by
  refine load_owns (x := unslab x9) _ iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a10 fullShare x10) ?_ ?_ (H _)
  · unfold Own
    iintro ⟨H2, H3, H4, H5, H6, H7, H8, H9, H10⟩
    isplitl [H9]; · iexact H9
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  · unfold Own
    iintro ⟨H9, H2, H3, H4, H5, H6, H7, H8, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem stw9 {off : Fin 3 → ℕ} (ho : off = ![0, 0, 0]) {inb : ∀ i, off i + (⟨3, ![4, 512, 256]⟩ : Shape).size i ≤ (⟨3, ![4, 512, 256]⟩ : Shape).size i}
    {w : (⟨3, ![4, 512, 256]⟩ : Shape).Idx → Val .f32}
    {hx : (a9.access (Rect.unit (s := (⟨3, ![4, 512, 256]⟩ : Shape)) off (⟨3, ![4, 512, 256]⟩ : Shape).size inb)).Stores Finset.univ} {hm : Finset.univ = Finset.univ ∨ ∀ i, (Rect.unit (s := (⟨3, ![4, 512, 256]⟩ : Shape)) off (⟨3, ![4, 512, 256]⟩ : Shape).size inb).stride i = 1}
    {k : PUnit → Prog (TpuEff nD τ sig Val Λ c.2) α}
    (H : (Own a2 a3 a4 a5 a6 a7 a8 a9 a10 x2 x3 x4 x5 x6 x7 x8 (slabs w) x10 : sProp (MT nD τ sig Ix Val Name U Lvl)) ⊢ wp frame (wpE defs 𝒱 c bd) E (k ⟨⟩) Q) :
    (Own a2 a3 a4 a5 a6 a7 a8 a9 a10 x2 x3 x4 x5 x6 x7 x8 x9 x10 : sProp (MT nD τ sig Ix Val Name U Lvl)) ⊢ wp frame (wpE defs 𝒱 c bd) E (Prog.lift (.store a9 (Rect.unit (s := (⟨3, ![4, 512, 256]⟩ : Shape)) off (⟨3, ![4, 512, 256]⟩ : Shape).size inb) w Finset.univ hx hm) >>= k) Q := by
  refine store_owns (x := unslab x9) _ _ iprop(owns c a2 fullShare x2 ∗ owns c a3 fullShare x3 ∗ owns c a4 fullShare x4 ∗ owns c a5 fullShare x5 ∗ owns c a6 fullShare (unslab x6) ∗ owns c a7 fullShare (unslab x7) ∗ owns c a8 fullShare (unslab x8) ∗ owns c a10 fullShare x10) ?_ ?_ H
  · unfold Own
    iintro ⟨H2, H3, H4, H5, H6, H7, H8, H9, H10⟩
    isplitl [H9]; · iexact H9
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  · rw [put_whole _ _ ho]
    unfold Own
    rw [unslab_slabs]
    iintro ⟨H9, H2, H3, H4, H5, H6, H7, H8, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Mem
-- ==== Proof.TripKernelIdeal.lean ====
module

public import proofs.«01_k».proof.Proof.MemWhole
public import proofs.«01_k».proof.Proof.Gen.KernelIdeal.Skeleton
public import proofs.«01_k».proof.Proof.Gen.KernelIdeal.Frame

@[expose] public section

set_option maxRecDepth 16384

noncomputable section

namespace Cert.Proof.KernelIdeal

open Cert.KernelIdeal Cert.KernelIdeal.Gen Cert.Mem
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

/-! ## What one trip of the loop leaves in the scratch buffers -/

/-- After a trip: the scores of the next tile pair, by heads. -/
def tripS (x2 : Vec F S1x2048x1024 .bf16) (x3 : Vec F S1x2048x1024 .bf16) (x10 : Vec F S2x512x512 .f32) (qi j : BitVec 32) (hw : k0_chk1 qi j) : Fin 8 → Vec F S1x512x512 .f32 :=
  ![k0_pay64 (window (s := S1x2048x1024) x2 (k0_off6 qi j) S1x512x256.size ((k0_off6_inb qi j hw))) (window (s := S2x512x512) x10 (k0_off10 qi j) S1x512x512.size ((k0_off10_inb qi j hw))) (window (s := S1x2048x1024) x3 (k0_off11 qi j) S1x512x256.size ((k0_off11_inb qi j hw))),
    k0_pay68 ((k0_pay51 (window (s := S1x2048x1024) x2 (k0_off6 qi j) S1x512x256.size ((k0_off6_inb qi j hw))))) ((k0_pay61 (window (s := S2x512x512) x10 (k0_off10 qi j) S1x512x512.size ((k0_off10_inb qi j hw))))) ((k0_pay62 (window (s := S1x2048x1024) x3 (k0_off11 qi j) S1x512x256.size ((k0_off11_inb qi j hw))))),
    k0_pay72 ((k0_pay53 (window (s := S1x2048x1024) x2 (k0_off7 qi j) S1x512x256.size ((k0_off7_inb qi j hw))))) ((k0_pay61 (window (s := S2x512x512) x10 (k0_off10 qi j) S1x512x512.size ((k0_off10_inb qi j hw))))) (window (s := S1x2048x1024) x3 (k0_off12 qi j) S1x512x256.size ((k0_off12_inb qi j hw))),
    k0_pay75 (((k0_pay74 ((k0_pay54 (window (s := S1x2048x1024) x2 (k0_off7 qi j) S1x512x256.size ((k0_off7_inb qi j hw))))) ((k0_pay61 (window (s := S2x512x512) x10 (k0_off10 qi j) S1x512x512.size ((k0_off10_inb qi j hw))))) (window (s := S1x2048x1024) x3 (k0_off12 qi j) S1x512x256.size ((k0_off12_inb qi j hw)))))),
    k0_pay79 ((k0_pay56 (window (s := S1x2048x1024) x2 (k0_off8 qi j) S1x512x256.size ((k0_off8_inb qi j hw))))) ((k0_pay61 (window (s := S2x512x512) x10 (k0_off10 qi j) S1x512x512.size ((k0_off10_inb qi j hw))))) (window (s := S1x2048x1024) x3 (k0_off13 qi j) S1x512x256.size ((k0_off13_inb qi j hw))),
    k0_pay82 ((k0_pay57 (window (s := S1x2048x1024) x2 (k0_off8 qi j) S1x512x256.size ((k0_off8_inb qi j hw))))) ((k0_pay61 (window (s := S2x512x512) x10 (k0_off10 qi j) S1x512x512.size ((k0_off10_inb qi j hw))))) (window (s := S1x2048x1024) x3 (k0_off13 qi j) S1x512x256.size ((k0_off13_inb qi j hw))),
    k0_pay87 ((k0_pay59 (window (s := S1x2048x1024) x2 (k0_off9 qi j) S1x512x256.size ((k0_off9_inb qi j hw))))) ((k0_pay61 (window (s := S2x512x512) x10 (k0_off10 qi j) S1x512x512.size ((k0_off10_inb qi j hw))))) (window (s := S1x2048x1024) x3 (k0_off14 qi j) S1x512x256.size ((k0_off14_inb qi j hw))),
    k0_pay90 ((k0_pay60 (window (s := S1x2048x1024) x2 (k0_off9 qi j) S1x512x256.size ((k0_off9_inb qi j hw))))) ((k0_pay61 (window (s := S2x512x512) x10 (k0_off10 qi j) S1x512x512.size ((k0_off10_inb qi j hw))))) (window (s := S1x2048x1024) x3 (k0_off14 qi j) S1x512x256.size ((k0_off14_inb qi j hw)))]

/-- After a trip: their row maxima, by heads. -/
def tripMC (x2 : Vec F S1x2048x1024 .bf16) (x3 : Vec F S1x2048x1024 .bf16) (x10 : Vec F S2x512x512 .f32) (qi j : BitVec 32) (hw : k0_chk1 qi j) : Fin 8 → Vec F S1x512x128 .f32 :=
  ![k0_pay66 ((k0_pay65 (window (s := S1x2048x1024) x2 (k0_off6 qi j) S1x512x256.size ((k0_off6_inb qi j hw))) (window (s := S2x512x512) x10 (k0_off10 qi j) S1x512x512.size ((k0_off10_inb qi j hw))) (window (s := S1x2048x1024) x3 (k0_off11 qi j) S1x512x256.size ((k0_off11_inb qi j hw))))),
    k0_pay69 ((k0_pay51 (window (s := S1x2048x1024) x2 (k0_off6 qi j) S1x512x256.size ((k0_off6_inb qi j hw))))) ((k0_pay61 (window (s := S2x512x512) x10 (k0_off10 qi j) S1x512x512.size ((k0_off10_inb qi j hw))))) ((k0_pay62 (window (s := S1x2048x1024) x3 (k0_off11 qi j) S1x512x256.size ((k0_off11_inb qi j hw))))),
    k0_pay73 ((k0_pay53 (window (s := S1x2048x1024) x2 (k0_off7 qi j) S1x512x256.size ((k0_off7_inb qi j hw))))) ((k0_pay61 (window (s := S2x512x512) x10 (k0_off10 qi j) S1x512x512.size ((k0_off10_inb qi j hw))))) (window (s := S1x2048x1024) x3 (k0_off12 qi j) S1x512x256.size ((k0_off12_inb qi j hw))),
    k0_pay76 (((k0_pay74 ((k0_pay54 (window (s := S1x2048x1024) x2 (k0_off7 qi j) S1x512x256.size ((k0_off7_inb qi j hw))))) ((k0_pay61 (window (s := S2x512x512) x10 (k0_off10 qi j) S1x512x512.size ((k0_off10_inb qi j hw))))) (window (s := S1x2048x1024) x3 (k0_off12 qi j) S1x512x256.size ((k0_off12_inb qi j hw)))))),
    k0_pay80 ((k0_pay56 (window (s := S1x2048x1024) x2 (k0_off8 qi j) S1x512x256.size ((k0_off8_inb qi j hw))))) ((k0_pay61 (window (s := S2x512x512) x10 (k0_off10 qi j) S1x512x512.size ((k0_off10_inb qi j hw))))) (window (s := S1x2048x1024) x3 (k0_off13 qi j) S1x512x256.size ((k0_off13_inb qi j hw))),
    k0_pay84 (((k0_pay83 ((k0_pay57 (window (s := S1x2048x1024) x2 (k0_off8 qi j) S1x512x256.size ((k0_off8_inb qi j hw))))) ((k0_pay61 (window (s := S2x512x512) x10 (k0_off10 qi j) S1x512x512.size ((k0_off10_inb qi j hw))))) (window (s := S1x2048x1024) x3 (k0_off13 qi j) S1x512x256.size ((k0_off13_inb qi j hw)))))),
    k0_pay88 ((k0_pay59 (window (s := S1x2048x1024) x2 (k0_off9 qi j) S1x512x256.size ((k0_off9_inb qi j hw))))) ((k0_pay61 (window (s := S2x512x512) x10 (k0_off10 qi j) S1x512x512.size ((k0_off10_inb qi j hw))))) (window (s := S1x2048x1024) x3 (k0_off14 qi j) S1x512x256.size ((k0_off14_inb qi j hw))),
    ((k0_pay91 ((k0_pay60 (window (s := S1x2048x1024) x2 (k0_off9 qi j) S1x512x256.size ((k0_off9_inb qi j hw))))) ((k0_pay61 (window (s := S2x512x512) x10 (k0_off10 qi j) S1x512x512.size ((k0_off10_inb qi j hw))))) (window (s := S1x2048x1024) x3 (k0_off14 qi j) S1x512x256.size ((k0_off14_inb qi j hw)))))]

/-- After a trip: the running maxima, by heads. -/
def tripM (j : BitVec 32) (x7 : Fin 8 → Vec F S1x512x128 .f32) (x8 : Fin 8 → Vec F S1x512x128 .f32) : Fin 8 → Vec F S1x512x128 .f32 :=
  ![k0_pay14 ((k0_pay11 j (x8 0) (x7 0))),
    k0_pay17 ((k0_pay8 (F := F) j)) (x8 1) (x7 1),
    k0_pay24 ((k0_pay8 (F := F) j)) (x8 2) (x7 2),
    k0_pay28 ((k0_pay26 ((k0_pay8 (F := F) j)) (x8 3) (x7 3))),
    k0_pay33 ((k0_pay31 ((k0_pay8 (F := F) j)) (x8 4))) (x7 4),
    k0_pay36 ((k0_pay8 (F := F) j)) (x8 5) (x7 5),
    k0_pay45 ((k0_pay42 ((k0_pay8 (F := F) j)) (x8 6) (x7 6))),
    k0_pay48 ((k0_pay8 (F := F) j)) (x8 7) (x7 7)]

/-- After a trip: the accumulators, by pairs of heads. -/
def tripA (v2 : IVec S1x128 1) (v9 : FVec F S512x128 .bf16) (v15 : FVec F S512x128 .bf16) (x4 : Vec F S1x2048x512 .bf16) (qi j : BitVec 32) (hw : k0_chk1 qi j) (x6 : Fin 8 → Vec F S1x512x512 .f32) (x7 : Fin 8 → Vec F S1x512x128 .f32) (x8 : Fin 8 → Vec F S1x512x128 .f32) (x9 : Fin 4 → Vec F S1x512x256 .f32) : Fin 4 → Vec F S1x512x256 .f32 :=
  ![k0_pay18 v2 ((k0_pay8 (F := F) j)) ((k0_pay9 v2 v9 v15 (window (s := S1x2048x512) x4 (k0_off2 j) S1x512x128.size ((k0_off2_inb qi j hw))))) ((k0_pay12 j (x8 0) (x7 0))) ((k0_pay13 j (x8 0) (x7 0) (x6 0))) (x8 1) (x7 1) (x6 1) (x9 0),
    k0_pay29 v2 ((k0_pay19 v2 v9 v15 (window (s := S1x2048x512) x4 (k0_off3 j) S1x512x128.size ((k0_off3_inb qi j hw))))) ((k0_pay22 ((k0_pay8 (F := F) j)) (x8 2) (x7 2))) ((k0_pay23 ((k0_pay8 (F := F) j)) (x8 2) (x7 2) (x6 2))) ((k0_pay26 ((k0_pay8 (F := F) j)) (x8 3) (x7 3))) ((k0_pay27 ((k0_pay8 (F := F) j)) (x8 3) (x7 3))) (x6 3) (x9 1),
    k0_pay39 ((k0_pay37 ((k0_pay8 (F := F) j)) ((k0_pay30 v2 v9 v15 (window (s := S1x2048x512) x4 (k0_off4 j) S1x512x128.size ((k0_off4_inb qi j hw))))) ((k0_pay31 ((k0_pay8 (F := F) j)) (x8 4))) (x7 4) (x6 4) (x8 5) (x7 5) (x6 5))) ((k0_pay38 v2 ((k0_pay8 (F := F) j)) ((k0_pay31 ((k0_pay8 (F := F) j)) (x8 4))) (x7 4) (x8 5) (x7 5))) (x9 2),
    k0_pay49 v2 ((k0_pay8 (F := F) j)) ((k0_pay40 v2 v9 v15 (window (s := S1x2048x512) x4 (k0_off5 j) S1x512x128.size ((k0_off5_inb qi j hw))))) ((k0_pay43 ((k0_pay8 (F := F) j)) (x8 6) (x7 6))) ((k0_pay44 ((k0_pay8 (F := F) j)) (x8 6) (x7 6) (x6 6))) (x8 7) (x7 7) (x6 7) (x9 3)]

/-- The tile pair the next trip works on. -/
def tripNext (qi j : BitVec 32) : BitVec 32 × BitVec 32 :=
  (((Scalar.select (Scalar.cmpi .eq j qi) (Scalar.addi qi 1#32) qi)), ((Scalar.select (Scalar.cmpi .eq j qi) 0#32 (Scalar.addi j 1#32))))

/-- The output block after the last trip of a row of tiles, from the accumulators. -/
def tripO (qi j : BitVec 32) (x5 : Vec F S1x2048x512 .bf16) (x9 : Fin 4 → Vec F S1x512x256 .f32) : Vec F S1x2048x512 .bf16 :=
  put (s := S1x2048x512) (put (s := S1x2048x512) (put (s := S1x2048x512) (put (s := S1x2048x512) x5 (k0_off15 qi) S1x512x128.size (k0_pay4 (x9 0))) (k0_off16 qi) S1x512x128.size (k0_pay5 (x9 1))) (k0_off17 qi) S1x512x128.size (k0_pay6 (x9 2))) (k0_off18 qi) S1x512x128.size (k0_pay141 (k0_pay7 (x9 3)))

set_option maxHeartbeats 2000000 in
/-- One trip: the tile pair `(qi, j)` in, its scores folded into the running maxima and accumulators, the next pair's
    scores and maxima computed, and, at the end of a row of tiles, the quotient written out. -/
theorem trip_run (c : Dev nD) (i : grid0.Coords)
  (arg2 : Memref sig .tc .vmem S1x2048x1024 .bf16) (harg2 : arg2.IsWhole)
  (arg3 : Memref sig .tc .vmem S1x2048x1024 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S8x512x512 .f32) (harg6 : arg6.IsWhole)
  (arg7 : Memref sig .tc .vmem S8x512x128 .f32) (harg7 : arg7.IsWhole)
  (arg8 : Memref sig .tc .vmem S8x512x128 .f32) (harg8 : arg8.IsWhole)
  (arg9 : Memref sig .tc .vmem S4x512x256 .f32) (harg9 : arg9.IsWhole)
  (arg10 : Memref sig .tc .vmem S2x512x512 .f32) (harg10 : arg10.IsWhole)
  (v2 : IVec S1x128 1) (v9 : FVec F S512x128 .bf16) (v15 : FVec F S512x128 .bf16) (v41 : FVec F S512x128 .bf16) (v46 : FVec F S512x512 .f32) (v136 : FVec F S512x256 .bf16) (v139 : FVec F S512x512 .f32)
  (k : Fin k0_t1_loop.trips) (qi j : BitVec 32) (hw : k0_chk1 qi j)
  (x2 : Vec F S1x2048x1024 .bf16) (x3 : Vec F S1x2048x1024 .bf16) (x4 : Vec F S1x2048x512 .bf16) (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32) (x10 : Vec F S2x512x512 .f32)
  {Q : BitVec 32 × BitVec 32 → sProp (MT nD τ sig Unit (Elt F) ℕ (UR sig nD τ) ℕ)}
  (H1 : ∀ hc : k0_cond2 qi j = 1#1, (Own (c := (c : Thread nD τ)) arg2 arg3 arg4 arg5 arg6 arg7 arg8 arg9 arg10 x2 x3 x4 (tripO qi j x5 (tripA v2 v9 v15 x4 qi j hw x6 x7 x8 x9)) (tripS x2 x3 x10 qi j hw) (tripMC x2 x3 x10 qi j hw) (tripM j x7 x8) (tripA v2 v9 v15 x4 qi j hw x6 x7 x8 x9) x10 : sProp (MT nD τ sig Unit (Elt F) ℕ (UR sig nD τ) ℕ)) ⊢ Q (tripNext qi j))
  (H2 : ¬ (k0_cond2 qi j = 1#1) → (Own (c := (c : Thread nD τ)) arg2 arg3 arg4 arg5 arg6 arg7 arg8 arg9 arg10 x2 x3 x4 x5 (tripS x2 x3 x10 qi j hw) (tripMC x2 x3 x10 qi j hw) (tripM j x7 x8) (tripA v2 v9 v15 x4 qi j hw x6 x7 x8 x9) x10 : sProp (MT nD τ sig Unit (Elt F) ℕ (UR sig nD τ) ℕ)) ⊢ Q (tripNext qi j)) :
  (Own (c := (c : Thread nD τ)) arg2 arg3 arg4 arg5 arg6 arg7 arg8 arg9 arg10 x2 x3 x4 x5 x6 x7 x8 x9 x10 : sProp (MT nD τ sig Unit (Elt F) ℕ (UR sig nD τ) ℕ)) ⊢ wp frame (wpE (defs₀ (F := F)) Variants.none (c : Thread nD τ) none) Set.univ (k0_t1_body i arg2 harg2 arg3 harg3 arg4 harg4 arg5 harg5 arg6 harg6 arg7 harg7 arg8 harg8 arg9 harg9 arg10 harg10 v2 v9 v15 v41 v46 v136 v139 k (qi, j)) Q := by
  unfold k0_t1_body
  refine bind_step ?_
  rw [k0_part2_eq_skeleton]; unfold k0_part2_skel
  refine assume_step hw ?_
  refine ld4 ?_
  refine ld8 0 (by rfl) ?_
  refine ld7 0 (by rfl) ?_
  refine ld6 0 (by rfl) ?_
  refine ret_step ?_
  refine bind_step ?_
  rw [k0_part3_eq_skeleton]; unfold k0_part3_skel
  refine ld8 0 (by rfl) ?_
  refine st8 0 (by rfl) ?_
  refine ld8' 1 (by rfl) (x8 1) (by rfl) ?_
  refine ld7 1 (by rfl) ?_
  refine ld6 1 (by rfl) ?_
  refine ld8' 1 (by rfl) (x8 1) (by rfl) ?_
  refine st8 1 (by rfl) ?_
  refine ld9 0 (by rfl) ?_
  refine ld9 0 (by rfl) ?_
  refine st9 0 (by rfl) ?_
  refine ret_step ?_
  refine bind_step ?_
  rw [k0_part4_eq_skeleton]; unfold k0_part4_skel
  refine ld4 ?_
  refine ld8' 2 (by rfl) (x8 2) (by rfl) ?_
  refine ld7 2 (by rfl) ?_
  refine ld6 2 (by rfl) ?_
  refine ld8' 2 (by rfl) (x8 2) (by rfl) ?_
  refine st8 2 (by rfl) ?_
  refine ld8' 3 (by rfl) (x8 3) (by rfl) ?_
  refine ld7 3 (by rfl) ?_
  refine ret_step ?_
  refine bind_step ?_
  rw [k0_part5_eq_skeleton]; unfold k0_part5_skel
  refine ld6 3 (by rfl) ?_
  refine ld8' 3 (by rfl) (x8 3) (by rfl) ?_
  refine st8 3 (by rfl) ?_
  refine ld9' 1 (by rfl) (x9 1) (by rfl) ?_
  refine ld9' 1 (by rfl) (x9 1) (by rfl) ?_
  refine st9 1 (by rfl) ?_
  refine ld4 ?_
  refine ld8' 4 (by rfl) (x8 4) (by rfl) ?_
  refine ret_step ?_
  refine bind_step ?_
  rw [k0_part6_eq_skeleton]; unfold k0_part6_skel
  refine ld7 4 (by rfl) ?_
  refine ld6 4 (by rfl) ?_
  refine ld8' 4 (by rfl) (x8 4) (by rfl) ?_
  refine st8 4 (by rfl) ?_
  refine ld8' 5 (by rfl) (x8 5) (by rfl) ?_
  refine ld7 5 (by rfl) ?_
  refine ld6 5 (by rfl) ?_
  refine ld8' 5 (by rfl) (x8 5) (by rfl) ?_
  refine st8 5 (by rfl) ?_
  refine ret_step ?_
  refine bind_step ?_
  rw [k0_part7_eq_skeleton]; unfold k0_part7_skel
  refine ld9' 2 (by rfl) (x9 2) (by rfl) ?_
  refine ld9' 2 (by rfl) (x9 2) (by rfl) ?_
  refine st9 2 (by rfl) ?_
  refine ld4 ?_
  refine ld8' 6 (by rfl) (x8 6) (by rfl) ?_
  refine ld7 6 (by rfl) ?_
  refine ld6 6 (by rfl) ?_
  refine ld8' 6 (by rfl) (x8 6) (by rfl) ?_
  refine ret_step ?_
  refine bind_step ?_
  rw [k0_part8_eq_skeleton]; unfold k0_part8_skel
  refine st8 6 (by rfl) ?_
  refine ld8' 7 (by rfl) (x8 7) (by rfl) ?_
  refine ld7 7 (by rfl) ?_
  refine ld6 7 (by rfl) ?_
  refine ld8' 7 (by rfl) (x8 7) (by rfl) ?_
  refine st8 7 (by rfl) ?_
  refine ld9' 3 (by rfl) (x9 3) (by rfl) ?_
  refine ld9' 3 (by rfl) (x9 3) (by rfl) ?_
  refine st9 3 (by rfl) ?_
  refine ret_step ?_
  refine bind_step ?_
  rw [k0_part9_eq_skeleton]; unfold k0_part9_skel
  refine ld2 ?_
  refine ld2 ?_
  refine ld2 ?_
  refine ld2 ?_
  refine ld10 ?_
  refine ld3 ?_
  refine ld6 0 (by rfl) ?_
  refine st6 0 (by rfl) ?_
  refine ret_step ?_
  refine bind_step ?_
  rw [k0_part10_eq_skeleton]; unfold k0_part10_skel
  refine ld7 0 (by rfl) ?_
  refine st7 0 (by rfl) ?_
  refine ld6' 1 (by rfl) (x6 1) (by rfl) ?_
  refine st6 1 (by rfl) ?_
  refine ld7' 1 (by rfl) (x7 1) (by rfl) ?_
  refine st7 1 (by rfl) ?_
  refine ld3 ?_
  refine ld6' 2 (by rfl) (x6 2) (by rfl) ?_
  refine st6 2 (by rfl) ?_
  refine ld7' 2 (by rfl) (x7 2) (by rfl) ?_
  refine st7 2 (by rfl) ?_
  refine ret_step ?_
  refine bind_step ?_
  rw [k0_part11_eq_skeleton]; unfold k0_part11_skel
  refine ld6' 3 (by rfl) (x6 3) (by rfl) ?_
  refine st6 3 (by rfl) ?_
  refine ld7' 3 (by rfl) (x7 3) (by rfl) ?_
  refine st7 3 (by rfl) ?_
  refine ld3 ?_
  refine ld6' 4 (by rfl) (x6 4) (by rfl) ?_
  refine st6 4 (by rfl) ?_
  refine ld7' 4 (by rfl) (x7 4) (by rfl) ?_
  refine st7 4 (by rfl) ?_
  refine ld6' 5 (by rfl) (x6 5) (by rfl) ?_
  refine st6 5 (by rfl) ?_
  refine ret_step ?_
  refine bind_step ?_
  rw [k0_part12_eq_skeleton]; unfold k0_part12_skel
  refine ld7' 5 (by rfl) (x7 5) (by rfl) ?_
  refine st7 5 (by rfl) ?_
  refine ld3 ?_
  refine ld6' 6 (by rfl) (x6 6) (by rfl) ?_
  refine st6 6 (by rfl) ?_
  refine ld7' 6 (by rfl) (x7 6) (by rfl) ?_
  refine st7 6 (by rfl) ?_
  refine ld6' 7 (by rfl) (x6 7) (by rfl) ?_
  refine st6 7 (by rfl) ?_
  refine ld7' 7 (by rfl) (x7 7) (by rfl) ?_
  refine ret_step ?_
  refine st7 7 (by rfl) ?_
  refine if_step ?_ ?_
  · intro hc
    rw [upd8, upd8, upd8, upd4]
    refine bind_step ?_
    rw [k0_part1_eq_skeleton]; unfold k0_part1_skel
    refine ld9' 0 (by rfl) (k0_pay18 v2 ((k0_pay8 (F := F) j)) ((k0_pay9 v2 v9 v15 (window (s := S1x2048x512) x4 (k0_off2 j) S1x512x128.size ((k0_off2_inb qi j hw))))) ((k0_pay12 j (x8 0) (x7 0))) ((k0_pay13 j (x8 0) (x7 0) (x6 0))) (x8 1) (x7 1) (x6 1) (x9 0)) (by rfl) ?_
    refine ld5 ?_
    refine st5 ?_
    refine ld9' 1 (by rfl) (k0_pay29 v2 ((k0_pay19 v2 v9 v15 (window (s := S1x2048x512) x4 (k0_off3 j) S1x512x128.size ((k0_off3_inb qi j hw))))) ((k0_pay22 ((k0_pay8 (F := F) j)) (x8 2) (x7 2))) ((k0_pay23 ((k0_pay8 (F := F) j)) (x8 2) (x7 2) (x6 2))) ((k0_pay26 ((k0_pay8 (F := F) j)) (x8 3) (x7 3))) ((k0_pay27 ((k0_pay8 (F := F) j)) (x8 3) (x7 3))) (x6 3) (x9 1)) (by rfl) ?_
    refine ld5 ?_
    refine st5 ?_
    refine ld9' 2 (by rfl) (k0_pay39 ((k0_pay37 ((k0_pay8 (F := F) j)) ((k0_pay30 v2 v9 v15 (window (s := S1x2048x512) x4 (k0_off4 j) S1x512x128.size ((k0_off4_inb qi j hw))))) ((k0_pay31 ((k0_pay8 (F := F) j)) (x8 4))) (x7 4) (x6 4) (x8 5) (x7 5) (x6 5))) ((k0_pay38 v2 ((k0_pay8 (F := F) j)) ((k0_pay31 ((k0_pay8 (F := F) j)) (x8 4))) (x7 4) (x8 5) (x7 5))) (x9 2)) (by rfl) ?_
    refine ld5 ?_
    refine st5 ?_
    refine ld9' 3 (by rfl) (k0_pay49 v2 ((k0_pay8 (F := F) j)) ((k0_pay40 v2 v9 v15 (window (s := S1x2048x512) x4 (k0_off5 j) S1x512x128.size ((k0_off5_inb qi j hw))))) ((k0_pay43 ((k0_pay8 (F := F) j)) (x8 6) (x7 6))) ((k0_pay44 ((k0_pay8 (F := F) j)) (x8 6) (x7 6) (x6 6))) (x8 7) (x7 7) (x6 7) (x9 3)) (by rfl) ?_
    refine ret_step ?_
    refine ld5 ?_
    refine st5 ?_
    refine ret_step ?_
    exact H1 hc
  · intro hc
    rw [upd8, upd8, upd8, upd4]
    refine ret_step ?_
    exact H2 hc

end Cert.Proof.KernelIdeal
-- ==== Proof.RunKernelIdeal.lean ====
module

public import proofs.«01_k».proof.Proof.TripKernelIdeal

@[expose] public section

set_option maxRecDepth 16384

noncomputable section

namespace Cert.Proof.KernelIdeal

open Cert.KernelIdeal Cert.KernelIdeal.Gen Cert.Mem
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

/-! ## Before and after the loop -/

/-- The scores of the first tile pair, by heads. -/
def firstS (x2 : Vec F S1x2048x1024 .bf16) (x3 : Vec F S1x2048x1024 .bf16) (y10 : Vec F S2x512x512 .f32) : Fin 8 → Vec F S1x512x512 .f32 :=
  ![k0_pay114 ((k0_pay100 (window (s := S1x2048x1024) x2 ![0, 0, 0] S1x512x256.size (inb_S1x2048x1024_S1x512x256_0_0_0)))) (window (s := S2x512x512) y10 k0_off1 S1x512x512.size (k0_off1_inb)) (window (s := S1x2048x1024) x3 ![0, 0, 0] S1x512x256.size (inb_S1x2048x1024_S1x512x256_0_0_0)),
    k0_pay117 ((k0_pay101 (window (s := S1x2048x1024) x2 ![0, 0, 0] S1x512x256.size (inb_S1x2048x1024_S1x512x256_0_0_0)))) (window (s := S2x512x512) y10 k0_off1 S1x512x512.size (k0_off1_inb)) (window (s := S1x2048x1024) x3 ![0, 0, 0] S1x512x256.size (inb_S1x2048x1024_S1x512x256_0_0_0)),
    k0_pay122 ((k0_pay103 (window (s := S1x2048x1024) x2 ![0, 0, 256] S1x512x256.size (inb_S1x2048x1024_S1x512x256_0_0_256)))) ((k0_pay111 (window (s := S2x512x512) y10 k0_off1 S1x512x512.size (k0_off1_inb)))) (window (s := S1x2048x1024) x3 ![0, 0, 256] S1x512x256.size (inb_S1x2048x1024_S1x512x256_0_0_256)),
    k0_pay125 ((k0_pay104 (window (s := S1x2048x1024) x2 ![0, 0, 256] S1x512x256.size (inb_S1x2048x1024_S1x512x256_0_0_256)))) ((k0_pay111 (window (s := S2x512x512) y10 k0_off1 S1x512x512.size (k0_off1_inb)))) (window (s := S1x2048x1024) x3 ![0, 0, 256] S1x512x256.size (inb_S1x2048x1024_S1x512x256_0_0_256)),
    k0_pay129 ((k0_pay106 (window (s := S1x2048x1024) x2 ![0, 0, 512] S1x512x256.size (inb_S1x2048x1024_S1x512x256_0_0_512)))) ((k0_pay111 (window (s := S2x512x512) y10 k0_off1 S1x512x512.size (k0_off1_inb)))) (window (s := S1x2048x1024) x3 ![0, 0, 512] S1x512x256.size (inb_S1x2048x1024_S1x512x256_0_0_512)),
    k0_pay132 ((k0_pay107 (window (s := S1x2048x1024) x2 ![0, 0, 512] S1x512x256.size (inb_S1x2048x1024_S1x512x256_0_0_512)))) ((k0_pay111 (window (s := S2x512x512) y10 k0_off1 S1x512x512.size (k0_off1_inb)))) (window (s := S1x2048x1024) x3 ![0, 0, 512] S1x512x256.size (inb_S1x2048x1024_S1x512x256_0_0_512)),
    k0_pay136 (k0_pay135 ((k0_pay109 (window (s := S1x2048x1024) x2 ![0, 0, 768] S1x512x256.size (inb_S1x2048x1024_S1x512x256_0_0_768)))) ((k0_pay111 (window (s := S2x512x512) y10 k0_off1 S1x512x512.size (k0_off1_inb)))) (window (s := S1x2048x1024) x3 ![0, 0, 768] S1x512x256.size (inb_S1x2048x1024_S1x512x256_0_0_768))),
    k0_pay139 (k0_pay110 (window (s := S1x2048x1024) x2 ![0, 0, 768] S1x512x256.size (inb_S1x2048x1024_S1x512x256_0_0_768))) (k0_pay111 (window (s := S2x512x512) y10 k0_off1 S1x512x512.size (k0_off1_inb))) (k0_pay134 (window (s := S1x2048x1024) x3 ![0, 0, 768] S1x512x256.size (inb_S1x2048x1024_S1x512x256_0_0_768)))]

/-- Their row maxima, by heads. -/
def firstMC (x2 : Vec F S1x2048x1024 .bf16) (x3 : Vec F S1x2048x1024 .bf16) (y10 : Vec F S2x512x512 .f32) : Fin 8 → Vec F S1x512x128 .f32 :=
  ![k0_pay115 ((k0_pay100 (window (s := S1x2048x1024) x2 ![0, 0, 0] S1x512x256.size (inb_S1x2048x1024_S1x512x256_0_0_0)))) (window (s := S2x512x512) y10 k0_off1 S1x512x512.size (k0_off1_inb)) (window (s := S1x2048x1024) x3 ![0, 0, 0] S1x512x256.size (inb_S1x2048x1024_S1x512x256_0_0_0)),
    k0_pay119 ((k0_pay118 ((k0_pay101 (window (s := S1x2048x1024) x2 ![0, 0, 0] S1x512x256.size (inb_S1x2048x1024_S1x512x256_0_0_0)))) (window (s := S2x512x512) y10 k0_off1 S1x512x512.size (k0_off1_inb)) (window (s := S1x2048x1024) x3 ![0, 0, 0] S1x512x256.size (inb_S1x2048x1024_S1x512x256_0_0_0)))),
    k0_pay123 ((k0_pay103 (window (s := S1x2048x1024) x2 ![0, 0, 256] S1x512x256.size (inb_S1x2048x1024_S1x512x256_0_0_256)))) ((k0_pay111 (window (s := S2x512x512) y10 k0_off1 S1x512x512.size (k0_off1_inb)))) (window (s := S1x2048x1024) x3 ![0, 0, 256] S1x512x256.size (inb_S1x2048x1024_S1x512x256_0_0_256)),
    k0_pay126 ((k0_pay104 (window (s := S1x2048x1024) x2 ![0, 0, 256] S1x512x256.size (inb_S1x2048x1024_S1x512x256_0_0_256)))) ((k0_pay111 (window (s := S2x512x512) y10 k0_off1 S1x512x512.size (k0_off1_inb)))) (window (s := S1x2048x1024) x3 ![0, 0, 256] S1x512x256.size (inb_S1x2048x1024_S1x512x256_0_0_256)),
    k0_pay130 ((k0_pay106 (window (s := S1x2048x1024) x2 ![0, 0, 512] S1x512x256.size (inb_S1x2048x1024_S1x512x256_0_0_512)))) ((k0_pay111 (window (s := S2x512x512) y10 k0_off1 S1x512x512.size (k0_off1_inb)))) (window (s := S1x2048x1024) x3 ![0, 0, 512] S1x512x256.size (inb_S1x2048x1024_S1x512x256_0_0_512)),
    k0_pay133 ((k0_pay107 (window (s := S1x2048x1024) x2 ![0, 0, 512] S1x512x256.size (inb_S1x2048x1024_S1x512x256_0_0_512)))) ((k0_pay111 (window (s := S2x512x512) y10 k0_off1 S1x512x512.size (k0_off1_inb)))) (window (s := S1x2048x1024) x3 ![0, 0, 512] S1x512x256.size (inb_S1x2048x1024_S1x512x256_0_0_512)),
    k0_pay137 (k0_pay135 ((k0_pay109 (window (s := S1x2048x1024) x2 ![0, 0, 768] S1x512x256.size (inb_S1x2048x1024_S1x512x256_0_0_768)))) ((k0_pay111 (window (s := S2x512x512) y10 k0_off1 S1x512x512.size (k0_off1_inb)))) (window (s := S1x2048x1024) x3 ![0, 0, 768] S1x512x256.size (inb_S1x2048x1024_S1x512x256_0_0_768))),
    k0_pay140 (k0_pay110 (window (s := S1x2048x1024) x2 ![0, 0, 768] S1x512x256.size (inb_S1x2048x1024_S1x512x256_0_0_768))) (k0_pay111 (window (s := S2x512x512) y10 k0_off1 S1x512x512.size (k0_off1_inb))) (k0_pay134 (window (s := S1x2048x1024) x3 ![0, 0, 768] S1x512x256.size (inb_S1x2048x1024_S1x512x256_0_0_768)))]

/-- The running maxima after the last tile pair, by heads. -/
def lastM (x7 : Fin 8 → Vec F S1x512x128 .f32) (x8 : Fin 8 → Vec F S1x512x128 .f32) : Fin 8 → Vec F S1x512x128 .f32 :=
  ![k0_pay151 ((k0_pay142 (F := F))) (x8 0) (x7 0),
    k0_pay157 ((k0_pay153 ((k0_pay142 (F := F))) (x8 1) (x7 1))),
    k0_pay162 ((k0_pay161 ((k0_pay142 (F := F))) (x8 2) (x7 2))),
    k0_pay165 ((k0_pay142 (F := F))) (x8 3) (x7 3),
    k0_pay175 ((k0_pay142 (F := F))) (x8 4) (x7 4),
    k0_pay178 ((k0_pay142 (F := F))) (x8 5) (x7 5),
    k0_pay188 ((k0_pay142 (F := F))) (x8 6) (x7 6),
    k0_pay193 ((k0_pay190 ((k0_pay142 (F := F))) (x8 7) (x7 7)))]

/-- The accumulators after the last tile pair, by pairs of heads. -/
def lastA (x4 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32) : Fin 4 → Vec F S1x512x256 .f32 :=
  ![k0_pay158 k0_pay92 ((k0_pay146 k0_pay92 ((k0_pay93 (F := F))) ((k0_pay94 (F := F))) ((k0_pay143 (window (s := S1x2048x512) x4 ![0, 1536, 0] S1x512x128.size (inb_S1x2048x512_S1x512x128_0_1536_0)))) ((k0_pay144 (F := F))) ((k0_pay145 k0_pay92)))) ((k0_pay149 ((k0_pay142 (F := F))) (x8 0) (x7 0))) ((k0_pay150 ((k0_pay142 (F := F))) (x8 0) (x7 0) (x6 0))) ((k0_pay154 ((k0_pay142 (F := F))) (x8 1) (x7 1))) ((k0_pay155 (x6 1))) ((k0_pay156 ((k0_pay142 (F := F))) (x8 1) (x7 1))) (x9 0),
    k0_pay169 ((k0_pay166 ((k0_pay142 (F := F))) ((k0_pay159 k0_pay92 ((k0_pay93 (F := F))) ((k0_pay94 (F := F))) (window (s := S1x2048x512) x4 ![0, 1536, 128] S1x512x128.size (inb_S1x2048x512_S1x512x128_0_1536_128)))) ((k0_pay161 ((k0_pay142 (F := F))) (x8 2) (x7 2))) (x6 2) (x8 3) (x7 3) (x6 3))) ((k0_pay167 k0_pay92 ((k0_pay142 (F := F))) ((k0_pay160 ((k0_pay142 (F := F))) (x8 2))) ((k0_pay161 ((k0_pay142 (F := F))) (x8 2) (x7 2))) (x8 3) (x7 3))) ((k0_pay168 (x9 1))),
    k0_pay179 k0_pay92 ((k0_pay142 (F := F))) ((k0_pay170 k0_pay92 ((k0_pay93 (F := F))) ((k0_pay94 (F := F))) (window (s := S1x2048x512) x4 ![0, 1536, 256] S1x512x128.size (inb_S1x2048x512_S1x512x128_0_1536_256)))) ((k0_pay173 ((k0_pay142 (F := F))) (x8 4) (x7 4))) ((k0_pay174 ((k0_pay142 (F := F))) (x8 4) (x7 4) (x6 4))) (x8 5) (x7 5) (x6 5) (x9 2),
    k0_pay194 k0_pay92 ((k0_pay183 k0_pay92 ((k0_pay94 (F := F))) ((k0_pay180 (window (s := S1x2048x512) x4 ![0, 1536, 384] S1x512x128.size (inb_S1x2048x512_S1x512x128_0_1536_384)))) ((k0_pay181 (F := F))) ((k0_pay182 k0_pay92 ((k0_pay93 (F := F))) (window (s := S1x2048x512) x4 ![0, 1536, 384] S1x512x128.size (inb_S1x2048x512_S1x512x128_0_1536_384)))))) ((k0_pay186 ((k0_pay142 (F := F))) (x8 6) (x7 6))) ((k0_pay187 ((k0_pay142 (F := F))) (x8 6) (x7 6) (x6 6))) ((k0_pay191 ((k0_pay142 (F := F))) (x8 7) (x7 7))) ((k0_pay192 ((k0_pay142 (F := F))) (x8 7) (x7 7) (x6 7))) (x9 3)]

/-- The output block after the last row of tiles. -/
def lastO (x4 : Vec F S1x2048x512 .bf16) (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32) : Vec F S1x2048x512 .bf16 :=
  put (s := S1x2048x512) (put (s := S1x2048x512) (put (s := S1x2048x512) (put (s := S1x2048x512) x5 ![0, 1536, 0] S1x512x128.size (k0_pay195 (k0_pay158 k0_pay92 ((k0_pay146 k0_pay92 ((k0_pay93 (F := F))) ((k0_pay94 (F := F))) ((k0_pay143 (window (s := S1x2048x512) x4 ![0, 1536, 0] S1x512x128.size (inb_S1x2048x512_S1x512x128_0_1536_0)))) ((k0_pay144 (F := F))) ((k0_pay145 k0_pay92)))) ((k0_pay149 ((k0_pay142 (F := F))) (x8 0) (x7 0))) ((k0_pay150 ((k0_pay142 (F := F))) (x8 0) (x7 0) (x6 0))) ((k0_pay154 ((k0_pay142 (F := F))) (x8 1) (x7 1))) ((k0_pay155 (x6 1))) ((k0_pay156 ((k0_pay142 (F := F))) (x8 1) (x7 1))) (x9 0)))) ![0, 1536, 128] S1x512x128.size (k0_pay1 (k0_pay196 (k0_pay169 ((k0_pay166 ((k0_pay142 (F := F))) ((k0_pay159 k0_pay92 ((k0_pay93 (F := F))) ((k0_pay94 (F := F))) (window (s := S1x2048x512) x4 ![0, 1536, 128] S1x512x128.size (inb_S1x2048x512_S1x512x128_0_1536_128)))) ((k0_pay161 ((k0_pay142 (F := F))) (x8 2) (x7 2))) (x6 2) (x8 3) (x7 3) (x6 3))) ((k0_pay167 k0_pay92 ((k0_pay142 (F := F))) ((k0_pay160 ((k0_pay142 (F := F))) (x8 2))) ((k0_pay161 ((k0_pay142 (F := F))) (x8 2) (x7 2))) (x8 3) (x7 3))) ((k0_pay168 (x9 1))))))) ![0, 1536, 256] S1x512x128.size (k0_pay2 (k0_pay179 k0_pay92 ((k0_pay142 (F := F))) ((k0_pay170 k0_pay92 ((k0_pay93 (F := F))) ((k0_pay94 (F := F))) (window (s := S1x2048x512) x4 ![0, 1536, 256] S1x512x128.size (inb_S1x2048x512_S1x512x128_0_1536_256)))) ((k0_pay173 ((k0_pay142 (F := F))) (x8 4) (x7 4))) ((k0_pay174 ((k0_pay142 (F := F))) (x8 4) (x7 4) (x6 4))) (x8 5) (x7 5) (x6 5) (x9 2)))) ![0, 1536, 384] S1x512x128.size (k0_pay3 (k0_pay194 k0_pay92 ((k0_pay183 k0_pay92 ((k0_pay94 (F := F))) ((k0_pay180 (window (s := S1x2048x512) x4 ![0, 1536, 384] S1x512x128.size (inb_S1x2048x512_S1x512x128_0_1536_384)))) ((k0_pay181 (F := F))) ((k0_pay182 k0_pay92 ((k0_pay93 (F := F))) (window (s := S1x2048x512) x4 ![0, 1536, 384] S1x512x128.size (inb_S1x2048x512_S1x512x128_0_1536_384)))))) ((k0_pay186 ((k0_pay142 (F := F))) (x8 6) (x7 6))) ((k0_pay187 ((k0_pay142 (F := F))) (x8 6) (x7 6) (x6 6))) ((k0_pay191 ((k0_pay142 (F := F))) (x8 7) (x7 7))) ((k0_pay192 ((k0_pay142 (F := F))) (x8 7) (x7 7) (x6 7))) (x9 3)))

/-- Whether the grid point is the first. -/
def firstPoint (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The two mask tiles over whatever the buffer held. -/
def maskPut (x10 : Vec F S2x512x512 .f32) : Vec F S2x512x512 .f32 :=
  put (s := S2x512x512) (put (s := S2x512x512) x10 ![0, 0, 0] S1x512x512.size (k0_pay97 (F := F))) ![1, 0, 0] S1x512x512.size (k0_pay98 (F := F))

set_option maxHeartbeats 2000000 in
/-- The kernel at a grid point, by a fact `P` about what the buffers hold before each trip. -/
theorem kernel_run (c : Dev nD) (i : grid0.Coords)
  (arg2 : Memref sig .tc .vmem S1x2048x1024 .bf16) (harg2 : arg2.IsWhole)
  (arg3 : Memref sig .tc .vmem S1x2048x1024 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S8x512x512 .f32) (harg6 : arg6.IsWhole)
  (arg7 : Memref sig .tc .vmem S8x512x128 .f32) (harg7 : arg7.IsWhole)
  (arg8 : Memref sig .tc .vmem S8x512x128 .f32) (harg8 : arg8.IsWhole)
  (arg9 : Memref sig .tc .vmem S4x512x256 .f32) (harg9 : arg9.IsWhole)
  (arg10 : Memref sig .tc .vmem S2x512x512 .f32) (harg10 : arg10.IsWhole)
  (x2 : Vec F S1x2048x1024 .bf16) (x3 : Vec F S1x2048x1024 .bf16) (x4 : Vec F S1x2048x512 .bf16) (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32) (x10 : Vec F S2x512x512 .f32)
  (P : (Vec F S2x512x512 .f32) → ℕ → BitVec 32 × BitVec 32 → (Vec F S1x2048x512 .bf16) → (Fin 8 → Vec F S1x512x512 .f32) → (Fin 8 → Vec F S1x512x128 .f32) → (Fin 8 → Vec F S1x512x128 .f32) → (Fin 4 → Vec F S1x512x256 .f32) → Prop)
  (hP : ∀ y8 y9 y10, (firstPoint i → y8 = slabs (k0_pay95 (F := F)) ∧ y9 = slabs (k0_pay96 (F := F)) ∧ y10 = maskPut x10) →
    (¬ firstPoint i → y8 = x8 ∧ y9 = x9 ∧ y10 = x10) → P y10 0 (0#32, 0#32) x5 (firstS x2 x3 y10) (firstMC x2 x3 y10) y8 y9)
  (hstep : ∀ y10 k acc x5 x6 x7 x8 x9, k < 9 → P y10 k acc x5 x6 x7 x8 x9 → ∃ hw : k0_chk1 acc.1 acc.2,
    (k0_cond2 acc.1 acc.2 = 1#1 → P y10 (k + 1) (tripNext acc.1 acc.2) (tripO acc.1 acc.2 x5 (tripA (k0_pay92) (k0_pay93 (F := F)) (k0_pay94 (F := F)) x4 acc.1 acc.2 hw x6 x7 x8 x9)) (tripS x2 x3 y10 acc.1 acc.2 hw) (tripMC x2 x3 y10 acc.1 acc.2 hw) (tripM acc.2 x7 x8) (tripA (k0_pay92) (k0_pay93 (F := F)) (k0_pay94 (F := F)) x4 acc.1 acc.2 hw x6 x7 x8 x9)) ∧
    (¬ (k0_cond2 acc.1 acc.2 = 1#1) → P y10 (k + 1) (tripNext acc.1 acc.2) x5 (tripS x2 x3 y10 acc.1 acc.2 hw) (tripMC x2 x3 y10 acc.1 acc.2 hw) (tripM acc.2 x7 x8) (tripA (k0_pay92) (k0_pay93 (F := F)) (k0_pay94 (F := F)) x4 acc.1 acc.2 hw x6 x7 x8 x9)))
  {Q : PUnit → sProp (MT nD τ sig Unit (Elt F) ℕ (UR sig nD τ) ℕ)}
  (hQ : ∀ y10 acc x5 x6 x7 x8 x9, (firstPoint i → y10 = maskPut x10) → (¬ firstPoint i → y10 = x10) → P y10 9 acc x5 x6 x7 x8 x9 →
    (Own (c := (c : Thread nD τ)) arg2 arg3 arg4 arg5 arg6 arg7 arg8 arg9 arg10 x2 x3 x4 (lastO x4 x5 x6 x7 x8 x9) x6 x7 (lastM x7 x8) (lastA x4 x6 x7 x8 x9) y10 : sProp (MT nD τ sig Unit (Elt F) ℕ (UR sig nD τ) ℕ)) ⊢ Q ⟨⟩) :
  (Own (c := (c : Thread nD τ)) arg2 arg3 arg4 arg5 arg6 arg7 arg8 arg9 arg10 x2 x3 x4 x5 x6 x7 x8 x9 x10 : sProp (MT nD τ sig Unit (Elt F) ℕ (UR sig nD τ) ℕ)) ⊢ wp frame (wpE (defs₀ (F := F)) Variants.none (c : Thread nD τ) none) Set.univ (cc0_mla_attn i arg2 harg2 arg3 harg3 arg4 harg4 arg5 harg5 arg6 harg6 arg7 harg7 arg8 harg8 arg9 harg9 arg10 harg10) Q := by
  have htrips : k0_t1_loop.trips = 9 := by decide
  rw [cc0_mla_attn_eq_skeleton]; unfold cc0_mla_attn_skel
  refine bind_step ?_
  rw [k0_part13_eq_skeleton]; unfold k0_part13_skel
  refine if_step ?_ ?_
  · intro hc
    refine ldw8 fun _ => ?_
    refine stw8 (by rfl) ?_
    refine ldw9 fun _ => ?_
    refine stw9 (by rfl) ?_
    refine ld10 ?_
    refine st10 ?_
    refine ld10 ?_
    refine st10 ?_
    have hy8 : ∃ y, y = slabs (k0_pay95 (F := F)) := ⟨_, rfl⟩
    have hy9 : ∃ y, y = slabs (k0_pay96 (F := F)) := ⟨_, rfl⟩
    have hy10 : ∃ y, y = maskPut x10 := ⟨_, rfl⟩
    obtain ⟨y8, hy8⟩ := hy8
    obtain ⟨y9, hy9⟩ := hy9
    obtain ⟨y10, hy10⟩ := hy10
    unfold maskPut at hy10
    rw [← hy8, ← hy9, ← hy10]
    have h0 := hP y8 y9 y10 (fun _ => ⟨hy8, hy9, hy10⟩) (fun h => absurd hc h)
    have hQ := fun acc x5 x6 x7 x8 x9 => hQ y10 acc x5 x6 x7 x8 x9 (fun _ => hy10) (fun h => absurd hc h)
    clear hP
    refine ld2 ?_
    refine ld2 ?_
    refine ld2 ?_
    refine ret_step ?_
    refine bind_step ?_
    rw [k0_part14_eq_skeleton]; unfold k0_part14_skel
    refine ld2 ?_
    refine ld10 ?_
    refine ld3 ?_
    refine ld6 0 (by rfl) ?_
    refine st6 0 (by rfl) ?_
    refine ld7 0 (by rfl) ?_
    refine st7 0 (by rfl) ?_
    refine ld6' 1 (by rfl) (x6 1) (by rfl) ?_
    refine st6 1 (by rfl) ?_
    refine ret_step ?_
    refine bind_step ?_
    rw [k0_part15_eq_skeleton]; unfold k0_part15_skel
    refine ld7' 1 (by rfl) (x7 1) (by rfl) ?_
    refine st7 1 (by rfl) ?_
    refine ld3 ?_
    refine ld6' 2 (by rfl) (x6 2) (by rfl) ?_
    refine st6 2 (by rfl) ?_
    refine ld7' 2 (by rfl) (x7 2) (by rfl) ?_
    refine st7 2 (by rfl) ?_
    refine ld6' 3 (by rfl) (x6 3) (by rfl) ?_
    refine st6 3 (by rfl) ?_
    refine ld7' 3 (by rfl) (x7 3) (by rfl) ?_
    refine st7 3 (by rfl) ?_
    refine ret_step ?_
    refine bind_step ?_
    rw [k0_part16_eq_skeleton]; unfold k0_part16_skel
    refine ld3 ?_
    refine ld6' 4 (by rfl) (x6 4) (by rfl) ?_
    refine st6 4 (by rfl) ?_
    refine ld7' 4 (by rfl) (x7 4) (by rfl) ?_
    refine st7 4 (by rfl) ?_
    refine ld6' 5 (by rfl) (x6 5) (by rfl) ?_
    refine st6 5 (by rfl) ?_
    refine ld7' 5 (by rfl) (x7 5) (by rfl) ?_
    refine st7 5 (by rfl) ?_
    refine ld3 ?_
    refine ret_step ?_
    refine bind_step ?_
    rw [k0_part17_eq_skeleton]; unfold k0_part17_skel
    refine ld6' 6 (by rfl) (x6 6) (by rfl) ?_
    refine st6 6 (by rfl) ?_
    refine ld7' 6 (by rfl) (x7 6) (by rfl) ?_
    refine st7 6 (by rfl) ?_
    refine ld6' 7 (by rfl) (x6 7) (by rfl) ?_
    refine st6 7 (by rfl) ?_
    refine ld7' 7 (by rfl) (x7 7) (by rfl) ?_
    refine st7 7 (by rfl) ?_
    rw [upd8, upd8]
    refine loop_step (fun k acc => Some (fun s : (Vec F S1x2048x512 .bf16) × (Fin 8 → Vec F S1x512x512 .f32) × (Fin 8 → Vec F S1x512x128 .f32) × (Fin 8 → Vec F S1x512x128 .f32) × (Fin 4 → Vec F S1x512x256 .f32) => P y10 k acc s.1 s.2.1 s.2.2.1 s.2.2.2.1 s.2.2.2.2) (fun s => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ)))) ?_ ?_ ?_
    · exact some_intro (S := fun s : (Vec F S1x2048x512 .bf16) × (Fin 8 → Vec F S1x512x512 .f32) × (Fin 8 → Vec F S1x512x128 .f32) × (Fin 8 → Vec F S1x512x128 .f32) × (Fin 4 → Vec F S1x512x256 .f32) => P y10 0 (0#32, 0#32) s.1 s.2.1 s.2.2.1 s.2.2.2.1 s.2.2.2.2) (O := fun s : (Vec F S1x2048x512 .bf16) × (Fin 8 → Vec F S1x512x512 .f32) × (Fin 8 → Vec F S1x512x128 .f32) × (Fin 8 → Vec F S1x512x128 .f32) × (Fin 4 → Vec F S1x512x256 .f32) => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ))) (x5, firstS x2 x3 y10, firstMC x2 x3 y10, y8, y9) (by exact h0)
    · intro k acc
      refine some_elim ?_
      rintro ⟨x5, x6, x7, x8, x9⟩ hs
      obtain ⟨hw, h1, h2⟩ := hstep y10 k.val acc x5 x6 x7 x8 x9 (lt_of_lt_of_eq k.isLt htrips) hs
      refine trip_run c i arg2 harg2 arg3 harg3 arg4 harg4 arg5 harg5 arg6 harg6 arg7 harg7 arg8 harg8 arg9 harg9 arg10 harg10 (k0_pay92) (k0_pay93 (F := F)) (k0_pay94 (F := F)) _ _ _ _ k acc.1 acc.2 hw x2 x3 x4 x5 x6 x7 x8 x9 y10 ?_ ?_
      · intro hc
        exact some_intro (S := fun s : (Vec F S1x2048x512 .bf16) × (Fin 8 → Vec F S1x512x512 .f32) × (Fin 8 → Vec F S1x512x128 .f32) × (Fin 8 → Vec F S1x512x128 .f32) × (Fin 4 → Vec F S1x512x256 .f32) => P y10 (k.val + 1) (tripNext acc.1 acc.2) s.1 s.2.1 s.2.2.1 s.2.2.2.1 s.2.2.2.2) (O := fun s : (Vec F S1x2048x512 .bf16) × (Fin 8 → Vec F S1x512x512 .f32) × (Fin 8 → Vec F S1x512x128 .f32) × (Fin 8 → Vec F S1x512x128 .f32) × (Fin 4 → Vec F S1x512x256 .f32) => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ))) (tripO acc.1 acc.2 x5 (tripA (k0_pay92) (k0_pay93 (F := F)) (k0_pay94 (F := F)) x4 acc.1 acc.2 hw x6 x7 x8 x9), (tripS x2 x3 y10 acc.1 acc.2 hw), (tripMC x2 x3 y10 acc.1 acc.2 hw), (tripM acc.2 x7 x8), (tripA (k0_pay92) (k0_pay93 (F := F)) (k0_pay94 (F := F)) x4 acc.1 acc.2 hw x6 x7 x8 x9)) (by exact h1 hc)
      · intro hc
        exact some_intro (S := fun s : (Vec F S1x2048x512 .bf16) × (Fin 8 → Vec F S1x512x512 .f32) × (Fin 8 → Vec F S1x512x128 .f32) × (Fin 8 → Vec F S1x512x128 .f32) × (Fin 4 → Vec F S1x512x256 .f32) => P y10 (k.val + 1) (tripNext acc.1 acc.2) s.1 s.2.1 s.2.2.1 s.2.2.2.1 s.2.2.2.2) (O := fun s : (Vec F S1x2048x512 .bf16) × (Fin 8 → Vec F S1x512x512 .f32) × (Fin 8 → Vec F S1x512x128 .f32) × (Fin 8 → Vec F S1x512x128 .f32) × (Fin 4 → Vec F S1x512x256 .f32) => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ))) (x5, (tripS x2 x3 y10 acc.1 acc.2 hw), (tripMC x2 x3 y10 acc.1 acc.2 hw), (tripM acc.2 x7 x8), (tripA (k0_pay92) (k0_pay93 (F := F)) (k0_pay94 (F := F)) x4 acc.1 acc.2 hw x6 x7 x8 x9)) (by exact h2 hc)
    · intro acc
      refine some_elim ?_
      rintro ⟨x5, x6, x7, x8, x9⟩ hs
      have hs' : P y10 9 acc x5 x6 x7 x8 x9 := htrips ▸ hs
      have hq := hQ acc x5 x6 x7 x8 x9 hs'
      refine ld4 ?_
      refine ret_step ?_
      refine bind_step ?_
      rw [k0_part18_eq_skeleton]; unfold k0_part18_skel
      refine ld8 0 (by rfl) ?_
      refine ld7 0 (by rfl) ?_
      refine ld6 0 (by rfl) ?_
      refine ld8 0 (by rfl) ?_
      refine st8 0 (by rfl) ?_
      refine ld8' 1 (by rfl) (x8 1) (by rfl) ?_
      refine ld7 1 (by rfl) ?_
      refine ld6 1 (by rfl) ?_
      refine ret_step ?_
      refine bind_step ?_
      rw [k0_part19_eq_skeleton]; unfold k0_part19_skel
      refine ld8' 1 (by rfl) (x8 1) (by rfl) ?_
      refine st8 1 (by rfl) ?_
      refine ld9 0 (by rfl) ?_
      refine ld9 0 (by rfl) ?_
      refine st9 0 (by rfl) ?_
      refine ld4 ?_
      refine ld8' 2 (by rfl) (x8 2) (by rfl) ?_
      refine ld7 2 (by rfl) ?_
      refine ret_step ?_
      refine bind_step ?_
      rw [k0_part20_eq_skeleton]; unfold k0_part20_skel
      refine ld6 2 (by rfl) ?_
      refine ld8' 2 (by rfl) (x8 2) (by rfl) ?_
      refine st8 2 (by rfl) ?_
      refine ld8' 3 (by rfl) (x8 3) (by rfl) ?_
      refine ld7 3 (by rfl) ?_
      refine ld6 3 (by rfl) ?_
      refine ld8' 3 (by rfl) (x8 3) (by rfl) ?_
      refine st8 3 (by rfl) ?_
      refine ld9' 1 (by rfl) (x9 1) (by rfl) ?_
      refine ret_step ?_
      refine bind_step ?_
      rw [k0_part21_eq_skeleton]; unfold k0_part21_skel
      refine ld9' 1 (by rfl) (x9 1) (by rfl) ?_
      refine st9 1 (by rfl) ?_
      refine ld4 ?_
      refine ld8' 4 (by rfl) (x8 4) (by rfl) ?_
      refine ld7 4 (by rfl) ?_
      refine ld6 4 (by rfl) ?_
      refine ld8' 4 (by rfl) (x8 4) (by rfl) ?_
      refine st8 4 (by rfl) ?_
      refine ret_step ?_
      refine bind_step ?_
      rw [k0_part22_eq_skeleton]; unfold k0_part22_skel
      refine ld8' 5 (by rfl) (x8 5) (by rfl) ?_
      refine ld7 5 (by rfl) ?_
      refine ld6 5 (by rfl) ?_
      refine ld8' 5 (by rfl) (x8 5) (by rfl) ?_
      refine st8 5 (by rfl) ?_
      refine ld9' 2 (by rfl) (x9 2) (by rfl) ?_
      refine ld9' 2 (by rfl) (x9 2) (by rfl) ?_
      refine st9 2 (by rfl) ?_
      refine ld4 ?_
      refine ret_step ?_
      refine bind_step ?_
      rw [k0_part23_eq_skeleton]; unfold k0_part23_skel
      refine ld8' 6 (by rfl) (x8 6) (by rfl) ?_
      refine ld7 6 (by rfl) ?_
      refine ld6 6 (by rfl) ?_
      refine ld8' 6 (by rfl) (x8 6) (by rfl) ?_
      refine st8 6 (by rfl) ?_
      refine ld8' 7 (by rfl) (x8 7) (by rfl) ?_
      refine ld7 7 (by rfl) ?_
      refine ld6 7 (by rfl) ?_
      refine ret_step ?_
      refine bind_step ?_
      rw [k0_part24_eq_skeleton]; unfold k0_part24_skel
      refine ld8' 7 (by rfl) (x8 7) (by rfl) ?_
      refine st8 7 (by rfl) ?_
      refine ld9' 3 (by rfl) (x9 3) (by rfl) ?_
      refine ld9' 3 (by rfl) (x9 3) (by rfl) ?_
      refine st9 3 (by rfl) ?_
      refine ld9' 0 (by rfl) (k0_pay158 k0_pay92 ((k0_pay146 k0_pay92 ((k0_pay93 (F := F))) ((k0_pay94 (F := F))) ((k0_pay143 (window (s := S1x2048x512) x4 ![0, 1536, 0] S1x512x128.size (inb_S1x2048x512_S1x512x128_0_1536_0)))) ((k0_pay144 (F := F))) ((k0_pay145 k0_pay92)))) ((k0_pay149 ((k0_pay142 (F := F))) (x8 0) (x7 0))) ((k0_pay150 ((k0_pay142 (F := F))) (x8 0) (x7 0) (x6 0))) ((k0_pay154 ((k0_pay142 (F := F))) (x8 1) (x7 1))) ((k0_pay155 (x6 1))) ((k0_pay156 ((k0_pay142 (F := F))) (x8 1) (x7 1))) (x9 0)) (by rfl) ?_
      refine ld5 ?_
      refine st5 ?_
      refine ld9' 1 (by rfl) (k0_pay169 ((k0_pay166 ((k0_pay142 (F := F))) ((k0_pay159 k0_pay92 ((k0_pay93 (F := F))) ((k0_pay94 (F := F))) (window (s := S1x2048x512) x4 ![0, 1536, 128] S1x512x128.size (inb_S1x2048x512_S1x512x128_0_1536_128)))) ((k0_pay161 ((k0_pay142 (F := F))) (x8 2) (x7 2))) (x6 2) (x8 3) (x7 3) (x6 3))) ((k0_pay167 k0_pay92 ((k0_pay142 (F := F))) ((k0_pay160 ((k0_pay142 (F := F))) (x8 2))) ((k0_pay161 ((k0_pay142 (F := F))) (x8 2) (x7 2))) (x8 3) (x7 3))) ((k0_pay168 (x9 1)))) (by rfl) ?_
      refine ld5 ?_
      refine ret_step ?_
      refine st5 ?_
      refine ld9' 2 (by rfl) (k0_pay179 k0_pay92 ((k0_pay142 (F := F))) ((k0_pay170 k0_pay92 ((k0_pay93 (F := F))) ((k0_pay94 (F := F))) (window (s := S1x2048x512) x4 ![0, 1536, 256] S1x512x128.size (inb_S1x2048x512_S1x512x128_0_1536_256)))) ((k0_pay173 ((k0_pay142 (F := F))) (x8 4) (x7 4))) ((k0_pay174 ((k0_pay142 (F := F))) (x8 4) (x7 4) (x6 4))) (x8 5) (x7 5) (x6 5) (x9 2)) (by rfl) ?_
      refine ld5 ?_
      refine st5 ?_
      refine ld9' 3 (by rfl) (k0_pay194 k0_pay92 ((k0_pay183 k0_pay92 ((k0_pay94 (F := F))) ((k0_pay180 (window (s := S1x2048x512) x4 ![0, 1536, 384] S1x512x128.size (inb_S1x2048x512_S1x512x128_0_1536_384)))) ((k0_pay181 (F := F))) ((k0_pay182 k0_pay92 ((k0_pay93 (F := F))) (window (s := S1x2048x512) x4 ![0, 1536, 384] S1x512x128.size (inb_S1x2048x512_S1x512x128_0_1536_384)))))) ((k0_pay186 ((k0_pay142 (F := F))) (x8 6) (x7 6))) ((k0_pay187 ((k0_pay142 (F := F))) (x8 6) (x7 6) (x6 6))) ((k0_pay191 ((k0_pay142 (F := F))) (x8 7) (x7 7))) ((k0_pay192 ((k0_pay142 (F := F))) (x8 7) (x7 7) (x6 7))) (x9 3)) (by rfl) ?_
      refine ld5 ?_
      refine st5 ?_
      refine ret_step ?_
      rw [upd8, upd4]
      exact hq
  · intro hc
    obtain ⟨y10, hy10⟩ : ∃ y, y = x10 := ⟨_, rfl⟩
    rw [← hy10]
    have h0 := hP x8 x9 y10 (fun h => absurd h hc) (fun _ => ⟨rfl, rfl, hy10⟩)
    have hQ := fun acc x5 x6 x7 x8 x9 => hQ y10 acc x5 x6 x7 x8 x9 (fun h => absurd h hc) (fun _ => hy10)
    clear hP
    refine ld2 ?_
    refine ld2 ?_
    refine ld2 ?_
    refine ret_step ?_
    refine bind_step ?_
    rw [k0_part14_eq_skeleton]; unfold k0_part14_skel
    refine ld2 ?_
    refine ld10 ?_
    refine ld3 ?_
    refine ld6 0 (by rfl) ?_
    refine st6 0 (by rfl) ?_
    refine ld7 0 (by rfl) ?_
    refine st7 0 (by rfl) ?_
    refine ld6' 1 (by rfl) (x6 1) (by rfl) ?_
    refine st6 1 (by rfl) ?_
    refine ret_step ?_
    refine bind_step ?_
    rw [k0_part15_eq_skeleton]; unfold k0_part15_skel
    refine ld7' 1 (by rfl) (x7 1) (by rfl) ?_
    refine st7 1 (by rfl) ?_
    refine ld3 ?_
    refine ld6' 2 (by rfl) (x6 2) (by rfl) ?_
    refine st6 2 (by rfl) ?_
    refine ld7' 2 (by rfl) (x7 2) (by rfl) ?_
    refine st7 2 (by rfl) ?_
    refine ld6' 3 (by rfl) (x6 3) (by rfl) ?_
    refine st6 3 (by rfl) ?_
    refine ld7' 3 (by rfl) (x7 3) (by rfl) ?_
    refine st7 3 (by rfl) ?_
    refine ret_step ?_
    refine bind_step ?_
    rw [k0_part16_eq_skeleton]; unfold k0_part16_skel
    refine ld3 ?_
    refine ld6' 4 (by rfl) (x6 4) (by rfl) ?_
    refine st6 4 (by rfl) ?_
    refine ld7' 4 (by rfl) (x7 4) (by rfl) ?_
    refine st7 4 (by rfl) ?_
    refine ld6' 5 (by rfl) (x6 5) (by rfl) ?_
    refine st6 5 (by rfl) ?_
    refine ld7' 5 (by rfl) (x7 5) (by rfl) ?_
    refine st7 5 (by rfl) ?_
    refine ld3 ?_
    refine ret_step ?_
    refine bind_step ?_
    rw [k0_part17_eq_skeleton]; unfold k0_part17_skel
    refine ld6' 6 (by rfl) (x6 6) (by rfl) ?_
    refine st6 6 (by rfl) ?_
    refine ld7' 6 (by rfl) (x7 6) (by rfl) ?_
    refine st7 6 (by rfl) ?_
    refine ld6' 7 (by rfl) (x6 7) (by rfl) ?_
    refine st6 7 (by rfl) ?_
    refine ld7' 7 (by rfl) (x7 7) (by rfl) ?_
    refine st7 7 (by rfl) ?_
    rw [upd8, upd8]
    refine loop_step (fun k acc => Some (fun s : (Vec F S1x2048x512 .bf16) × (Fin 8 → Vec F S1x512x512 .f32) × (Fin 8 → Vec F S1x512x128 .f32) × (Fin 8 → Vec F S1x512x128 .f32) × (Fin 4 → Vec F S1x512x256 .f32) => P y10 k acc s.1 s.2.1 s.2.2.1 s.2.2.2.1 s.2.2.2.2) (fun s => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ)))) ?_ ?_ ?_
    · exact some_intro (S := fun s : (Vec F S1x2048x512 .bf16) × (Fin 8 → Vec F S1x512x512 .f32) × (Fin 8 → Vec F S1x512x128 .f32) × (Fin 8 → Vec F S1x512x128 .f32) × (Fin 4 → Vec F S1x512x256 .f32) => P y10 0 (0#32, 0#32) s.1 s.2.1 s.2.2.1 s.2.2.2.1 s.2.2.2.2) (O := fun s : (Vec F S1x2048x512 .bf16) × (Fin 8 → Vec F S1x512x512 .f32) × (Fin 8 → Vec F S1x512x128 .f32) × (Fin 8 → Vec F S1x512x128 .f32) × (Fin 4 → Vec F S1x512x256 .f32) => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ))) (x5, firstS x2 x3 y10, firstMC x2 x3 y10, x8, x9) (by exact h0)
    · intro k acc
      refine some_elim ?_
      rintro ⟨x5, x6, x7, x8, x9⟩ hs
      obtain ⟨hw, h1, h2⟩ := hstep y10 k.val acc x5 x6 x7 x8 x9 (lt_of_lt_of_eq k.isLt htrips) hs
      refine trip_run c i arg2 harg2 arg3 harg3 arg4 harg4 arg5 harg5 arg6 harg6 arg7 harg7 arg8 harg8 arg9 harg9 arg10 harg10 (k0_pay92) (k0_pay93 (F := F)) (k0_pay94 (F := F)) _ _ _ _ k acc.1 acc.2 hw x2 x3 x4 x5 x6 x7 x8 x9 y10 ?_ ?_
      · intro hc
        exact some_intro (S := fun s : (Vec F S1x2048x512 .bf16) × (Fin 8 → Vec F S1x512x512 .f32) × (Fin 8 → Vec F S1x512x128 .f32) × (Fin 8 → Vec F S1x512x128 .f32) × (Fin 4 → Vec F S1x512x256 .f32) => P y10 (k.val + 1) (tripNext acc.1 acc.2) s.1 s.2.1 s.2.2.1 s.2.2.2.1 s.2.2.2.2) (O := fun s : (Vec F S1x2048x512 .bf16) × (Fin 8 → Vec F S1x512x512 .f32) × (Fin 8 → Vec F S1x512x128 .f32) × (Fin 8 → Vec F S1x512x128 .f32) × (Fin 4 → Vec F S1x512x256 .f32) => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ))) (tripO acc.1 acc.2 x5 (tripA (k0_pay92) (k0_pay93 (F := F)) (k0_pay94 (F := F)) x4 acc.1 acc.2 hw x6 x7 x8 x9), (tripS x2 x3 y10 acc.1 acc.2 hw), (tripMC x2 x3 y10 acc.1 acc.2 hw), (tripM acc.2 x7 x8), (tripA (k0_pay92) (k0_pay93 (F := F)) (k0_pay94 (F := F)) x4 acc.1 acc.2 hw x6 x7 x8 x9)) (by exact h1 hc)
      · intro hc
        exact some_intro (S := fun s : (Vec F S1x2048x512 .bf16) × (Fin 8 → Vec F S1x512x512 .f32) × (Fin 8 → Vec F S1x512x128 .f32) × (Fin 8 → Vec F S1x512x128 .f32) × (Fin 4 → Vec F S1x512x256 .f32) => P y10 (k.val + 1) (tripNext acc.1 acc.2) s.1 s.2.1 s.2.2.1 s.2.2.2.1 s.2.2.2.2) (O := fun s : (Vec F S1x2048x512 .bf16) × (Fin 8 → Vec F S1x512x512 .f32) × (Fin 8 → Vec F S1x512x128 .f32) × (Fin 8 → Vec F S1x512x128 .f32) × (Fin 4 → Vec F S1x512x256 .f32) => (Own (c := (c : Thread nD τ)) arg2 arg3 arg4 arg5 arg6 arg7 arg8 arg9 arg10 x2 x3 x4 s.1 s.2.1 s.2.2.1 s.2.2.2.1 s.2.2.2.2 y10 : sProp (MT nD τ sig Unit (Elt F) ℕ (UR sig nD τ) ℕ))) (x5, (tripS x2 x3 y10 acc.1 acc.2 hw), (tripMC x2 x3 y10 acc.1 acc.2 hw), (tripM acc.2 x7 x8), (tripA (k0_pay92) (k0_pay93 (F := F)) (k0_pay94 (F := F)) x4 acc.1 acc.2 hw x6 x7 x8 x9)) (by exact h2 hc)
    · intro acc
      refine some_elim ?_
      rintro ⟨x5, x6, x7, x8, x9⟩ hs
      have hs' : P y10 9 acc x5 x6 x7 x8 x9 := htrips ▸ hs
      have hq := hQ acc x5 x6 x7 x8 x9 hs'
      refine ld4 ?_
      refine ret_step ?_
      refine bind_step ?_
      rw [k0_part18_eq_skeleton]; unfold k0_part18_skel
      refine ld8 0 (by rfl) ?_
      refine ld7 0 (by rfl) ?_
      refine ld6 0 (by rfl) ?_
      refine ld8 0 (by rfl) ?_
      refine st8 0 (by rfl) ?_
      refine ld8' 1 (by rfl) (x8 1) (by rfl) ?_
      refine ld7 1 (by rfl) ?_
      refine ld6 1 (by rfl) ?_
      refine ret_step ?_
      refine bind_step ?_
      rw [k0_part19_eq_skeleton]; unfold k0_part19_skel
      refine ld8' 1 (by rfl) (x8 1) (by rfl) ?_
      refine st8 1 (by rfl) ?_
      refine ld9 0 (by rfl) ?_
      refine ld9 0 (by rfl) ?_
      refine st9 0 (by rfl) ?_
      refine ld4 ?_
      refine ld8' 2 (by rfl) (x8 2) (by rfl) ?_
      refine ld7 2 (by rfl) ?_
      refine ret_step ?_
      refine bind_step ?_
      rw [k0_part20_eq_skeleton]; unfold k0_part20_skel
      refine ld6 2 (by rfl) ?_
      refine ld8' 2 (by rfl) (x8 2) (by rfl) ?_
      refine st8 2 (by rfl) ?_
      refine ld8' 3 (by rfl) (x8 3) (by rfl) ?_
      refine ld7 3 (by rfl) ?_
      refine ld6 3 (by rfl) ?_
      refine ld8' 3 (by rfl) (x8 3) (by rfl) ?_
      refine st8 3 (by rfl) ?_
      refine ld9' 1 (by rfl) (x9 1) (by rfl) ?_
      refine ret_step ?_
      refine bind_step ?_
      rw [k0_part21_eq_skeleton]; unfold k0_part21_skel
      refine ld9' 1 (by rfl) (x9 1) (by rfl) ?_
      refine st9 1 (by rfl) ?_
      refine ld4 ?_
      refine ld8' 4 (by rfl) (x8 4) (by rfl) ?_
      refine ld7 4 (by rfl) ?_
      refine ld6 4 (by rfl) ?_
      refine ld8' 4 (by rfl) (x8 4) (by rfl) ?_
      refine st8 4 (by rfl) ?_
      refine ret_step ?_
      refine bind_step ?_
      rw [k0_part22_eq_skeleton]; unfold k0_part22_skel
      refine ld8' 5 (by rfl) (x8 5) (by rfl) ?_
      refine ld7 5 (by rfl) ?_
      refine ld6 5 (by rfl) ?_
      refine ld8' 5 (by rfl) (x8 5) (by rfl) ?_
      refine st8 5 (by rfl) ?_
      refine ld9' 2 (by rfl) (x9 2) (by rfl) ?_
      refine ld9' 2 (by rfl) (x9 2) (by rfl) ?_
      refine st9 2 (by rfl) ?_
      refine ld4 ?_
      refine ret_step ?_
      refine bind_step ?_
      rw [k0_part23_eq_skeleton]; unfold k0_part23_skel
      refine ld8' 6 (by rfl) (x8 6) (by rfl) ?_
      refine ld7 6 (by rfl) ?_
      refine ld6 6 (by rfl) ?_
      refine ld8' 6 (by rfl) (x8 6) (by rfl) ?_
      refine st8 6 (by rfl) ?_
      refine ld8' 7 (by rfl) (x8 7) (by rfl) ?_
      refine ld7 7 (by rfl) ?_
      refine ld6 7 (by rfl) ?_
      refine ret_step ?_
      refine bind_step ?_
      rw [k0_part24_eq_skeleton]; unfold k0_part24_skel
      refine ld8' 7 (by rfl) (x8 7) (by rfl) ?_
      refine st8 7 (by rfl) ?_
      refine ld9' 3 (by rfl) (x9 3) (by rfl) ?_
      refine ld9' 3 (by rfl) (x9 3) (by rfl) ?_
      refine st9 3 (by rfl) ?_
      refine ld9' 0 (by rfl) (k0_pay158 k0_pay92 ((k0_pay146 k0_pay92 ((k0_pay93 (F := F))) ((k0_pay94 (F := F))) ((k0_pay143 (window (s := S1x2048x512) x4 ![0, 1536, 0] S1x512x128.size (inb_S1x2048x512_S1x512x128_0_1536_0)))) ((k0_pay144 (F := F))) ((k0_pay145 k0_pay92)))) ((k0_pay149 ((k0_pay142 (F := F))) (x8 0) (x7 0))) ((k0_pay150 ((k0_pay142 (F := F))) (x8 0) (x7 0) (x6 0))) ((k0_pay154 ((k0_pay142 (F := F))) (x8 1) (x7 1))) ((k0_pay155 (x6 1))) ((k0_pay156 ((k0_pay142 (F := F))) (x8 1) (x7 1))) (x9 0)) (by rfl) ?_
      refine ld5 ?_
      refine st5 ?_
      refine ld9' 1 (by rfl) (k0_pay169 ((k0_pay166 ((k0_pay142 (F := F))) ((k0_pay159 k0_pay92 ((k0_pay93 (F := F))) ((k0_pay94 (F := F))) (window (s := S1x2048x512) x4 ![0, 1536, 128] S1x512x128.size (inb_S1x2048x512_S1x512x128_0_1536_128)))) ((k0_pay161 ((k0_pay142 (F := F))) (x8 2) (x7 2))) (x6 2) (x8 3) (x7 3) (x6 3))) ((k0_pay167 k0_pay92 ((k0_pay142 (F := F))) ((k0_pay160 ((k0_pay142 (F := F))) (x8 2))) ((k0_pay161 ((k0_pay142 (F := F))) (x8 2) (x7 2))) (x8 3) (x7 3))) ((k0_pay168 (x9 1)))) (by rfl) ?_
      refine ld5 ?_
      refine ret_step ?_
      refine st5 ?_
      refine ld9' 2 (by rfl) (k0_pay179 k0_pay92 ((k0_pay142 (F := F))) ((k0_pay170 k0_pay92 ((k0_pay93 (F := F))) ((k0_pay94 (F := F))) (window (s := S1x2048x512) x4 ![0, 1536, 256] S1x512x128.size (inb_S1x2048x512_S1x512x128_0_1536_256)))) ((k0_pay173 ((k0_pay142 (F := F))) (x8 4) (x7 4))) ((k0_pay174 ((k0_pay142 (F := F))) (x8 4) (x7 4) (x6 4))) (x8 5) (x7 5) (x6 5) (x9 2)) (by rfl) ?_
      refine ld5 ?_
      refine st5 ?_
      refine ld9' 3 (by rfl) (k0_pay194 k0_pay92 ((k0_pay183 k0_pay92 ((k0_pay94 (F := F))) ((k0_pay180 (window (s := S1x2048x512) x4 ![0, 1536, 384] S1x512x128.size (inb_S1x2048x512_S1x512x128_0_1536_384)))) ((k0_pay181 (F := F))) ((k0_pay182 k0_pay92 ((k0_pay93 (F := F))) (window (s := S1x2048x512) x4 ![0, 1536, 384] S1x512x128.size (inb_S1x2048x512_S1x512x128_0_1536_384)))))) ((k0_pay186 ((k0_pay142 (F := F))) (x8 6) (x7 6))) ((k0_pay187 ((k0_pay142 (F := F))) (x8 6) (x7 6) (x6 6))) ((k0_pay191 ((k0_pay142 (F := F))) (x8 7) (x7 7))) ((k0_pay192 ((k0_pay142 (F := F))) (x8 7) (x7 7) (x6 7))) (x9 3)) (by rfl) ?_
      refine ld5 ?_
      refine st5 ?_
      refine ret_step ?_
      rw [upd8, upd4]
      exact hq

end Cert.Proof.KernelIdeal
-- ==== Proof.PointKernelIdeal.lean ====
module

public import proofs.«01_k».proof.Proof.RunKernelIdeal
public import proofs.«01_k».proof.Proof.Gen.KernelIdeal.Frame
public import proofs.«01_k».proof.Proof.Gen.KernelIdeal.Points
public import proofs.«01_k».proof.Proof.Gen.KernelIdeal.Launch

@[expose] public section

set_option maxRecDepth 16384

noncomputable section

namespace Cert.Proof.KernelIdeal

open Cert.KernelIdeal Cert.KernelIdeal.Gen Cert.Mem
open Idealize.ShloMosaic Idealize.ShloMosaic.TcCoe
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

/-! ## The tile pairs the loop runs through -/

/-- The query tile and the key tile the loop holds before trip `k`. -/
def pairAt : ℕ → BitVec 32 × BitVec 32
  | 0 => (0#32, 0#32) | 1 => (1#32, 0#32) | 2 => (1#32, 1#32) | 3 => (2#32, 0#32) | 4 => (2#32, 1#32)
  | 5 => (2#32, 2#32) | 6 => (3#32, 0#32) | 7 => (3#32, 1#32) | 8 => (3#32, 2#32) | _ => (3#32, 3#32)

theorem pair_next (k : ℕ) (hk : k < 9) : tripNext (pairAt k).1 (pairAt k).2 = pairAt (k + 1) := by
  match k, hk with
  | 0, _ | 1, _ | 2, _ | 3, _ | 4, _ | 5, _ | 6, _ | 7, _ | 8, _ => decide
  | n + 9, h => exact absurd h (by omega)

theorem pair_chk (k : ℕ) (hk : k < 9) : k0_chk1 (pairAt k).1 (pairAt k).2 := by
  match k, hk with
  | 0, _ | 1, _ | 2, _ | 3, _ | 4, _ | 5, _ | 6, _ | 7, _ | 8, _ => exact of_decide_eq_true (inst := k0_chk1.dec _ _) (by decide)
  | n + 9, h => exact absurd h (by omega)

/-! ## The scratch -/

abbrev sc6 : Memref sig .tc .vmem S8x512x512 .f32 := Memref.whole cc0_scratch0
abbrev sc7 : Memref sig .tc .vmem S8x512x128 .f32 := Memref.whole cc0_scratch1
abbrev sc8 : Memref sig .tc .vmem S8x512x128 .f32 := Memref.whole cc0_scratch2
abbrev sc9 : Memref sig .tc .vmem S4x512x256 .f32 := Memref.whole cc0_scratch3
abbrev sc10 : Memref sig .tc .vmem S2x512x512 .f32 := Memref.whole cc0_scratch4

/-- The scratch buffers at some contents, the last one's among those `Ok` allows. -/
def Scr (Ok : Vec F S2x512x512 .f32 → Prop) (c : Dev nD) : sProp (MT nD τ sig Unit (Elt F) ℕ (UR sig nD τ) ℕ) :=
  iprop((∃ f, owns (c : Thread nD τ) sc6 fullShare f) ∗ (∃ f, owns (c : Thread nD τ) sc7 fullShare f) ∗ (∃ f, owns (c : Thread nD τ) sc8 fullShare f)
    ∗ (∃ f, owns (c : Thread nD τ) sc9 fullShare f) ∗ (∃ f, ⌜Ok f⌝ ∗ owns (c : Thread nD τ) sc10 fullShare f))

/-- The scratch buffers and the random state between two grid points. -/
def Inv (Ok : Vec F S2x512x512 .f32 → Prop) (c : Dev nD) : sProp (MT nD τ sig Unit (Elt F) ℕ (UR sig nD τ) ℕ) :=
  iprop(Scr Ok c ∗ ∃ r, prngReg c r)

theorem inv_of_free (Ok : Vec F S2x512x512 .f32 → Prop) (hOk : ∀ f, Ok f) (c : Dev nD) : Pipeline.ΦA spec0 c ⊢ Inv (F := F) Ok c := by
  rw [show (Pipeline.ΦA spec0 c : sProp (MT nD τ sig Unit (Elt F) ℕ (UR sig nD τ) ℕ)) = iprop(Pipeline.scopedRest (Val := Elt F) (Ix := Unit) (Name := ℕ) (U := UR sig nD τ) (Lvl := ℕ) spec0 c ∗ ∃ r, prngReg c r) from rfl, scopedRest0_eq]
  unfold Inv Scr
  simp only [sc6, sc7, sc8, sc9, sc10, owns_whole]
  iintro ⟨⟨⟨%f6, H6⟩, ⟨%f7, H7⟩, ⟨%f8, H8⟩, ⟨%f9, H9⟩, ⟨%f10, H10⟩⟩, Hg⟩
  isplitl [H6 H7 H8 H9 H10]
  · isplitl [H6]; · iexists f6; iexact H6
    isplitl [H7]; · iexists f7; iexact H7
    isplitl [H8]; · iexists f8; iexact H8
    isplitl [H9]; · iexists f9; iexact H9
    iexists f10; isplitr; · ipureintro; exact hOk f10
    iexact H10
  iexact Hg

theorem free_of_inv (Ok : Vec F S2x512x512 .f32 → Prop) (c : Dev nD) : Inv (F := F) Ok c ⊢ Pipeline.ΦA spec0 c := by
  rw [show (Pipeline.ΦA spec0 c : sProp (MT nD τ sig Unit (Elt F) ℕ (UR sig nD τ) ℕ)) = iprop(Pipeline.scopedRest (Val := Elt F) (Ix := Unit) (Name := ℕ) (U := UR sig nD τ) (Lvl := ℕ) spec0 c ∗ ∃ r, prngReg c r) from rfl, scopedRest0_eq]
  unfold Inv Scr
  simp only [sc6, sc7, sc8, sc9, sc10, owns_whole]
  iintro ⟨⟨⟨%f6, H6⟩, ⟨%f7, H7⟩, ⟨%f8, H8⟩, ⟨%f9, H9⟩, ⟨%f10, %h10, H10⟩⟩, Hg⟩
  isplitl [H6 H7 H8 H9 H10]
  · isplitl [H6]; · iexists f6; iexact H6
    isplitl [H7]; · iexists f7; iexact H7
    isplitl [H8]; · iexists f8; iexact H8
    isplitl [H9]; · iexists f9; iexact H9
    iexists f10; iexact H10
  iexact Hg

/-! ## One grid point -/

abbrev st0 (t : Fin cfg0.N) := (cfg0.win 0).stage (cfg0.slots t 0)
abbrev st1 (t : Fin cfg0.N) := (cfg0.win 1).stage (cfg0.slots t 1)
abbrev st2 (t : Fin cfg0.N) := (cfg0.win 2).stage (cfg0.slots t 2)
abbrev st3 (t : Fin cfg0.N) := (cfg0.win 3).stage (cfg0.slots t 3)

/-- One grid point: whatever the output block and the scratch held, the body leaves an output block `Res` allows. -/
theorem point_run (c : Dev nD) (t : Fin cfg0.N) (x2 : Vec F S1x2048x1024 .bf16) (x3 : Vec F S1x2048x1024 .bf16) (x4 : Vec F S1x2048x512 .bf16)
    (Ok Ok' : Vec F S2x512x512 .f32 → Prop) (Res : Vec F S1x2048x512 .bf16 → Prop)
    (h : ∀ (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32) (x10 : Vec F S2x512x512 .f32), Ok x10 → ∃ P : Vec F S2x512x512 .f32 → ℕ → BitVec 32 × BitVec 32 → Vec F S1x2048x512 .bf16 → (Fin 8 → Vec F S1x512x512 .f32) → (Fin 8 → Vec F S1x512x128 .f32) → (Fin 8 → Vec F S1x512x128 .f32) → (Fin 4 → Vec F S1x512x256 .f32) → Prop,
      (∀ y8 y9 y10, (firstPoint (grid0.coords t) → y8 = slabs (k0_pay95 (F := F)) ∧ y9 = slabs (k0_pay96 (F := F)) ∧ y10 = maskPut x10) →
        (¬ firstPoint (grid0.coords t) → y8 = x8 ∧ y9 = x9 ∧ y10 = x10) → P y10 0 (0#32, 0#32) x5 (firstS x2 x3 y10) (firstMC x2 x3 y10) y8 y9) ∧
      (∀ (y10 : Vec F S2x512x512 .f32) (k : ℕ) (acc : BitVec 32 × BitVec 32) (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32), k < 9 → P y10 k acc x5 x6 x7 x8 x9 → ∃ hw : k0_chk1 acc.1 acc.2,
        (k0_cond2 acc.1 acc.2 = 1#1 → P y10 (k + 1) (tripNext acc.1 acc.2) (tripO acc.1 acc.2 x5 (tripA (k0_pay92) (k0_pay93 (F := F)) (k0_pay94 (F := F)) x4 acc.1 acc.2 hw x6 x7 x8 x9)) (tripS x2 x3 y10 acc.1 acc.2 hw) (tripMC x2 x3 y10 acc.1 acc.2 hw) (tripM acc.2 x7 x8) (tripA (k0_pay92) (k0_pay93 (F := F)) (k0_pay94 (F := F)) x4 acc.1 acc.2 hw x6 x7 x8 x9)) ∧
        (¬ (k0_cond2 acc.1 acc.2 = 1#1) → P y10 (k + 1) (tripNext acc.1 acc.2) x5 (tripS x2 x3 y10 acc.1 acc.2 hw) (tripMC x2 x3 y10 acc.1 acc.2 hw) (tripM acc.2 x7 x8) (tripA (k0_pay92) (k0_pay93 (F := F)) (k0_pay94 (F := F)) x4 acc.1 acc.2 hw x6 x7 x8 x9))) ∧
      (∀ (y10 : Vec F S2x512x512 .f32) (acc : BitVec 32 × BitVec 32) (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32), (firstPoint (grid0.coords t) → y10 = maskPut x10) → (¬ firstPoint (grid0.coords t) → y10 = x10) → P y10 9 acc x5 x6 x7 x8 x9 →
        Ok' y10 ∧ Res (lastO x4 x5 x6 x7 x8 x9))) :
    iprop(Inv Ok c ∗ owns (c : Thread nD τ) (st0 t) fullShare x2 ∗ owns (c : Thread nD τ) (st1 t) fullShare x3 ∗ owns (c : Thread nD τ) (st2 t) fullShare x4 ∗ (∃ X, owns (c : Thread nD τ) (st3 t) fullShare X))
      ⊢ wp frame (wpE (defs₀ (F := F)) Variants.none (c : Thread nD τ) none) Set.univ (bodyAt0 t)
        (fun _ => (iprop(Inv Ok' c ∗ owns (c : Thread nD τ) (st0 t) fullShare x2 ∗ owns (c : Thread nD τ) (st1 t) fullShare x3 ∗ owns (c : Thread nD τ) (st2 t) fullShare x4 ∗ (∃ X, ⌜Res X⌝ ∗ owns (c : Thread nD τ) (st3 t) fullShare X)) : sProp (MT nD τ sig Unit (Elt F) ℕ (UR sig nD τ) ℕ))) := by
  unfold bodyAt0 Inv Scr
  iintro ⟨⟨⟨⟨%f6, H6⟩, ⟨%f7, H7⟩, ⟨%f8, H8⟩, ⟨%f9, H9⟩, ⟨%f10, %hok, H10⟩⟩, Hg⟩, H2, H3, H4, ⟨%X, H5⟩⟩
  obtain ⟨P, h0, hs, hq⟩ := h X (slabs f6) (slabs f7) (slabs f8) (slabs f9) f10 hok
  iapply (wp_wand_r (Fr := frame) (wpE := wpE (defs₀ (F := F)) Variants.none (c : Thread nD τ) none) (E := Set.univ) (Q := fun _ => iprop(Scr Ok' c ∗ owns (c : Thread nD τ) (st0 t) fullShare x2 ∗ owns (c : Thread nD τ) (st1 t) fullShare x3 ∗ owns (c : Thread nD τ) (st2 t) fullShare x4 ∗ (∃ X, ⌜Res X⌝ ∗ owns (c : Thread nD τ) (st3 t) fullShare X))))
  isplitr [Hg]
  · iapply (kernel_run c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) sc6 (Memref.isWhole_whole _) sc7 (Memref.isWhole_whole _) sc8 (Memref.isWhole_whole _) sc9 (Memref.isWhole_whole _) sc10 (Memref.isWhole_whole _)
      x2 x3 x4 X (slabs f6) (slabs f7) (slabs f8) (slabs f9) f10 P h0 hs (fun y10 acc z5 z6 z7 z8 z9 hy1 hy2 hP => ?_))
    · obtain ⟨hok', hres⟩ := hq y10 acc z5 z6 z7 z8 z9 hy1 hy2 hP
      unfold Own Scr
      iintro ⟨H2, H3, H4, H5, H6, H7, H8, H9, H10⟩
      isplitl [H6 H7 H8 H9 H10]
      · isplitl [H6]; · iexists _; iexact H6
        isplitl [H7]; · iexists _; iexact H7
        isplitl [H8]; · iexists _; iexact H8
        isplitl [H9]; · iexists _; iexact H9
        iexists y10; isplitr; · ipureintro; exact hok'
        iexact H10
      isplitl [H2]; · iexact H2
      isplitl [H3]; · iexact H3
      isplitl [H4]; · iexact H4
      iexists _; isplitr
      swap; · iexact H5
      ipureintro; exact hres
    · unfold Own
      simp only [unslab_slabs]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · iintro %_ ⟨HS, H2, H3, H4, H5⟩
    unfold Scr
    isplitl [HS Hg]
    · isplitl [HS]; · iexact HS
      iexact Hg
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

end Cert.Proof.KernelIdeal
-- ==== Proof.FrameKernelIdeal.lean ====
module

public import proofs.«01_k».proof.Proof.PointKernelIdeal

@[expose] public section

set_option maxRecDepth 16384

noncomputable section

namespace Cert.Proof.KernelIdeal

open Cert.KernelIdeal Cert.KernelIdeal.Gen Cert.Mem
open Idealize.ShloMosaic Idealize.ShloMosaic.TcCoe
open Idealize.ShloMosaic.Pipeline (Dat RDat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (m : (ℓ : Loc nD τ sig) → Buf (Elt F) ℓ) (ρ : Dev nD → PrngReg)

/-! ## The frame, whatever the output blocks hold -/

/-- The proof data of the frame run: inputs in place, the output block anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Inv (fun _ => True) c
  q _ := fullShare
  owed _ := 0

/-- The output window's contents are not followed. -/
def forgets (w : Fin cfg0.W) : Bool := match w with
  | ⟨0, _⟩ => false
  | ⟨1, _⟩ => false
  | ⟨2, _⟩ => false
  | ⟨3, _⟩ => true

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- What a grid point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ X, owns (c : Thread nD τ) (st3 t) fullShare X))

/-- What a grid point leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ (∃ X, owns (c : Thread nD τ) (st3 t) fullShare X))

theorem point_frame (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = Inv (F := F) (fun _ => True) c from rfl, show (dats m 0 c).Φ t.castSucc = Inv (F := F) (fun _ => True) c from rfl, after_0, after_1, after_2]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩, H3⟩
  rw [before0_0_of m (dats m 0 c) (A_eq m c 0) (after_0 m c) t d0, before0_1_of m (dats m 0 c) (A_eq m c 1) (after_1 m c) t d1,
    before0_2_of m (dats m 0 c) (A_eq m c 2) (after_2 m c) t d2]
  iapply (wp_wand_r (Fr := frame) (wpE := wpE (defs₀ (F := F)) Variants.none (c : Thread nD τ) none) (E := Set.univ)
    (Q := fun _ => iprop(Inv (F := F) (fun _ => True) c ∗ owns (c : Thread nD τ) (st0 t) fullShare (iblk m c 0 t) ∗ owns (c : Thread nD τ) (st1 t) fullShare (iblk m c 1 t)
      ∗ owns (c : Thread nD τ) (st2 t) fullShare (iblk m c 2 t) ∗ (∃ X, ⌜True⌝ ∗ owns (c : Thread nD τ) (st3 t) fullShare X))))
  isplitr [HW]
  · iapply (point_run c t (iblk m c 0 t) (iblk m c 1 t) (iblk m c 2 t) (fun _ => True) (fun _ => True) (fun _ => True)
      (fun x5 x6 x7 x8 x9 x10 _ => ⟨fun _ k acc _ _ _ _ _ => acc = pairAt k, fun _ _ _ _ _ => rfl,
        fun y10 k acc x5 x6 x7 x8 x9 hk hP => by
          subst hP
          exact ⟨pair_chk k hk, fun _ => pair_next k hk, fun _ => pair_next k hk⟩,
        fun _ _ _ _ _ _ _ _ _ _ => ⟨trivial, trivial⟩⟩))
    isplitl [HI]; · iexact HI
    isplitl [H0]; · iexact H0
    isplitl [H1]; · iexact H1
    isplitl [H2]; · iexact H2
    iexact H3
  · iintro %_ ⟨HI, H0, H1, H2, ⟨%X, -, H3⟩⟩
    isplitl [HI]; · iexact HI
    isplitl [HW]
    · iexists W; isplitr; · ipureintro; exact fun _ _ => Or.inl trivial
      iexact HW
    isplitl [H0]; · iexact H0
    isplitl [H1]; · iexact H1
    isplitl [H2]; · iexact H2
    iexists X; iexact H3

theorem body_frame (c : Dev nD) : BodyObligationLoose (dats (F := F) m 0 c) (defs₀ (F := F)) Variants.none () Set.univ forgets := fun t => by
  rw [bigSep_W0, bigSep_W0, defs₀_row]
  exact triple_restated (point_frame m c t) rfl .rfl fun _ => .rfl

set_option backward.isDefEq.respectTransparency.types false in
/-- The kernel ends, with its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_track_forget cfgs (dats m) 0 launch0 defs₀ Variants.none forgets m ρ main
    (hbody := fun c => body_frame m c) (hshare := fun c => (dats m 0 c).share_full fun _ => rfl)
    (howed := fun _ _ => rfl) (V := V m) (hmain := hmain m Variants.none) (hA := A_eq m)
    (hin := fun c => inv_of_free _ (fun _ => trivial) c) (hout := fun c => free_of_inv _ c)
    (Q' := _) (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.Proof.KernelIdeal
-- ==== Proof.Soft.lean ====
module

public import Idealize.ShloMosaic.PureOps.Ideal

@[expose] public section

noncomputable section

namespace Cert.Soft

open Idealize.ShloMosaic

/-! ## The running softmax on extended reals -/

/-- The factor two to the minus `M`. -/
def shrink (M : ℝ) : ℝ := Real.rpow 2 (-M)

theorem shrink_pos (M : ℝ) : 0 < shrink M := Real.rpow_pos_of_pos (by norm_num) _

theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem exp2_real (s : EReal) (h : s ≠ ⊤) : ∃ r : ℝ, 0 ≤ r ∧ Ideal.exp2 s = r := by
  induction s with
  | bot => exact ⟨0, le_refl _, rfl⟩
  | top => exact absurd rfl h
  | coe r => exact ⟨Real.rpow 2 r, (Real.rpow_pos_of_pos (by norm_num) _).le, rfl⟩

theorem exp2_sub (s : EReal) (h : s ≠ ⊤) (M : ℝ) : Ideal.exp2 (s - M) = Ideal.exp2 s * (shrink M : EReal) := by
  induction s with
  | bot => rw [EReal.bot_sub, Ideal.exp2_bot, zero_mul]
  | top => exact absurd rfl h
  | coe r =>
    rw [← EReal.coe_sub, Ideal.exp2_coe, Ideal.exp2_coe, ← EReal.coe_mul]
    congr 1
    rw [sub_eq_add_neg]
    exact Real.rpow_add (by norm_num) _ _

theorem exp2_step (M M' : ℝ) : (shrink M : EReal) * Ideal.exp2 ((M : EReal) - M') = shrink M' := by
  rw [← EReal.coe_sub, Ideal.exp2_coe, ← EReal.coe_mul]
  congr 1
  unfold shrink
  refine (Real.rpow_add (by norm_num) _ _).symm.trans ?_
  congr 1
  ring

/-- A tile's weights against its maximum are its plain weights shrunk. -/
theorem tile_sum {n : ℕ} (S v : Fin n → EReal) (hS : ∀ c, S c ≠ ⊤) (M : ℝ) :
    ∑ c, Ideal.exp2 (S c - M) * v c = (∑ c, Ideal.exp2 (S c) * v c) * (shrink M : EReal) := by
  rw [sum_mul_real _ _ _ (shrink_pos M).le]
  refine Finset.sum_congr rfl fun c _ => ?_
  rw [exp2_sub _ (hS c), mul_assoc, mul_assoc, mul_comm (shrink M : EReal)]

/-- The accumulator after a further tile. -/
theorem step_next {n : ℕ} (S v : Fin n → EReal) (hS : ∀ c, S c ≠ ⊤) (T acc : EReal) (M M' : ℝ) (hacc : acc = T * (shrink M : EReal)) :
    acc * Ideal.exp2 ((M : EReal) - M') + ∑ c, Ideal.exp2 (S c - M') * v c = (T + ∑ c, Ideal.exp2 (S c) * v c) * (shrink M' : EReal) := by
  rw [tile_sum S v hS, hacc, mul_assoc, exp2_step]
  exact (EReal.right_distrib_of_nonneg_of_ne_top (EReal.coe_nonneg.mpr (shrink_pos M').le) (EReal.coe_ne_top _) _ _).symm

/-- The accumulator after the first tile, whatever it held. -/
theorem step_first {n : ℕ} (S v : Fin n → EReal) (hS : ∀ c, S c ≠ ⊤) (acc : EReal) (M' : ℝ) :
    acc * Ideal.exp2 (⊥ - (M' : EReal)) + ∑ c, Ideal.exp2 (S c - M') * v c = (∑ c, Ideal.exp2 (S c) * v c) * (shrink M' : EReal) := by
  rw [tile_sum S v hS, EReal.bot_sub, Ideal.exp2_bot, mul_zero, zero_add]

theorem fold_ne_top {n : ℕ} (S : Fin n → EReal) (hS : ∀ c, S c ≠ ⊤) : Finset.univ.fold max (⊥ : EReal) S ≠ ⊤ :=
  ne_of_lt ((Finset.fold_max_lt _).mpr ⟨bot_lt_top, fun c _ => lt_top_iff_ne_top.mpr (hS c)⟩)

theorem fold_ne_bot {n : ℕ} (S : Fin n → EReal) (c : Fin n) (h : S c ≠ ⊥) : Finset.univ.fold max (⊥ : EReal) S ≠ ⊥ := fun hb => by
  have := Finset.le_fold_max (b := (⊥ : EReal)) (f := S) (s := Finset.univ) (S c) |>.mpr (Or.inr ⟨c, Finset.mem_univ c, le_refl _⟩)
  rw [hb] at this
  exact h (le_bot_iff.mp this)

theorem exists_real (x : EReal) (h1 : x ≠ ⊤) (h2 : x ≠ ⊥) : ∃ r : ℝ, x = r := ⟨x.toReal, (EReal.coe_toReal h1 h2).symm⟩

/-- The running maximum stays a real number. -/
theorem max_real (M : ℝ) (mc : EReal) (h : mc ≠ ⊤) : ∃ M' : ℝ, max (M : EReal) mc = M' := by
  refine exists_real _ ?_ ?_
  · exact ne_of_lt (max_lt (EReal.coe_lt_top M) (lt_top_iff_ne_top.mpr h))
  · exact ne_of_gt (lt_of_lt_of_le (EReal.bot_lt_coe M) (le_max_left _ _))

/-- The quotient of two equally shrunk sums. -/
theorem div_shrink (T : EReal) (d c : ℝ) (hd : 0 < d) (hc : 0 < c) : Ideal.div (T * (c : EReal)) ((d : EReal) * (c : EReal)) = Ideal.div T d := by
  rw [← EReal.coe_mul, Ideal.div_coe (by positivity), Ideal.div_coe hd.ne', mul_assoc, ← EReal.coe_mul]
  congr 2
  field_simp

/-! ## Sums over the keys met so far -/

/-- A function of the keys, nothing past the last. -/
def pad (g : Fin 2048 → EReal) (k : ℕ) : EReal := if h : k < 2048 then g ⟨k, h⟩ else 0

/-- The sum over the first `j` tiles of keys. -/
def upTo (g : Fin 2048 → EReal) (j : ℕ) : EReal := ∑ k ∈ Finset.range (512 * j), pad g k

theorem upTo_succ (g : Fin 2048 → EReal) (j : ℕ) (hj : j < 4) : upTo g (j + 1) = upTo g j + ∑ c : Fin 512, g ⟨512 * j + c.val, by omega⟩ := by
  unfold upTo
  rw [show 512 * (j + 1) = 512 * j + 512 from by ring, Finset.sum_range_add, Finset.sum_range (fun x => pad g (512 * j + x))]
  congr 1
  refine Finset.sum_congr rfl fun c _ => ?_
  unfold pad
  rw [dif_pos]

theorem upTo_zero (g : Fin 2048 → EReal) : upTo g 0 = 0 := rfl

theorem upTo_full (g : Fin 2048 → EReal) (j : ℕ) (hj : j ≤ 4) (h : ∀ k, 512 * j ≤ k.val → g k = 0) : upTo g j = ∑ k, g k := by
  unfold upTo
  rw [show (∑ k, g k) = ∑ k : Fin 2048, pad g k.val from Finset.sum_congr rfl fun k _ => by unfold pad; rw [dif_pos k.isLt], ← Finset.sum_range (pad g)]
  refine Finset.sum_subset (Finset.range_subset_range.mpr (by omega)) fun k hk hn => ?_
  rw [Finset.mem_range] at hk hn
  unfold pad
  rw [dif_pos hk]
  exact h _ (by show 512 * j ≤ k; omega)

theorem sum_real {ι : Type} (s : Finset ι) (f : ι → EReal) (h : ∀ i, ∃ r : ℝ, 0 ≤ r ∧ f i = r) : ∃ r : ℝ, 0 ≤ r ∧ ∑ i ∈ s, f i = r := by
  choose r hr hf using h
  exact ⟨∑ i ∈ s, r i, Finset.sum_nonneg fun i _ => hr i, by rw [coe_sum]; exact Finset.sum_congr rfl fun i _ => hf i⟩

/-- A sum of weights one of which is positive. -/
theorem sum_pos {n : ℕ} (f : Fin n → EReal) (h : ∀ i, ∃ r : ℝ, 0 ≤ r ∧ f i = r) (i : Fin n) (hi : 0 < f i) : ∃ r : ℝ, 0 < r ∧ ∑ i, f i = r := by
  choose r hr hf using h
  refine ⟨∑ i, r i, Finset.sum_pos' (fun i _ => hr i) ⟨i, Finset.mem_univ i, ?_⟩, by rw [coe_sum]; exact Finset.sum_congr rfl fun i _ => hf i⟩
  rw [hf i] at hi
  exact EReal.coe_pos.mp hi

end Cert.Soft
-- ==== Proof.Softmax.lean ====
module

public import proofs.«01_k».proof.Proof.Soft

@[expose] public section

noncomputable section

namespace Cert.Soft

open Idealize.ShloMosaic

/-! ## One row of the softmax, by powers of two and by powers of e -/

/-- The weighted mean by powers of e taken from the row's maximum. -/
def meanE {n : ℕ} (v S : Fin n → EReal) : EReal :=
  ∑ C, v C * Ideal.div (Ideal.exp (S C - max ⊥ (Finset.univ.fold max ⊥ S))) (∑ C', Ideal.exp (S C' - max ⊥ (Finset.univ.fold max ⊥ S)))

section Row

variable {n : ℕ} (keep : Fin n → Prop) [DecidablePred keep] (r : Fin n → ℝ)

/-- A row's scores, with nothing where the mask drops a key. -/
def masked (C : Fin n) : EReal := if keep C then (r C : EReal) else ⊥

/-- A row's weights. -/
def wt (C : Fin n) : ℝ := if keep C then Real.exp (r C) else 0

theorem wt_nonneg (C : Fin n) : 0 ≤ wt keep r C := by
  unfold wt
  split
  · exact (Real.exp_pos _).le
  · exact le_refl _

theorem exp2_masked (C : Fin n) : Ideal.exp2 (masked keep (fun C => r C / Real.log 2) C) = (wt keep r C : EReal) := by
  have hl : Real.log 2 ≠ 0 := (Real.log_pos (by norm_num)).ne'
  unfold masked wt
  split
  · rw [Ideal.exp2_coe]
    congr 1
    refine (Real.rpow_def_of_pos (by norm_num) _).trans ?_
    congr 1
    field_simp
  · rw [Ideal.exp2_bot]; rfl

theorem exp_masked (M : ℝ) (C : Fin n) : Ideal.exp (masked keep r C - (M : EReal)) = ((wt keep r C * Real.exp (-M) : ℝ) : EReal) := by
  unfold masked wt
  split
  · rw [← EReal.coe_sub, Ideal.exp_coe, ← Real.exp_add, sub_eq_add_neg]
  · rw [EReal.bot_sub, Ideal.exp_bot, zero_mul]; rfl

theorem masked_ne_top (C : Fin n) : masked keep r C ≠ ⊤ := by
  unfold masked
  split
  · exact EReal.coe_ne_top _
  · exact bot_ne_top

theorem wt_sum_pos (c0 : Fin n) (h0 : keep c0) : 0 < ∑ C, wt keep r C := by
  refine Finset.sum_pos' (fun C _ => wt_nonneg keep r C) ⟨c0, Finset.mem_univ _, ?_⟩
  unfold wt
  rw [if_pos h0]
  exact Real.exp_pos _

/-- The weighted mean by powers of e taken from the row's maximum is the one by powers of two. -/
theorem row_eq (v : Fin n → EReal) (c0 : Fin n) (h0 : keep c0) :
    meanE v (masked keep r) =
      Ideal.div (∑ C, Ideal.exp2 (masked keep (fun C => r C / Real.log 2) C) * v C) (∑ C, Ideal.exp2 (masked keep (fun C => r C / Real.log 2) C)) := by
  obtain ⟨M, hM⟩ := exists_real (Finset.univ.fold max (⊥ : EReal) (masked keep r)) (fold_ne_top _ (masked_ne_top keep r))
    (fold_ne_bot _ c0 (by unfold masked; rw [if_pos h0]; exact EReal.coe_ne_bot _))
  have hD := wt_sum_pos keep r c0 h0
  have hk := Real.exp_pos (-M)
  unfold meanE
  rw [hM, max_eq_right bot_le]
  simp only [exp_masked, exp2_masked]
  rw [← coe_sum, ← coe_sum, ← Finset.sum_mul, Ideal.div_coe hD.ne', sum_mul_real _ _ _ (by positivity)]
  refine Finset.sum_congr rfl fun C _ => ?_
  have e : wt keep r C * Real.exp (-M) * (1 / ((∑ i, wt keep r i) * Real.exp (-M))) = wt keep r C * (1 / ∑ i, wt keep r i) := by field_simp
  rw [Ideal.div_coe (by positivity), ← EReal.coe_mul, e, mul_comm (wt keep r C : EReal), mul_assoc, EReal.coe_mul]

end Row

/-! ## The packed dot product -/

/-- One head's 128 lanes: the 64 without a rotation, the 32 rotated ones, zeros. -/
def packed (a : Fin 64 → EReal) (b : Fin 32 → EReal) (d : Fin 128) : EReal :=
  if h : d.val < 64 then a ⟨d.val, h⟩ else if h : d.val - 64 < 32 then b ⟨d.val - 64, h⟩ else 0

theorem packed_lo (a : Fin 64 → EReal) (b : Fin 32 → EReal) (d : Fin 64) : packed a b ⟨d.val, by omega⟩ = a d := by
  unfold packed
  rw [dif_pos d.isLt]

theorem packed_mid (a : Fin 64 → EReal) (b : Fin 32 → EReal) (d : Fin 32) : packed a b ⟨64 + d.val, by omega⟩ = b d := by
  unfold packed
  rw [dif_neg (by simp), dif_pos (by simp)]
  congr 1
  exact Fin.ext (Nat.add_sub_cancel_left ..)

theorem packed_hi (a : Fin 64 → EReal) (b : Fin 32 → EReal) (d : Fin 32) : packed a b ⟨64 + (32 + d.val), by omega⟩ = 0 := by
  unfold packed
  rw [dif_neg (by simp), dif_neg (by simp)]

/-- A sum over 128 lanes by its three runs. -/
theorem sum_lanes (f : Fin 128 → EReal) :
    ∑ d, f d = ∑ d : Fin 64, f ⟨d.val, by omega⟩ + (∑ d : Fin 32, f ⟨64 + d.val, by omega⟩ + ∑ d : Fin 32, f ⟨64 + (32 + d.val), by omega⟩) := by
  refine (Fin.sum_univ_add (a := 64) (b := 64) f).trans ?_
  exact congrArg _ (Fin.sum_univ_add (a := 32) (b := 32) fun d => f (Fin.natAdd 64 d))

/-- The factor the queries are packed with. -/
def scl : EReal := Ideal.div 1 (Ideal.sqrt (Ideal.ofBits FTy.f32 1119879168#32) * Ideal.log (Ideal.ofBits FTy.f32 1073741824#32))

/-- The factor of the scores. -/
def scr : EReal := Ideal.div 1 (Ideal.sqrt (Ideal.ofBits FTy.f32 1119879168#32))

theorem lit96 : Ideal.ofBits FTy.f32 1119879168#32 = ((96 : ℝ) : EReal) := by
  simp [Ideal.ofBits, Ideal.ieee, -EReal.coe_mul]; norm_num

theorem lit2 : Ideal.ofBits FTy.f32 1073741824#32 = ((2 : ℝ) : EReal) := by
  simp [Ideal.ofBits, Ideal.ieee, -EReal.coe_mul]; norm_num

theorem lit_bot : Ideal.ofBits FTy.f32 4286578688#32 = (⊥ : EReal) := by
  simp [Ideal.ofBits, Ideal.ieee]

theorem lit_top : Ideal.ofBits FTy.f32 2139095040#32 = (⊤ : EReal) := by
  simp [Ideal.ofBits, Ideal.ieee]

theorem scr_eq : scr = ((1 / Real.sqrt 96 : ℝ) : EReal) := by
  unfold scr
  rw [lit96, Ideal.sqrt_coe, if_neg (by norm_num), Ideal.div_coe (by positivity), one_mul]

theorem scl_eq : scl = ((1 / Real.sqrt 96 / Real.log 2 : ℝ) : EReal) := by
  have hl : 0 < Real.log 2 := Real.log_pos (by norm_num)
  unfold scl
  rw [lit96, lit2, Ideal.sqrt_coe, if_neg (by norm_num), Ideal.log_coe, if_neg (by norm_num), ← EReal.coe_mul, Ideal.div_coe (by positivity), one_mul]
  congr 1
  field_simp

/-- One score of real entries. -/
def score (qa ka : Fin 64 → ℝ) (qb kb : Fin 32 → ℝ) : ℝ := (∑ x, qa x * ka x + ∑ x, kb x * qb x) * (1 / Real.sqrt 96)

theorem score_ref (qa ka : Fin 64 → ℝ) (qb kb : Fin 32 → ℝ) :
    ((∑ x, (qa x : EReal) * ka x) + ∑ x, (kb x : EReal) * qb x) * scr = (score qa ka qb kb : EReal) := by
  rw [scr_eq]
  unfold score
  rw [EReal.coe_mul, EReal.coe_add, coe_sum, coe_sum]
  simp only [EReal.coe_mul]

theorem score_packed (qa ka : Fin 64 → ℝ) (qb kb : Fin 32 → ℝ) :
    ∑ d, (packed (fun x => (qa x : EReal)) (fun x => (qb x : EReal)) d * scl) * packed (fun x => (ka x : EReal)) (fun x => (kb x : EReal)) d = ((score qa ka qb kb / Real.log 2 : ℝ) : EReal) := by
  rw [sum_lanes]
  simp only [packed_lo, packed_mid, packed_hi, mul_zero, Finset.sum_const_zero, add_zero]
  rw [scl_eq]
  simp only [← EReal.coe_mul]
  rw [← coe_sum, ← coe_sum, ← EReal.coe_add]
  congr 1
  unfold score
  rw [add_mul, add_div, Finset.sum_mul, Finset.sum_mul, Finset.sum_div, Finset.sum_div]
  congr 1
  · exact Finset.sum_congr rfl fun x _ => by ring
  · exact Finset.sum_congr rfl fun x _ => by ring

end Cert.Soft
-- ==== Proof.Entries.lean ====
module

public import proofs.«01_k».proof.Pre_finite_queries_and_keys
public import proofs.«01_k».proof.Proof.Softmax
public import Idealize.ShloMosaic.Lib.Claim
public import Idealize.ShloMosaic.Lib.Pointwise

@[expose] public section

set_option maxRecDepth 16384

noncomputable section

namespace Cert.Soft
open Idealize.ShloMosaic Idealize.ShloMosaic.TcCoe

theorem both_bits (p q : Prop) [Decidable p] [Decidable q] (h : IntOp.andi (BitVec.ofBool (decide p)) (BitVec.ofBool (decide q)) = 1#1) : p ∧ q := by
  by_cases hp : p <;> by_cases hq : q <;> simp [hp, hq, IntOp.andi] at h ⊢

theorem real_of_between (x : EReal) (h : Ideal.ofBits .f32 4286578688#32 < x ∧ x < Ideal.ofBits .f32 2139095040#32) : ∃ r : ℝ, x = r := by
  rw [lit_bot, lit_top] at h
  exact exists_real x (ne_of_lt h.2) (ne_of_gt h.1)

variable [Cert.Pre_finite_queries_and_keys.Facts] {a0 : FVec Ideal ⟨4, ![32, 2048, 8, 64]⟩ .f32} {a1 : FVec Ideal ⟨4, ![32, 2048, 8, 32]⟩ .f32} {a2 : FVec Ideal ⟨4, ![32, 2048, 8, 64]⟩ .f32}
  {a3 : FVec Ideal ⟨3, ![32, 2048, 32]⟩ .f32} {a4 : FVec Ideal ⟨4, ![32, 2048, 8, 64]⟩ .f32}

theorem pre_at (h : Cert.Pre_finite_queries_and_keys.fn (F := Ideal) a0 a1 a2 a3 a4 = fun _ => 1#1) (b : Fin 32) (R : Fin 2048) (n : Fin 8) (d : Fin 192) :
    ∃ r : ℝ, (if h : d.val < 64 then a0 (ix4 b R n ⟨d.val, h⟩) else if h : d.val - 64 < 32 then a1 (ix4 b R n ⟨d.val - 64, h⟩) else
      if h : d.val - 64 - 32 < 64 then a2 (ix4 b R n ⟨d.val - 64 - 32, h⟩) else a3 (ix3 b R ⟨d.val - 64 - 32 - 64, by omega⟩) : EReal) = r := by
  have e := congrFun h (ix4 b R n d)
  pointwise [Cert.Pre_finite_queries_and_keys.fn] at e
  exact real_of_between _ (both_bits _ _ e)

theorem pre0 (h : Cert.Pre_finite_queries_and_keys.fn (F := Ideal) a0 a1 a2 a3 a4 = fun _ => 1#1) (b : Fin 32) (R : Fin 2048) (n : Fin 8) (d : Fin 64) : ∃ r : ℝ, (a0 (ix4 b R n d) : EReal) = r := by
  obtain ⟨r, hr⟩ := pre_at h b R n ⟨d.val, by omega⟩
  rw [dif_pos d.isLt] at hr
  exact ⟨r, hr⟩

theorem pre1 (h : Cert.Pre_finite_queries_and_keys.fn (F := Ideal) a0 a1 a2 a3 a4 = fun _ => 1#1) (b : Fin 32) (R : Fin 2048) (n : Fin 8) (d : Fin 32) : ∃ r : ℝ, (a1 (ix4 b R n d) : EReal) = r := by
  obtain ⟨r, hr⟩ := pre_at h b R n ⟨64 + d.val, by omega⟩
  rw [dif_neg (by simp), dif_pos (by simp)] at hr
  exact ⟨r, (congrArg (fun x => a1 (ix4 b R n x)) (Fin.ext (by simp))).trans hr⟩

theorem pre2 (h : Cert.Pre_finite_queries_and_keys.fn (F := Ideal) a0 a1 a2 a3 a4 = fun _ => 1#1) (b : Fin 32) (R : Fin 2048) (n : Fin 8) (d : Fin 64) : ∃ r : ℝ, (a2 (ix4 b R n d) : EReal) = r := by
  obtain ⟨r, hr⟩ := pre_at h b R n ⟨96 + d.val, by omega⟩
  rw [dif_neg (by simp; omega), dif_neg (by simp; omega), dif_pos (by simp; omega)] at hr
  exact ⟨r, (congrArg (fun x => a2 (ix4 b R n x)) (Fin.ext (by simp; omega))).trans hr⟩

theorem pre3 (h : Cert.Pre_finite_queries_and_keys.fn (F := Ideal) a0 a1 a2 a3 a4 = fun _ => 1#1) (b : Fin 32) (R : Fin 2048) (d : Fin 32) : ∃ r : ℝ, (a3 (ix3 b R d) : EReal) = r := by
  obtain ⟨r, hr⟩ := pre_at h b R 0 ⟨160 + d.val, by omega⟩
  rw [dif_neg (by simp; omega), dif_neg (by simp; omega), dif_neg (by simp; omega)] at hr
  exact ⟨r, (congrArg (fun x => a3 (ix3 b R x)) (Fin.ext (by simp; omega))).trans hr⟩

end Cert.Soft
-- ==== Proof.Canon.lean ====
module

public import proofs.«01_k».proof.Proof.PointKernelIdeal

@[expose] public section

set_option maxRecDepth 16384

noncomputable section

namespace Cert.Proof.KernelIdeal

open Cert.KernelIdeal Cert.KernelIdeal.Gen Cert.Mem
open Idealize.ShloMosaic Idealize.ShloMosaic.TcCoe
open VecWindow (window put)

variable {F : FTy → Type} [FloatOps F] [Named F]

/-! ## One form for the eight heads -/

/-- Scores of one head, its columns the first half of the window. -/
def scoreA (q : Vec F S1x512x256 .bf16) (mk : Vec F S1x512x512 .f32) (k : Vec F S1x512x256 .bf16) : Vec F S1x512x512 .f32 := k0_pay64 q mk k

/-- Scores of one head, its columns the second half of the window. -/
def scoreB (q : Vec F S1x512x256 .bf16) (mk : Vec F S1x512x512 .f32) (k : Vec F S1x512x256 .bf16) : Vec F S1x512x512 .f32 := k0_pay68 (k0_pay51 q) (k0_pay61 mk) (k0_pay62 k)

/-- Row maxima of the scores of the first half. -/
def maxA (q : Vec F S1x512x256 .bf16) (mk : Vec F S1x512x512 .f32) (k : Vec F S1x512x256 .bf16) : Vec F S1x512x128 .f32 := k0_pay66 (k0_pay65 q mk k)

/-- Row maxima of the scores of the second half. -/
def maxB (q : Vec F S1x512x256 .bf16) (mk : Vec F S1x512x512 .f32) (k : Vec F S1x512x256 .bf16) : Vec F S1x512x128 .f32 := k0_pay69 (k0_pay51 q) (k0_pay61 mk) (k0_pay62 k)

/-- The next running maximum. -/
def mStep (j : BitVec 32) (m mc : Vec F S1x512x128 .f32) : Vec F S1x512x128 .f32 := k0_pay14 (k0_pay11 j m mc)

/-- The next accumulator of a pair of heads. -/
def aStep (j : BitVec 32) (w : Vec F S1x512x128 .bf16) (sA : Vec F S1x512x512 .f32) (mcA mA : Vec F S1x512x128 .f32) (sB : Vec F S1x512x512 .f32) (mcB mB : Vec F S1x512x128 .f32) (acc : Vec F S1x512x256 .f32) : Vec F S1x512x256 .f32 :=
  k0_pay18 k0_pay92 (k0_pay8 j) (k0_pay9 k0_pay92 (k0_pay93 (F := F)) (k0_pay94 (F := F)) w) (k0_pay12 j mA mcA) (k0_pay13 j mA mcA sA) mB mcB sB acc

/-- Two heads' outputs from their accumulator. -/
def oStep (a : Vec F S1x512x256 .f32) : Vec F S1x512x128 .bf16 := k0_pay4 a

theorem cap_last : k0_pay142 (F := F) = k0_pay8 3#32 := rfl

theorem tripM_eq (j : BitVec 32) (x7 x8 : Fin 8 → Vec F S1x512x128 .f32) : tripM j x7 x8 = fun h => mStep j (x8 h) (x7 h) := by
  funext h
  match h with
  | 0 | 1 | 2 | 3 | 4 | 5 | 6 | 7 => rfl

theorem tripA_eq (x4 : Vec F S1x2048x512 .bf16) (qi j : BitVec 32) (hw : k0_chk1 qi j) (x6 : Fin 8 → Vec F S1x512x512 .f32) (x7 : Fin 8 → Vec F S1x512x128 .f32) (x8 : Fin 8 → Vec F S1x512x128 .f32) (x9 : Fin 4 → Vec F S1x512x256 .f32) :
    tripA k0_pay92 (k0_pay93 (F := F)) (k0_pay94 (F := F)) x4 qi j hw x6 x7 x8 x9 =
    ![aStep j (window (s := S1x2048x512) x4 (k0_off2 j) S1x512x128.size (k0_off2_inb qi j hw)) (x6 0) (x7 0) (x8 0) (x6 1) (x7 1) (x8 1) (x9 0),
      aStep j (window (s := S1x2048x512) x4 (k0_off3 j) S1x512x128.size (k0_off3_inb qi j hw)) (x6 2) (x7 2) (x8 2) (x6 3) (x7 3) (x8 3) (x9 1),
      aStep j (window (s := S1x2048x512) x4 (k0_off4 j) S1x512x128.size (k0_off4_inb qi j hw)) (x6 4) (x7 4) (x8 4) (x6 5) (x7 5) (x8 5) (x9 2),
      aStep j (window (s := S1x2048x512) x4 (k0_off5 j) S1x512x128.size (k0_off5_inb qi j hw)) (x6 6) (x7 6) (x8 6) (x6 7) (x7 7) (x8 7) (x9 3)] := rfl

theorem tripS_eq (x2 : Vec F S1x2048x1024 .bf16) (x3 : Vec F S1x2048x1024 .bf16) (x10 : Vec F S2x512x512 .f32) (qi j : BitVec 32) (hw : k0_chk1 qi j) :
    tripS x2 x3 x10 qi j hw =
    let mk := window (s := S2x512x512) x10 (k0_off10 qi j) S1x512x512.size (k0_off10_inb qi j hw)
    let q0 := window (s := S1x2048x1024) x2 (k0_off6 qi j) S1x512x256.size (k0_off6_inb qi j hw)
    let q1 := window (s := S1x2048x1024) x2 (k0_off7 qi j) S1x512x256.size (k0_off7_inb qi j hw)
    let q2 := window (s := S1x2048x1024) x2 (k0_off8 qi j) S1x512x256.size (k0_off8_inb qi j hw)
    let q3 := window (s := S1x2048x1024) x2 (k0_off9 qi j) S1x512x256.size (k0_off9_inb qi j hw)
    let k0 := window (s := S1x2048x1024) x3 (k0_off11 qi j) S1x512x256.size (k0_off11_inb qi j hw)
    let k1 := window (s := S1x2048x1024) x3 (k0_off12 qi j) S1x512x256.size (k0_off12_inb qi j hw)
    let k2 := window (s := S1x2048x1024) x3 (k0_off13 qi j) S1x512x256.size (k0_off13_inb qi j hw)
    let k3 := window (s := S1x2048x1024) x3 (k0_off14 qi j) S1x512x256.size (k0_off14_inb qi j hw)
    ![scoreA q0 mk k0, scoreB q0 mk k0, scoreA q1 mk k1, scoreB q1 mk k1, scoreA q2 mk k2, scoreB q2 mk k2, scoreA q3 mk k3, scoreB q3 mk k3] := rfl

theorem tripMC_eq (x2 : Vec F S1x2048x1024 .bf16) (x3 : Vec F S1x2048x1024 .bf16) (x10 : Vec F S2x512x512 .f32) (qi j : BitVec 32) (hw : k0_chk1 qi j) :
    tripMC x2 x3 x10 qi j hw =
    let mk := window (s := S2x512x512) x10 (k0_off10 qi j) S1x512x512.size (k0_off10_inb qi j hw)
    let q0 := window (s := S1x2048x1024) x2 (k0_off6 qi j) S1x512x256.size (k0_off6_inb qi j hw)
    let q1 := window (s := S1x2048x1024) x2 (k0_off7 qi j) S1x512x256.size (k0_off7_inb qi j hw)
    let q2 := window (s := S1x2048x1024) x2 (k0_off8 qi j) S1x512x256.size (k0_off8_inb qi j hw)
    let q3 := window (s := S1x2048x1024) x2 (k0_off9 qi j) S1x512x256.size (k0_off9_inb qi j hw)
    let k0 := window (s := S1x2048x1024) x3 (k0_off11 qi j) S1x512x256.size (k0_off11_inb qi j hw)
    let k1 := window (s := S1x2048x1024) x3 (k0_off12 qi j) S1x512x256.size (k0_off12_inb qi j hw)
    let k2 := window (s := S1x2048x1024) x3 (k0_off13 qi j) S1x512x256.size (k0_off13_inb qi j hw)
    let k3 := window (s := S1x2048x1024) x3 (k0_off14 qi j) S1x512x256.size (k0_off14_inb qi j hw)
    ![maxA q0 mk k0, maxB q0 mk k0, maxA q1 mk k1, maxB q1 mk k1, maxA q2 mk k2, maxB q2 mk k2, maxA q3 mk k3, maxB q3 mk k3] := rfl

theorem firstS_eq (x2 : Vec F S1x2048x1024 .bf16) (x3 : Vec F S1x2048x1024 .bf16) (x10 : Vec F S2x512x512 .f32) :
    firstS x2 x3 x10 =
    let mk := window (s := S2x512x512) x10 k0_off1 S1x512x512.size k0_off1_inb
    let q0 := window (s := S1x2048x1024) x2 ![0, 0, 0] S1x512x256.size inb_S1x2048x1024_S1x512x256_0_0_0
    let q1 := window (s := S1x2048x1024) x2 ![0, 0, 256] S1x512x256.size inb_S1x2048x1024_S1x512x256_0_0_256
    let q2 := window (s := S1x2048x1024) x2 ![0, 0, 512] S1x512x256.size inb_S1x2048x1024_S1x512x256_0_0_512
    let q3 := window (s := S1x2048x1024) x2 ![0, 0, 768] S1x512x256.size inb_S1x2048x1024_S1x512x256_0_0_768
    let k0 := window (s := S1x2048x1024) x3 ![0, 0, 0] S1x512x256.size inb_S1x2048x1024_S1x512x256_0_0_0
    let k1 := window (s := S1x2048x1024) x3 ![0, 0, 256] S1x512x256.size inb_S1x2048x1024_S1x512x256_0_0_256
    let k2 := window (s := S1x2048x1024) x3 ![0, 0, 512] S1x512x256.size inb_S1x2048x1024_S1x512x256_0_0_512
    let k3 := window (s := S1x2048x1024) x3 ![0, 0, 768] S1x512x256.size inb_S1x2048x1024_S1x512x256_0_0_768
    ![scoreA q0 mk k0, scoreB q0 mk k0, scoreA q1 mk k1, scoreB q1 mk k1, scoreA q2 mk k2, scoreB q2 mk k2, scoreA q3 mk k3, scoreB q3 mk k3] := rfl

theorem firstMC_eq (x2 : Vec F S1x2048x1024 .bf16) (x3 : Vec F S1x2048x1024 .bf16) (x10 : Vec F S2x512x512 .f32) :
    firstMC x2 x3 x10 =
    let mk := window (s := S2x512x512) x10 k0_off1 S1x512x512.size k0_off1_inb
    let q0 := window (s := S1x2048x1024) x2 ![0, 0, 0] S1x512x256.size inb_S1x2048x1024_S1x512x256_0_0_0
    let q1 := window (s := S1x2048x1024) x2 ![0, 0, 256] S1x512x256.size inb_S1x2048x1024_S1x512x256_0_0_256
    let q2 := window (s := S1x2048x1024) x2 ![0, 0, 512] S1x512x256.size inb_S1x2048x1024_S1x512x256_0_0_512
    let q3 := window (s := S1x2048x1024) x2 ![0, 0, 768] S1x512x256.size inb_S1x2048x1024_S1x512x256_0_0_768
    let k0 := window (s := S1x2048x1024) x3 ![0, 0, 0] S1x512x256.size inb_S1x2048x1024_S1x512x256_0_0_0
    let k1 := window (s := S1x2048x1024) x3 ![0, 0, 256] S1x512x256.size inb_S1x2048x1024_S1x512x256_0_0_256
    let k2 := window (s := S1x2048x1024) x3 ![0, 0, 512] S1x512x256.size inb_S1x2048x1024_S1x512x256_0_0_512
    let k3 := window (s := S1x2048x1024) x3 ![0, 0, 768] S1x512x256.size inb_S1x2048x1024_S1x512x256_0_0_768
    ![maxA q0 mk k0, maxB q0 mk k0, maxA q1 mk k1, maxB q1 mk k1, maxA q2 mk k2, maxB q2 mk k2, maxA q3 mk k3, maxB q3 mk k3] := rfl

theorem tripO_eq (qi j : BitVec 32) (x5 : Vec F S1x2048x512 .bf16) (x9 : Fin 4 → Vec F S1x512x256 .f32) :
    tripO qi j x5 x9 = put (s := S1x2048x512) (put (s := S1x2048x512) (put (s := S1x2048x512) (put (s := S1x2048x512) x5 (k0_off15 qi) S1x512x128.size (oStep (x9 0))) (k0_off16 qi) S1x512x128.size (oStep (x9 1))) (k0_off17 qi) S1x512x128.size (oStep (x9 2))) (k0_off18 qi) S1x512x128.size (oStep (x9 3)) := rfl

theorem lastO_eq (x4 : Vec F S1x2048x512 .bf16) (x5 : Vec F S1x2048x512 .bf16) (x6 : Fin 8 → Vec F S1x512x512 .f32) (x7 : Fin 8 → Vec F S1x512x128 .f32) (x8 : Fin 8 → Vec F S1x512x128 .f32) (x9 : Fin 4 → Vec F S1x512x256 .f32) :
    lastO x4 x5 x6 x7 x8 x9 =
    put (s := S1x2048x512) (put (s := S1x2048x512) (put (s := S1x2048x512) (put (s := S1x2048x512) x5 ![0, 1536, 0] S1x512x128.size
      (oStep (aStep 3#32 (window (s := S1x2048x512) x4 ![0, 1536, 0] S1x512x128.size inb_S1x2048x512_S1x512x128_0_1536_0) (x6 0) (x7 0) (x8 0) (x6 1) (x7 1) (x8 1) (x9 0)))) ![0, 1536, 128] S1x512x128.size
      (oStep (aStep 3#32 (window (s := S1x2048x512) x4 ![0, 1536, 128] S1x512x128.size inb_S1x2048x512_S1x512x128_0_1536_128) (x6 2) (x7 2) (x8 2) (x6 3) (x7 3) (x8 3) (x9 1)))) ![0, 1536, 256] S1x512x128.size
      (oStep (aStep 3#32 (window (s := S1x2048x512) x4 ![0, 1536, 256] S1x512x128.size inb_S1x2048x512_S1x512x128_0_1536_256) (x6 4) (x7 4) (x8 4) (x6 5) (x7 5) (x8 5) (x9 2)))) ![0, 1536, 384] S1x512x128.size
      (oStep (aStep 3#32 (window (s := S1x2048x512) x4 ![0, 1536, 384] S1x512x128.size inb_S1x2048x512_S1x512x128_0_1536_384) (x6 6) (x7 6) (x8 6) (x6 7) (x7 7) (x8 7) (x9 3))) := rfl

end Cert.Proof.KernelIdeal
-- ==== Proof.At.lean ====
module

public import proofs.«01_k».proof.Proof.Canon
public import Idealize.ShloMosaic.Lib.Pointwise

@[expose] public section

set_option maxRecDepth 16384

noncomputable section

namespace Cert.Proof.KernelIdeal

open Cert.KernelIdeal Cert.KernelIdeal.Gen Cert.Mem
open Idealize.ShloMosaic Idealize.ShloMosaic.TcCoe
open VecWindow (window put)

/-! ## The payloads at an index -/

theorem scoreA_at (q : Vec Ideal S1x512x256 .bf16) (mk : Vec Ideal S1x512x512 .f32) (k : Vec Ideal S1x512x256 .bf16) (r c : Fin 512) :
    scoreA q mk k (ix3 0 r c) = (∑ d : Fin 128, (q (ix3 0 r ⟨d.val, by omega⟩) : EReal) * k (ix3 0 c ⟨d.val, by omega⟩)) + mk (ix3 0 r c) := by
  unfold scoreA; unfold_payloads; pointwise

theorem scoreB_at (q : Vec Ideal S1x512x256 .bf16) (mk : Vec Ideal S1x512x512 .f32) (k : Vec Ideal S1x512x256 .bf16) (r c : Fin 512) :
    scoreB q mk k (ix3 0 r c) = (∑ d : Fin 128, (q (ix3 0 r ⟨128 + d.val, by omega⟩) : EReal) * k (ix3 0 c ⟨128 + d.val, by omega⟩)) + mk (ix3 0 r c) := by
  unfold scoreB; unfold_payloads; pointwise

theorem negInf : Ideal.ofBits .f32 0xFF800000#32 = (⊥ : EReal) := by
  simp [Ideal.ofBits, Ideal.ieee]

theorem maxA_at (q : Vec Ideal S1x512x256 .bf16) (mk : Vec Ideal S1x512x512 .f32) (k : Vec Ideal S1x512x256 .bf16) (r : Fin 512) (l : Fin 128) :
    maxA q mk k (ix3 0 r l) = Finset.univ.fold max (⊥ : EReal) (fun c : Fin 512 => scoreA q mk k (ix3 0 r c)) := by
  unfold maxA scoreA; unfold_payloads; pointwise
  rw [negInf]

theorem maxB_at (q : Vec Ideal S1x512x256 .bf16) (mk : Vec Ideal S1x512x512 .f32) (k : Vec Ideal S1x512x256 .bf16) (r : Fin 512) (l : Fin 128) :
    maxB q mk k (ix3 0 r l) = Finset.univ.fold max (⊥ : EReal) (fun c : Fin 512 => scoreB q mk k (ix3 0 r c)) := by
  unfold maxB scoreB; unfold_payloads; pointwise
  rw [negInf]

theorem mStep_at (j : BitVec 32) (m mc : Vec Ideal S1x512x128 .f32) (r : Fin 512) (l : Fin 128) :
    mStep j m mc (ix3 0 r l) = max (min (m (ix3 0 r l) : EReal) (k0_pay8 (F := Ideal) j)) (mc (ix3 0 r l)) := by
  unfold mStep; unfold_payloads; pointwise

theorem oStep_at (a : Vec Ideal S1x512x256 .f32) (r : Fin 512) (l : Fin 128) :
    oStep a (ix3 0 r l) = Ideal.div (a (ix3 0 r ⟨l.val, by omega⟩)) (a (ix3 0 r ⟨128 + l.val, by omega⟩)) := by
  unfold oStep; unfold_payloads; pointwise

theorem cap_zero : (k0_pay8 (F := Ideal) 0#32 : EReal) = ⊥ := by
  rfl

theorem cap_pos (j : BitVec 32) (h : j ≠ 0#32) : (k0_pay8 (F := Ideal) j : EReal) = ⊤ := by
  unfold k0_pay8
  have : Scalar.cmpi .eq j 0#32 = 0#1 := by simp only [Scalar.cmpi, IntOp.cmpi]; rw [beq_false_of_ne h]; rfl
  simp only [this]
  rfl

theorem mask0_at (r c : Fin 512) : (k0_pay97 (F := Ideal) (ix3 0 r c) : EReal) = 0 := by
  unfold_payloads; pointwise

theorem sle_sub (r c : Fin 512) : IntOp.cmpi .sle (IntOp.subi (BitVec.ofNat 32 c.val) (BitVec.ofNat 32 r.val)) 0#32 = if c.val ≤ r.val then 1#1 else 0#1 := by
  have hc := c.isLt
  have hr := r.isLt
  simp only [IntOp.cmpi, IntOp.subi]
  have h1 : (BitVec.ofNat 32 c.val - BitVec.ofNat 32 r.val).sle 0#32 = decide (c.val ≤ r.val) := by
    rw [BitVec.sle_eq_decide]
    refine decide_eq_decide.mpr ?_
    have hn : ∀ n : Fin 512, (BitVec.ofNat 32 n.val).toInt = n.val := by
      intro n
      have := n.isLt
      rw [BitVec.toInt_eq_toNat_of_lt (by rw [BitVec.toNat_ofNat]; omega), BitVec.toNat_ofNat]
      omega
    rw [BitVec.toInt_sub, hn, hn, Int.bmod_def, show (0#32 : BitVec 32).toInt = 0 from rfl]
    omega
  rw [h1]
  by_cases h : c.val ≤ r.val
  · rw [if_pos h, decide_eq_true h]; rfl
  · rw [if_neg h, decide_eq_false h]; rfl

theorem mask1_at (r c : Fin 512) : (k0_pay98 (F := Ideal) (ix3 0 r c) : EReal) = if c.val ≤ r.val then 0 else ⊥ := by
  unfold_payloads; pointwise
  rw [sle_sub]
  split <;> rfl

theorem slt64 : ∀ n : Fin 128, IntOp.cmpi .slt (BitVec.ofNat 32 n.val) 64#32 = if n.val < 64 then 1#1 else 0#1 := by decide

theorem lt_of_high (i : Fin 512) : (512 + i.val < 512) ↔ False := by simp only [iff_false]; omega

/-- The accumulator of the even head of a pair. -/
theorem aStep_num0 (j : BitVec 32) (w : Vec Ideal S1x512x128 .bf16) (sA : Vec Ideal S1x512x512 .f32) (mcA mA : Vec Ideal S1x512x128 .f32) (sB : Vec Ideal S1x512x512 .f32) (mcB mB : Vec Ideal S1x512x128 .f32) (acc : Vec Ideal S1x512x256 .f32)
   (r : Fin 512) (e : Fin 64) (m' : EReal) (h : ∀ l, (mStep j mA mcA (ix3 0 r l) : EReal) = m') (ma : EReal) (hm : ∀ l, min (mA (ix3 0 r l) : EReal) (k0_pay8 (F := Ideal) j) = ma) :
    aStep j w sA mcA mA sB mcB mB acc (ix3 0 r ⟨e.val, by omega⟩) = (acc (ix3 0 r ⟨e.val, by omega⟩) : EReal) * Ideal.exp2 (ma - m')
      + ∑ c : Fin 512, Ideal.exp2 ((sA (ix3 0 r c) : EReal) - m') * w (ix3 0 c ⟨e.val, by omega⟩) := by
  simp only [mStep_at] at h
  have hs := slt64 ⟨e.val, by omega⟩
  have hn : e.val < 128 ↔ True := by simp only [iff_true]; omega
  have hsel : (e.val < 64) ↔ True := by simp only [iff_true]; omega

  simp only [hsel, if_true, if_false] at hs
  unfold aStep
  generalize hcap : k0_pay8 (F := Ideal) j = cap at h hm ⊢
  have hcap' : Scalar.select (Scalar.cmpi .eq j 0#32) (Named.named (F := Ideal) κ "mask" 0xF149F2CA#32) (Named.named κ "uncapped" 0x7149F2CA#32) = cap := hcap
  have one : Scalar.select (α := EReal) 1#1 = fun a b => a := rfl
  have zero : Scalar.select (α := EReal) 0#1 = fun a b => b := rfl
  unfold_payloads; pointwise
  simp only [hcap', hn, hs, hm] at h ⊢
  simp only [h, dite_eq_ite, ite_self, if_true, if_false, dif_pos trivial, not_false_eq_true, dif_neg]
  refine congrArg₂ (· + ·) ?_ ((Fin.sum_univ_add (a := 512) (b := 512) _).trans ?_)
  · rfl
  · simp only [Fin.val_castAdd, Fin.val_natAdd, Fin.is_lt, dite_true, if_true, lt_of_high, dite_false, if_false, one, zero, mul_zero, mul_one, Finset.sum_const_zero, add_zero, zero_add, add_tsub_cancel_left, Fin.eta]
    rfl

/-- The accumulator of the odd head of a pair. -/
theorem aStep_num1 (j : BitVec 32) (w : Vec Ideal S1x512x128 .bf16) (sA : Vec Ideal S1x512x512 .f32) (mcA mA : Vec Ideal S1x512x128 .f32) (sB : Vec Ideal S1x512x512 .f32) (mcB mB : Vec Ideal S1x512x128 .f32) (acc : Vec Ideal S1x512x256 .f32)
   (r : Fin 512) (e : Fin 64) (m' : EReal) (h : ∀ l, (mStep j mB mcB (ix3 0 r l) : EReal) = m') (ma : EReal) (hm : ∀ l, min (mB (ix3 0 r l) : EReal) (k0_pay8 (F := Ideal) j) = ma) :
    aStep j w sA mcA mA sB mcB mB acc (ix3 0 r ⟨64 + e.val, by omega⟩) = (acc (ix3 0 r ⟨64 + e.val, by omega⟩) : EReal) * Ideal.exp2 (ma - m')
      + ∑ c : Fin 512, Ideal.exp2 ((sB (ix3 0 r c) : EReal) - m') * w (ix3 0 c ⟨64 + e.val, by omega⟩) := by
  simp only [mStep_at] at h
  have hs := slt64 ⟨64 + e.val, by omega⟩
  have hn : 64 + e.val < 128 ↔ True := by simp only [iff_true]; omega
  have hsel : (64 + e.val < 64) ↔ False := by simp only [iff_false]; omega

  simp only [hsel, if_true, if_false] at hs
  unfold aStep
  generalize hcap : k0_pay8 (F := Ideal) j = cap at h hm ⊢
  have hcap' : Scalar.select (Scalar.cmpi .eq j 0#32) (Named.named (F := Ideal) κ "mask" 0xF149F2CA#32) (Named.named κ "uncapped" 0x7149F2CA#32) = cap := hcap
  have one : Scalar.select (α := EReal) 1#1 = fun a b => a := rfl
  have zero : Scalar.select (α := EReal) 0#1 = fun a b => b := rfl
  unfold_payloads; pointwise
  simp only [hcap', hn, hs, hm] at h ⊢
  simp only [h, dite_eq_ite, ite_self, if_true, if_false, dif_pos trivial, not_false_eq_true, dif_neg]
  refine congrArg₂ (· + ·) ?_ ((Fin.sum_univ_add (a := 512) (b := 512) _).trans ?_)
  · rfl
  · simp only [Fin.val_castAdd, Fin.val_natAdd, Fin.is_lt, dite_true, if_true, lt_of_high, dite_false, if_false, one, zero, mul_zero, mul_one, Finset.sum_const_zero, add_zero, zero_add, add_tsub_cancel_left, Fin.eta]
    rfl

/-- The summed weights of the even head of a pair. -/
theorem aStep_den0 (j : BitVec 32) (w : Vec Ideal S1x512x128 .bf16) (sA : Vec Ideal S1x512x512 .f32) (mcA mA : Vec Ideal S1x512x128 .f32) (sB : Vec Ideal S1x512x512 .f32) (mcB mB : Vec Ideal S1x512x128 .f32) (acc : Vec Ideal S1x512x256 .f32)
   (r : Fin 512) (e : Fin 64) (m' : EReal) (h : ∀ l, (mStep j mA mcA (ix3 0 r l) : EReal) = m') (ma : EReal) (hm : ∀ l, min (mA (ix3 0 r l) : EReal) (k0_pay8 (F := Ideal) j) = ma) :
    aStep j w sA mcA mA sB mcB mB acc (ix3 0 r ⟨128 + e.val, by omega⟩) = (acc (ix3 0 r ⟨128 + e.val, by omega⟩) : EReal) * Ideal.exp2 (ma - m')
      + ∑ c : Fin 512, Ideal.exp2 ((sA (ix3 0 r c) : EReal) - m') * 1 := by
  simp only [mStep_at] at h
  have hs := slt64 ⟨e.val, by omega⟩
  have hn : 128 + e.val < 128 ↔ False := by simp only [iff_false]; omega
  have hsel : (e.val < 64) ↔ True := by simp only [iff_true]; omega
  have hsub : 128 + e.val - 128 = e.val := by omega
  simp only [hsel, if_true, if_false] at hs
  unfold aStep
  generalize hcap : k0_pay8 (F := Ideal) j = cap at h hm ⊢
  have hcap' : Scalar.select (Scalar.cmpi .eq j 0#32) (Named.named (F := Ideal) κ "mask" 0xF149F2CA#32) (Named.named κ "uncapped" 0x7149F2CA#32) = cap := hcap
  have one : Scalar.select (α := EReal) 1#1 = fun a b => a := rfl
  have zero : Scalar.select (α := EReal) 0#1 = fun a b => b := rfl
  unfold_payloads; pointwise
  simp only [hcap', hn, hsub, hs, hm] at h ⊢
  simp only [h, dite_eq_ite, ite_self, if_true, if_false, dif_pos trivial, not_false_eq_true, dif_neg]
  refine congrArg₂ (· + ·) ?_ ((Fin.sum_univ_add (a := 512) (b := 512) _).trans ?_)
  · rfl
  · simp only [Fin.val_castAdd, Fin.val_natAdd, Fin.is_lt, dite_true, if_true, lt_of_high, dite_false, if_false, one, zero, mul_zero, mul_one, Finset.sum_const_zero, add_zero, zero_add, add_tsub_cancel_left, Fin.eta]
    rfl

/-- The summed weights of the odd head of a pair. -/
theorem aStep_den1 (j : BitVec 32) (w : Vec Ideal S1x512x128 .bf16) (sA : Vec Ideal S1x512x512 .f32) (mcA mA : Vec Ideal S1x512x128 .f32) (sB : Vec Ideal S1x512x512 .f32) (mcB mB : Vec Ideal S1x512x128 .f32) (acc : Vec Ideal S1x512x256 .f32)
   (r : Fin 512) (e : Fin 64) (m' : EReal) (h : ∀ l, (mStep j mB mcB (ix3 0 r l) : EReal) = m') (ma : EReal) (hm : ∀ l, min (mB (ix3 0 r l) : EReal) (k0_pay8 (F := Ideal) j) = ma) :
    aStep j w sA mcA mA sB mcB mB acc (ix3 0 r ⟨192 + e.val, by omega⟩) = (acc (ix3 0 r ⟨192 + e.val, by omega⟩) : EReal) * Ideal.exp2 (ma - m')
      + ∑ c : Fin 512, Ideal.exp2 ((sB (ix3 0 r c) : EReal) - m') * 1 := by
  simp only [mStep_at] at h
  have hs := slt64 ⟨64 + e.val, by omega⟩
  have hn : 192 + e.val < 128 ↔ False := by simp only [iff_false]; omega
  have hsel : (64 + e.val < 64) ↔ False := by simp only [iff_false]; omega
  have hsub : 192 + e.val - 128 = 64 + e.val := by omega
  simp only [hsel, if_true, if_false] at hs
  unfold aStep
  generalize hcap : k0_pay8 (F := Ideal) j = cap at h hm ⊢
  have hcap' : Scalar.select (Scalar.cmpi .eq j 0#32) (Named.named (F := Ideal) κ "mask" 0xF149F2CA#32) (Named.named κ "uncapped" 0x7149F2CA#32) = cap := hcap
  have one : Scalar.select (α := EReal) 1#1 = fun a b => a := rfl
  have zero : Scalar.select (α := EReal) 0#1 = fun a b => b := rfl
  unfold_payloads; pointwise
  simp only [hcap', hn, hsub, hs, hm] at h ⊢
  simp only [h, dite_eq_ite, ite_self, if_true, if_false, dif_pos trivial, not_false_eq_true, dif_neg]
  refine congrArg₂ (· + ·) ?_ ((Fin.sum_univ_add (a := 512) (b := 512) _).trans ?_)
  · rfl
  · simp only [Fin.val_castAdd, Fin.val_natAdd, Fin.is_lt, dite_true, if_true, lt_of_high, dite_false, if_false, one, zero, mul_zero, mul_one, Finset.sum_const_zero, add_zero, zero_add, add_tsub_cancel_left, Fin.eta]
    rfl

end Cert.Proof.KernelIdeal
-- ==== Proof.State.lean ====
module

public import proofs.«01_k».proof.Proof.Soft

@[expose] public section

noncomputable section

namespace Cert.Soft

open Idealize.ShloMosaic

/-! ## One row of one head -/

/-- A row after `j` tiles of keys, with logits `L` and values `V`: its running maximum is some real number on every lane, and its
    accumulators are the weighted sums over the keys met, shrunk by that maximum. -/
def St (L : Fin 2048 → EReal) (V : Fin 64 → Fin 2048 → EReal) (j : ℕ) (m : Fin 128 → EReal) (num den : Fin 64 → EReal) : Prop :=
  ∃ M : ℝ, (∀ l, m l = M) ∧ (∀ e, num e = upTo (fun C => Ideal.exp2 (L C) * V e C) j * (shrink M : EReal)) ∧ (∀ e, den e = upTo (fun C => Ideal.exp2 (L C) * 1) j * (shrink M : EReal))

theorem St.step (L : Fin 2048 → EReal) (V : Fin 64 → Fin 2048 → EReal) (hL : ∀ C, L C ≠ ⊤) (h0 : L 0 ≠ ⊥) (j : ℕ) (hj : j < 4) (cap : EReal)
    (hc0 : j = 0 → cap = ⊥) (hc1 : j ≠ 0 → cap = ⊤) (m mc : Fin 128 → EReal) (num den : Fin 64 → EReal)
    (hmc : ∀ l, mc l = Finset.univ.fold max (⊥ : EReal) fun c : Fin 512 => L ⟨512 * j + c.val, by omega⟩) (hst : j ≠ 0 → St L V j m num den) :
    ∃ (ma : EReal) (M' : ℝ), (∀ l, min (m l) cap = ma) ∧ (∀ l, max (min (m l) cap) (mc l) = M')
      ∧ (∀ e, num e * Ideal.exp2 (ma - M') + ∑ c : Fin 512, Ideal.exp2 (L ⟨512 * j + c.val, by omega⟩ - M') * V e ⟨512 * j + c.val, by omega⟩
          = upTo (fun C => Ideal.exp2 (L C) * V e C) (j + 1) * (shrink M' : EReal))
      ∧ (∀ e, den e * Ideal.exp2 (ma - M') + ∑ c : Fin 512, Ideal.exp2 (L ⟨512 * j + c.val, by omega⟩ - M') * 1
          = upTo (fun C => Ideal.exp2 (L C) * 1) (j + 1) * (shrink M' : EReal)) := by
  have hnt := fold_ne_top (fun c : Fin 512 => L ⟨512 * j + c.val, by omega⟩) fun c => hL _
  have hS : ∀ c : Fin 512, L ⟨512 * j + c.val, by omega⟩ ≠ ⊤ := fun c => hL _
  by_cases hz : j = 0
  · have hnb := fold_ne_bot (fun c : Fin 512 => L ⟨512 * j + c.val, by omega⟩) 0 (by
      have : (⟨512 * j + (0 : Fin 512).val, by omega⟩ : Fin 2048) = 0 := Fin.ext (by subst hz; rfl)
      show L ⟨512 * j + (0 : Fin 512).val, _⟩ ≠ ⊥
      rw [this]; exact h0)
    obtain ⟨M', hM'⟩ := exists_real _ hnt hnb
    refine ⟨⊥, M', fun l => by rw [hc0 hz, min_bot_right], fun l => by rw [hc0 hz, min_bot_right, hmc, hM', max_bot_left], fun e => ?_, fun e => ?_⟩
    · rw [upTo_succ _ j hj, show upTo _ j = 0 from by rw [hz, upTo_zero], zero_add]
      exact step_first _ _ hS _ M'
    · rw [upTo_succ _ j hj, show upTo _ j = 0 from by rw [hz, upTo_zero], zero_add]
      exact step_first _ _ hS _ M'
  · obtain ⟨M, hm, hn, hd⟩ := hst hz
    obtain ⟨M', hM'⟩ := max_real M _ hnt
    refine ⟨M, M', fun l => by rw [hc1 hz, min_top_right, hm], fun l => by rw [hc1 hz, min_top_right, hm, hmc, hM'], fun e => ?_, fun e => ?_⟩
    · rw [upTo_succ _ j hj]
      exact step_next _ _ hS _ _ M M' (hn e)
    · rw [upTo_succ _ j hj]
      exact step_next _ _ hS _ _ M M' (hd e)

/-- The quotient a row ends with. -/
theorem St.out (L : Fin 2048 → EReal) (V : Fin 64 → Fin 2048 → EReal) (hL : ∀ C, L C ≠ ⊤) (h0 : L 0 ≠ ⊥) (j : ℕ) (hj : j ≤ 4) (hpast : ∀ C : Fin 2048, 512 * j ≤ C.val → L C = ⊥)
    (m : Fin 128 → EReal) (num den : Fin 64 → EReal) (hst : St L V j m num den) (e : Fin 64) :
    Ideal.div (num e) (den e) = Ideal.div (∑ C, Ideal.exp2 (L C) * V e C) (∑ C, Ideal.exp2 (L C)) := by
  obtain ⟨M, -, hn, hd⟩ := hst
  rw [hn, hd, upTo_full _ j hj fun C hC => by rw [hpast C hC, Ideal.exp2_bot, zero_mul], upTo_full _ j hj fun C hC => by rw [hpast C hC, Ideal.exp2_bot, zero_mul]]
  simp only [mul_one]
  obtain ⟨d, hd, hD⟩ := sum_pos (fun C => Ideal.exp2 (L C)) (fun C => exp2_real _ (hL C)) 0 (by
    obtain ⟨x, hx⟩ := exists_real _ (hL 0) h0
    rw [hx, Ideal.exp2_coe]
    exact EReal.coe_pos.mpr (Real.rpow_pos_of_pos (by norm_num) _))
  rw [hD]
  exact div_shrink _ d _ hd (shrink_pos M)

end Cert.Soft
-- ==== Proof.Tiles.lean ====
module

public import proofs.«01_k».proof.Proof.At
public import proofs.«01_k».proof.Proof.State

@[expose] public section

set_option maxRecDepth 16384

noncomputable section

namespace Cert.Proof.KernelIdeal

open Cert.KernelIdeal Cert.KernelIdeal.Gen Cert.Mem Cert.Soft
open Idealize.ShloMosaic Idealize.ShloMosaic.TcCoe
open VecWindow (window put)

/-! ## Windows at an index -/

theorem win3 {n0 n1 n2 a b c : ℕ} {α : Type} (x : (⟨3, ![n0, n1, n2]⟩ : Shape).Idx → α) {off : Fin 3 → ℕ} (o0 o1 o2 : ℕ) (ho : off = ![o0, o1, o2])
    (inb : ∀ i, off i + (⟨3, ![a, b, c]⟩ : Shape).size i ≤ (⟨3, ![n0, n1, n2]⟩ : Shape).size i) (i : Fin a) (j : Fin b) (k : Fin c)
    (h0 : o0 + i.val < n0) (h1 : o1 + j.val < n1) (h2 : o2 + k.val < n2) :
    window (s := ⟨3, ![n0, n1, n2]⟩) x off (⟨3, ![a, b, c]⟩ : Shape).size inb (ix3 i j k) = x (ix3 ⟨o0 + i.val, h0⟩ ⟨o1 + j.val, h1⟩ ⟨o2 + k.val, h2⟩) := by
  subst ho
  refine congrArg x (funext fun t => ?_)
  match t with
  | ⟨0, _⟩ => exact Fin.ext (by show o0 + 1 * i.val = _; rw [one_mul]; rfl)
  | ⟨1, _⟩ => exact Fin.ext (by show o1 + 1 * j.val = _; rw [one_mul]; rfl)
  | ⟨2, _⟩ => exact Fin.ext (by show o2 + 1 * k.val = _; rw [one_mul]; rfl)

theorem put3_in {n0 n1 n2 a b c : ℕ} {α : Type} (x : (⟨3, ![n0, n1, n2]⟩ : Shape).Idx → α) {off : Fin 3 → ℕ} (o0 o1 o2 : ℕ) (ho : off = ![o0, o1, o2])
    (w : (⟨3, ![a, b, c]⟩ : Shape).Idx → α) (i : Fin n0) (j : Fin n1) (k : Fin n2) (i' : Fin a) (j' : Fin b) (k' : Fin c)
    (h0 : i.val = o0 + i'.val) (h1 : j.val = o1 + j'.val) (h2 : k.val = o2 + k'.val) :
    put (s := ⟨3, ![n0, n1, n2]⟩) x off (⟨3, ![a, b, c]⟩ : Shape).size w (ix3 i j k) = w (ix3 i' j' k') := by
  subst ho
  unfold put
  have := i'.isLt
  have := j'.isLt
  have := k'.isLt
  rw [dif_pos (fun t => match t with
    | ⟨0, _⟩ => ⟨show o0 ≤ i.val by omega, show i.val < o0 + a by omega⟩
    | ⟨1, _⟩ => ⟨show o1 ≤ j.val by omega, show j.val < o1 + b by omega⟩
    | ⟨2, _⟩ => ⟨show o2 ≤ k.val by omega, show k.val < o2 + c by omega⟩)]
  refine congrArg w (funext fun t => ?_)
  match t with
  | ⟨0, _⟩ => exact Fin.ext (by show i.val - o0 = i'.val; omega)
  | ⟨1, _⟩ => exact Fin.ext (by show j.val - o1 = j'.val; omega)
  | ⟨2, _⟩ => exact Fin.ext (by show k.val - o2 = k'.val; omega)

theorem put3_out {n0 n1 n2 a b c : ℕ} {α : Type} (x : (⟨3, ![n0, n1, n2]⟩ : Shape).Idx → α) {off : Fin 3 → ℕ} (o0 o1 o2 : ℕ) (ho : off = ![o0, o1, o2])
    (w : (⟨3, ![a, b, c]⟩ : Shape).Idx → α) (i : Fin n0) (j : Fin n1) (k : Fin n2)
    (h : ¬ (o0 ≤ i.val ∧ i.val < o0 + a ∧ o1 ≤ j.val ∧ j.val < o1 + b ∧ o2 ≤ k.val ∧ k.val < o2 + c)) :
    put (s := ⟨3, ![n0, n1, n2]⟩) x off (⟨3, ![a, b, c]⟩ : Shape).size w (ix3 i j k) = x (ix3 i j k) := by
  subst ho
  unfold put
  exact dif_neg fun hall => h ⟨(hall 0).1, (hall 0).2, (hall 1).1, (hall 1).2, (hall 2).1, (hall 2).2⟩

/-! ## The block's logits -/

/-- A query's product with a key, of one head. -/
def dot (x2 x3 : Vec Ideal S1x2048x1024 .bf16) (h : Fin 8) (R C : Fin 2048) : EReal :=
  ∑ d : Fin 128, (x2 (ix3 0 R ⟨128 * h.val + d.val, by omega⟩) : EReal) * x3 (ix3 0 C ⟨128 * h.val + d.val, by omega⟩)

/-- The logit: the product at the keys up to the query, nothing past it. -/
def lg (x2 x3 : Vec Ideal S1x2048x1024 .bf16) (h : Fin 8) (R C : Fin 2048) : EReal := dot x2 x3 h R C + if C.val ≤ R.val then 0 else ⊥

/-- Every product is a real number. -/
def Fine (x2 x3 : Vec Ideal S1x2048x1024 .bf16) : Prop := ∀ h R C, ∃ r : ℝ, dot x2 x3 h R C = r

theorem lg_ne_top (x2 x3 : Vec Ideal S1x2048x1024 .bf16) (hf : Fine x2 x3) (h : Fin 8) (R C : Fin 2048) : lg x2 x3 h R C ≠ ⊤ := by
  obtain ⟨r, hr⟩ := hf h R C
  unfold lg
  rw [hr]
  split
  · rw [add_zero]; exact EReal.coe_ne_top r
  · rw [EReal.add_bot]; exact bot_ne_top

theorem lg_zero (x2 x3 : Vec Ideal S1x2048x1024 .bf16) (hf : Fine x2 x3) (h : Fin 8) (R : Fin 2048) : lg x2 x3 h R 0 ≠ ⊥ := by
  obtain ⟨r, hr⟩ := hf h R 0
  unfold lg
  rw [hr, if_pos (show (0 : Fin 2048).val ≤ R.val from Nat.zero_le _), add_zero]
  exact EReal.coe_ne_bot r

theorem lg_past (x2 x3 : Vec Ideal S1x2048x1024 .bf16) (h : Fin 8) (R C : Fin 2048) (hc : R.val < C.val) : lg x2 x3 h R C = ⊥ := by
  unfold lg
  rw [if_neg (by omega), EReal.add_bot]

/-- The values of one head. -/
def vals (x4 : Vec Ideal S1x2048x512 .bf16) (h : Fin 8) (e : Fin 64) (C : Fin 2048) : EReal := x4 (ix3 0 C ⟨64 * h.val + e.val, by omega⟩)

/-- The block the kernel is to leave, of one head. -/
def outAt (x2 x3 : Vec Ideal S1x2048x1024 .bf16) (x4 : Vec Ideal S1x2048x512 .bf16) (h : Fin 8) (R : Fin 2048) (e : Fin 64) : EReal :=
  Ideal.div (∑ C, Ideal.exp2 (lg x2 x3 h R C) * vals x4 h e C) (∑ C, Ideal.exp2 (lg x2 x3 h R C))

/-- The mask buffer holds its two tiles. -/
def MaskOk (y : Vec Ideal S2x512x512 .f32) : Prop :=
  ∀ r c : Fin 512, (y (ix3 0 r c) : EReal) = 0 ∧ (y (ix3 1 r c) : EReal) = if c.val ≤ r.val then 0 else ⊥

theorem maskPut_ok (x : Vec Ideal S2x512x512 .f32) : MaskOk (maskPut x) := fun r c => by
  unfold maskPut
  refine ⟨?_, ?_⟩
  · rw [put3_out _ 1 0 0 rfl _ 0 r c (by simp), put3_in _ 0 0 0 rfl _ 0 r c 0 r c rfl (by simp) (by simp)]
    exact mask0_at r c
  · rw [put3_in _ 1 0 0 rfl _ 1 r c 0 r c rfl (by simp) (by simp)]
    exact mask1_at r c

/-! ## A tile of scores -/

theorem mask_tile (y : Vec Ideal S2x512x512 .f32) (hy : MaskOk y) (q j : ℕ) (hq : q < 4) (hj : j ≤ q) {om : Fin 3 → ℕ} (hom : om = ![if q = j then 1 else 0, 0, 0])
    (im : ∀ i, om i + S1x512x512.size i ≤ S2x512x512.size i) (r c : Fin 512) :
    (window (s := S2x512x512) y om S1x512x512.size im (ix3 0 r c) : EReal) = if 512 * j + c.val ≤ 512 * q + r.val then 0 else ⊥ := by
  rw [win3 y _ _ _ hom im 0 r c (by split <;> decide) (by omega) (by omega)]
  by_cases h : q = j
  · simp only [if_pos h]
    refine Eq.trans ?_ ((hy r c).2.trans ?_)
    · congr 2 <;> exact Fin.ext (by simp)
    · subst h; simp
  · simp only [if_neg h]
    refine Eq.trans ?_ ((hy r c).1.trans ?_)
    · congr 2 <;> exact Fin.ext (by simp)
    · rw [if_pos (by omega)]

section
variable (x2 x3 : Vec Ideal S1x2048x1024 .bf16) (y : Vec Ideal S2x512x512 .f32) (hy : MaskOk y) (q j : ℕ) (hq : q < 4) (hj : j ≤ q)
  {om oq ok : Fin 3 → ℕ} (hom : om = ![if q = j then 1 else 0, 0, 0]) (pp : Fin 4) (hoq : oq = ![0, 512 * q, 256 * pp.val]) (hok : ok = ![0, 512 * j, 256 * pp.val])
  (im : ∀ i, om i + S1x512x512.size i ≤ S2x512x512.size i) (iq : ∀ i, oq i + S1x512x256.size i ≤ S1x2048x1024.size i) (ik : ∀ i, ok i + S1x512x256.size i ≤ S1x2048x1024.size i)

include hy hom hoq hok

theorem scoreA_tile (h : Fin 8) (hh : h.val = 2 * pp.val) (r c : Fin 512) :
    (scoreA (window (s := S1x2048x1024) x2 oq S1x512x256.size iq) (window (s := S2x512x512) y om S1x512x512.size im) (window (s := S1x2048x1024) x3 ok S1x512x256.size ik) (ix3 0 r c) : EReal)
      = lg x2 x3 h ⟨512 * q + r.val, by omega⟩ ⟨512 * j + c.val, by omega⟩ := by
  rw [scoreA_at, mask_tile y hy q j hq hj hom]
  unfold lg dot
  refine congrArg₂ (· + ·) (Finset.sum_congr rfl fun d _ => ?_) rfl
  rw [win3 x2 _ _ _ hoq iq 0 r _ (by decide) (by omega) (by show 256 * pp.val + d.val < 1024; omega), win3 x3 _ _ _ hok ik 0 c _ (by decide) (by omega) (by show 256 * pp.val + d.val < 1024; omega)]
  refine congrArg₂ (· * ·) (congrArg x2 ?_) (congrArg x3 ?_) <;> (congr 1; exact Fin.ext (by show 256 * pp.val + d.val = 128 * h.val + d.val; omega))

theorem scoreB_tile (h : Fin 8) (hh : h.val = 2 * pp.val + 1) (r c : Fin 512) :
    (scoreB (window (s := S1x2048x1024) x2 oq S1x512x256.size iq) (window (s := S2x512x512) y om S1x512x512.size im) (window (s := S1x2048x1024) x3 ok S1x512x256.size ik) (ix3 0 r c) : EReal)
      = lg x2 x3 h ⟨512 * q + r.val, by omega⟩ ⟨512 * j + c.val, by omega⟩ := by
  rw [scoreB_at, mask_tile y hy q j hq hj hom]
  unfold lg dot
  refine congrArg₂ (· + ·) (Finset.sum_congr rfl fun d _ => ?_) rfl
  rw [win3 x2 _ _ _ hoq iq 0 r _ (by decide) (by omega) (by show 256 * pp.val + (128 + d.val) < 1024; omega), win3 x3 _ _ _ hok ik 0 c _ (by decide) (by omega) (by show 256 * pp.val + (128 + d.val) < 1024; omega)]
  refine congrArg₂ (· * ·) (congrArg x2 ?_) (congrArg x3 ?_) <;> (congr 1; exact Fin.ext (by show 256 * pp.val + (128 + d.val) = 128 * h.val + d.val; omega))

theorem maxA_tile (h : Fin 8) (hh : h.val = 2 * pp.val) (r : Fin 512) (l : Fin 128) :
    (maxA (window (s := S1x2048x1024) x2 oq S1x512x256.size iq) (window (s := S2x512x512) y om S1x512x512.size im) (window (s := S1x2048x1024) x3 ok S1x512x256.size ik) (ix3 0 r l) : EReal)
      = Finset.univ.fold max (⊥ : EReal) fun c : Fin 512 => lg x2 x3 h ⟨512 * q + r.val, by omega⟩ ⟨512 * j + c.val, by omega⟩ := by
  rw [maxA_at]
  exact congrArg (fun f => Finset.univ.fold max (⊥ : EReal) f) (funext fun c => scoreA_tile x2 x3 y hy q j hq hj hom pp hoq hok im iq ik h hh r c)

theorem maxB_tile (h : Fin 8) (hh : h.val = 2 * pp.val + 1) (r : Fin 512) (l : Fin 128) :
    (maxB (window (s := S1x2048x1024) x2 oq S1x512x256.size iq) (window (s := S2x512x512) y om S1x512x512.size im) (window (s := S1x2048x1024) x3 ok S1x512x256.size ik) (ix3 0 r l) : EReal)
      = Finset.univ.fold max (⊥ : EReal) fun c : Fin 512 => lg x2 x3 h ⟨512 * q + r.val, by omega⟩ ⟨512 * j + c.val, by omega⟩ := by
  rw [maxB_at]
  exact congrArg (fun f => Finset.univ.fold max (⊥ : EReal) f) (funext fun c => scoreB_tile x2 x3 y hy q j hq hj hom pp hoq hok im iq ik h hh r c)

end

attribute [local irreducible] scoreA scoreB maxA maxB

/-- The scores and their row maxima are those of the tile pair `(q, j)`. -/
def Tile (x2 x3 : Vec Ideal S1x2048x1024 .bf16) (q j : ℕ) (hq : q < 4) (hj : j ≤ q) (x6 : Fin 8 → Vec Ideal S1x512x512 .f32) (x7 : Fin 8 → Vec Ideal S1x512x128 .f32) : Prop :=
  ∀ (h : Fin 8) (r : Fin 512), (∀ c : Fin 512, (x6 h (ix3 0 r c) : EReal) = lg x2 x3 h ⟨512 * q + r.val, by omega⟩ ⟨512 * j + c.val, by omega⟩)
    ∧ ∀ l : Fin 128, (x7 h (ix3 0 r l) : EReal) = Finset.univ.fold max (⊥ : EReal) fun c : Fin 512 => lg x2 x3 h ⟨512 * q + r.val, by omega⟩ ⟨512 * j + c.val, by omega⟩

theorem tile_of (x2 x3 : Vec Ideal S1x2048x1024 .bf16) (y : Vec Ideal S2x512x512 .f32) (hy : MaskOk y) (q j : ℕ) (hq : q < 4) (hj : j ≤ q)
    {om oq0 oq1 oq2 oq3 ok0 ok1 ok2 ok3 : Fin 3 → ℕ} (hom : om = ![if q = j then 1 else 0, 0, 0])
    (hq0 : oq0 = ![0, 512 * q, 0]) (hq1 : oq1 = ![0, 512 * q, 256]) (hq2 : oq2 = ![0, 512 * q, 512]) (hq3 : oq3 = ![0, 512 * q, 768])
    (hk0 : ok0 = ![0, 512 * j, 0]) (hk1 : ok1 = ![0, 512 * j, 256]) (hk2 : ok2 = ![0, 512 * j, 512]) (hk3 : ok3 = ![0, 512 * j, 768])
    (im : ∀ i, om i + S1x512x512.size i ≤ S2x512x512.size i)
    (iq0 : ∀ i, oq0 i + S1x512x256.size i ≤ S1x2048x1024.size i) (iq1 : ∀ i, oq1 i + S1x512x256.size i ≤ S1x2048x1024.size i)
    (iq2 : ∀ i, oq2 i + S1x512x256.size i ≤ S1x2048x1024.size i) (iq3 : ∀ i, oq3 i + S1x512x256.size i ≤ S1x2048x1024.size i)
    (ik0 : ∀ i, ok0 i + S1x512x256.size i ≤ S1x2048x1024.size i) (ik1 : ∀ i, ok1 i + S1x512x256.size i ≤ S1x2048x1024.size i)
    (ik2 : ∀ i, ok2 i + S1x512x256.size i ≤ S1x2048x1024.size i) (ik3 : ∀ i, ok3 i + S1x512x256.size i ≤ S1x2048x1024.size i) :
    let mk := window (s := S2x512x512) y om S1x512x512.size im
    let q0 := window (s := S1x2048x1024) x2 oq0 S1x512x256.size iq0
    let q1 := window (s := S1x2048x1024) x2 oq1 S1x512x256.size iq1
    let q2 := window (s := S1x2048x1024) x2 oq2 S1x512x256.size iq2
    let q3 := window (s := S1x2048x1024) x2 oq3 S1x512x256.size iq3
    let k0 := window (s := S1x2048x1024) x3 ok0 S1x512x256.size ik0
    let k1 := window (s := S1x2048x1024) x3 ok1 S1x512x256.size ik1
    let k2 := window (s := S1x2048x1024) x3 ok2 S1x512x256.size ik2
    let k3 := window (s := S1x2048x1024) x3 ok3 S1x512x256.size ik3
    Tile x2 x3 q j hq hj ![scoreA q0 mk k0, scoreB q0 mk k0, scoreA q1 mk k1, scoreB q1 mk k1, scoreA q2 mk k2, scoreB q2 mk k2, scoreA q3 mk k3, scoreB q3 mk k3]
      ![maxA q0 mk k0, maxB q0 mk k0, maxA q1 mk k1, maxB q1 mk k1, maxA q2 mk k2, maxB q2 mk k2, maxA q3 mk k3, maxB q3 mk k3] := by
  intro mk q0 q1 q2 q3 k0 k1 k2 k3 h r
  match h with
  | 0 =>
    refine ⟨fun c => ?_, fun l => ?_⟩
    · exact scoreA_tile x2 x3 y hy q j hq hj hom 0 hq0 hk0 im iq0 ik0 0 rfl r c
    · refine Eq.trans (b := maxA q0 mk k0 (ix3 0 r l)) rfl ?_
      exact maxA_tile x2 x3 y hy q j hq hj hom 0 hq0 hk0 im iq0 ik0 0 rfl r l
  | 1 =>
    refine ⟨fun c => ?_, fun l => ?_⟩
    · exact scoreB_tile x2 x3 y hy q j hq hj hom 0 hq0 hk0 im iq0 ik0 1 rfl r c
    · refine Eq.trans (b := maxB q0 mk k0 (ix3 0 r l)) rfl ?_
      exact maxB_tile x2 x3 y hy q j hq hj hom 0 hq0 hk0 im iq0 ik0 1 rfl r l
  | 2 =>
    refine ⟨fun c => ?_, fun l => ?_⟩
    · exact scoreA_tile x2 x3 y hy q j hq hj hom 1 hq1 hk1 im iq1 ik1 2 rfl r c
    · refine Eq.trans (b := maxA q1 mk k1 (ix3 0 r l)) rfl ?_
      exact maxA_tile x2 x3 y hy q j hq hj hom 1 hq1 hk1 im iq1 ik1 2 rfl r l
  | 3 =>
    refine ⟨fun c => ?_, fun l => ?_⟩
    · exact scoreB_tile x2 x3 y hy q j hq hj hom 1 hq1 hk1 im iq1 ik1 3 rfl r c
    · refine Eq.trans (b := maxB q1 mk k1 (ix3 0 r l)) rfl ?_
      exact maxB_tile x2 x3 y hy q j hq hj hom 1 hq1 hk1 im iq1 ik1 3 rfl r l
  | 4 =>
    refine ⟨fun c => ?_, fun l => ?_⟩
    · exact scoreA_tile x2 x3 y hy q j hq hj hom 2 hq2 hk2 im iq2 ik2 4 rfl r c
    · refine Eq.trans (b := maxA q2 mk k2 (ix3 0 r l)) rfl ?_
      exact maxA_tile x2 x3 y hy q j hq hj hom 2 hq2 hk2 im iq2 ik2 4 rfl r l
  | 5 =>
    refine ⟨fun c => ?_, fun l => ?_⟩
    · exact scoreB_tile x2 x3 y hy q j hq hj hom 2 hq2 hk2 im iq2 ik2 5 rfl r c
    · refine Eq.trans (b := maxB q2 mk k2 (ix3 0 r l)) rfl ?_
      exact maxB_tile x2 x3 y hy q j hq hj hom 2 hq2 hk2 im iq2 ik2 5 rfl r l
  | 6 =>
    refine ⟨fun c => ?_, fun l => ?_⟩
    · exact scoreA_tile x2 x3 y hy q j hq hj hom 3 hq3 hk3 im iq3 ik3 6 rfl r c
    · refine Eq.trans (b := maxA q3 mk k3 (ix3 0 r l)) rfl ?_
      exact maxA_tile x2 x3 y hy q j hq hj hom 3 hq3 hk3 im iq3 ik3 6 rfl r l
  | 7 =>
    refine ⟨fun c => ?_, fun l => ?_⟩
    · exact scoreB_tile x2 x3 y hy q j hq hj hom 3 hq3 hk3 im iq3 ik3 7 rfl r c
    · refine Eq.trans (b := maxB q3 mk k3 (ix3 0 r l)) rfl ?_
      exact maxB_tile x2 x3 y hy q j hq hj hom 3 hq3 hk3 im iq3 ik3 7 rfl r l

end Cert.Proof.KernelIdeal
-- ==== Proof.Rows.lean ====
module

public import proofs.«01_k».proof.Proof.Tiles

@[expose] public section

set_option maxRecDepth 16384

noncomputable section

namespace Cert.Proof.KernelIdeal

open Cert.KernelIdeal Cert.KernelIdeal.Gen Cert.Mem Cert.Soft
open Idealize.ShloMosaic Idealize.ShloMosaic.TcCoe
open VecWindow (window put)

/-! ## The rows of a tile pair -/

/-- The even head of a pair. -/
def hA (pp : Fin 4) : Fin 8 := ⟨2 * pp.val, by omega⟩
/-- The odd head of a pair. -/
def hB (pp : Fin 4) : Fin 8 := ⟨2 * pp.val + 1, by omega⟩

/-- The rows of a tile of queries, after `j` tiles of keys. -/
def Rows (x2 x3 : Vec Ideal S1x2048x1024 .bf16) (x4 : Vec Ideal S1x2048x512 .bf16) (q j : ℕ) (hq : q < 4) (x8 : Fin 8 → Vec Ideal S1x512x128 .f32) (x9 : Fin 4 → Vec Ideal S1x512x256 .f32) : Prop :=
  ∀ (pp : Fin 4) (r : Fin 512),
    St (lg x2 x3 (hA pp) ⟨512 * q + r.val, by omega⟩) (vals x4 (hA pp)) j (fun l => x8 (hA pp) (ix3 0 r l)) (fun e => x9 pp (ix3 0 r ⟨e.val, by omega⟩)) (fun e => x9 pp (ix3 0 r ⟨128 + e.val, by omega⟩))
    ∧ St (lg x2 x3 (hB pp) ⟨512 * q + r.val, by omega⟩) (vals x4 (hB pp)) j (fun l => x8 (hB pp) (ix3 0 r l)) (fun e => x9 pp (ix3 0 r ⟨64 + e.val, by omega⟩)) (fun e => x9 pp (ix3 0 r ⟨192 + e.val, by omega⟩))

theorem rows_step (x2 x3 : Vec Ideal S1x2048x1024 .bf16) (x4 : Vec Ideal S1x2048x512 .bf16) (hf : Fine x2 x3) (q j : ℕ) (hq : q < 4) (hj : j ≤ q) (jb : BitVec 32)
    (hj0 : j = 0 → jb = 0#32) (hj1 : j ≠ 0 → jb ≠ 0#32) (x6 : Fin 8 → Vec Ideal S1x512x512 .f32) (x7 x8 : Fin 8 → Vec Ideal S1x512x128 .f32) (x9 x9' : Fin 4 → Vec Ideal S1x512x256 .f32)
    (ht : Tile x2 x3 q j hq hj x6 x7) (hr : j ≠ 0 → Rows x2 x3 x4 q j hq x8 x9)
    (h9 : ∀ pp : Fin 4, ∃ (ow : Fin 3 → ℕ) (iw : ∀ i, ow i + S1x512x128.size i ≤ S1x2048x512.size i), ow = ![0, 512 * j, 128 * pp.val] ∧
      x9' pp = aStep jb (window (s := S1x2048x512) x4 ow S1x512x128.size iw) (x6 (hA pp)) (x7 (hA pp)) (x8 (hA pp)) (x6 (hB pp)) (x7 (hB pp)) (x8 (hB pp)) (x9 pp)) :
    Rows x2 x3 x4 q (j + 1) hq (fun h => mStep jb (x8 h) (x7 h)) x9' := by
  intro pp r
  obtain ⟨ow, iw, how, h9⟩ := h9 pp
  have hc0 : j = 0 → (k0_pay8 (F := Ideal) jb : EReal) = ⊥ := fun h => by rw [hj0 h]; exact cap_zero
  have hc1 : j ≠ 0 → (k0_pay8 (F := Ideal) jb : EReal) = ⊤ := fun h => cap_pos jb (hj1 h)
  constructor
  · obtain ⟨ma, M', h1, h2, h3, h4⟩ := St.step (lg x2 x3 (hA pp) ⟨512 * q + r.val, by omega⟩) (vals x4 (hA pp)) (fun C => lg_ne_top x2 x3 hf _ _ C) (lg_zero x2 x3 hf _ _) j (by omega) _ hc0 hc1
      (fun l => x8 (hA pp) (ix3 0 r l)) (fun l => x7 (hA pp) (ix3 0 r l)) (fun e => x9 pp (ix3 0 r ⟨e.val, by omega⟩)) (fun e => x9 pp (ix3 0 r ⟨128 + e.val, by omega⟩)) (ht (hA pp) r).2 (fun h => (hr h pp r).1)
    have h2' : ∀ l, (mStep jb (x8 (hA pp)) (x7 (hA pp)) (ix3 0 r l) : EReal) = M' := fun l => (mStep_at jb _ _ r l).trans (h2 l)
    refine ⟨M', h2', fun e => ?_, fun e => ?_⟩
    · refine (congrFun h9 (ix3 0 r ⟨e.val, by omega⟩)).trans ((aStep_num0 jb _ _ _ _ _ _ _ _ r e M' h2' ma h1).trans (Eq.trans ?_ (h3 e)))
      refine congrArg₂ (· + ·) rfl (Finset.sum_congr rfl fun c _ => ?_)
      rw [(ht (hA pp) r).1 c]
      refine congrArg₂ (· * ·) rfl ?_
      refine (win3 x4 _ _ _ how iw 0 c _ (by decide) (by omega) (by show 128 * pp.val + (e.val) < 512; omega)).trans ?_
      refine congrArg x4 ?_
      congr 1
      exact Fin.ext (by show 128 * pp.val + (e.val) = 64 * (hA pp).val + e.val; show _ = 64 * (2 * pp.val) + e.val; omega)
    · refine (congrFun h9 (ix3 0 r ⟨128 + e.val, by omega⟩)).trans ((aStep_den0 jb _ _ _ _ _ _ _ _ r e M' h2' ma h1).trans (Eq.trans ?_ (h4 e)))
      refine congrArg₂ (· + ·) rfl (Finset.sum_congr rfl fun c _ => ?_)
      rw [(ht (hA pp) r).1 c]
  · obtain ⟨ma, M', h1, h2, h3, h4⟩ := St.step (lg x2 x3 (hB pp) ⟨512 * q + r.val, by omega⟩) (vals x4 (hB pp)) (fun C => lg_ne_top x2 x3 hf _ _ C) (lg_zero x2 x3 hf _ _) j (by omega) _ hc0 hc1
      (fun l => x8 (hB pp) (ix3 0 r l)) (fun l => x7 (hB pp) (ix3 0 r l)) (fun e => x9 pp (ix3 0 r ⟨64 + e.val, by omega⟩)) (fun e => x9 pp (ix3 0 r ⟨192 + e.val, by omega⟩)) (ht (hB pp) r).2 (fun h => (hr h pp r).2)
    have h2' : ∀ l, (mStep jb (x8 (hB pp)) (x7 (hB pp)) (ix3 0 r l) : EReal) = M' := fun l => (mStep_at jb _ _ r l).trans (h2 l)
    refine ⟨M', h2', fun e => ?_, fun e => ?_⟩
    · refine (congrFun h9 (ix3 0 r ⟨64 + e.val, by omega⟩)).trans ((aStep_num1 jb _ _ _ _ _ _ _ _ r e M' h2' ma h1).trans (Eq.trans ?_ (h3 e)))
      refine congrArg₂ (· + ·) rfl (Finset.sum_congr rfl fun c _ => ?_)
      rw [(ht (hB pp) r).1 c]
      refine congrArg₂ (· * ·) rfl ?_
      refine (win3 x4 _ _ _ how iw 0 c _ (by decide) (by omega) (by show 128 * pp.val + (64 + e.val) < 512; omega)).trans ?_
      refine congrArg x4 ?_
      congr 1
      exact Fin.ext (by show 128 * pp.val + (64 + e.val) = 64 * (hB pp).val + e.val; show _ = 64 * (2 * pp.val + 1) + e.val; omega)
    · refine (congrFun h9 (ix3 0 r ⟨192 + e.val, by omega⟩)).trans ((aStep_den1 jb _ _ _ _ _ _ _ _ r e M' h2' ma h1).trans (Eq.trans ?_ (h4 e)))
      refine congrArg₂ (· + ·) rfl (Finset.sum_congr rfl fun c _ => ?_)
      rw [(ht (hB pp) r).1 c]

/-! ## The rows written out -/

theorem tile_lt (q : ℕ) (hq : q < 4) (r : Fin 512) : 512 * q + r.val < 2048 := by omega

/-- The output block is right in its rows before `n`. -/
def Done (x2 x3 : Vec Ideal S1x2048x1024 .bf16) (x4 : Vec Ideal S1x2048x512 .bf16) (q : ℕ) (x5 : Vec Ideal S1x2048x512 .bf16) : Prop :=
  ∀ (h : Fin 8) (R : Fin 2048) (e : Fin 64), R.val < 512 * q → (x5 (ix3 0 R ⟨64 * h.val + e.val, by omega⟩) : EReal) = outAt x2 x3 x4 h R e

theorem out_row (x2 x3 : Vec Ideal S1x2048x1024 .bf16) (x4 : Vec Ideal S1x2048x512 .bf16) (hf : Fine x2 x3) (q : ℕ) (hq : q < 4) (x8 : Fin 8 → Vec Ideal S1x512x128 .f32) (x9 : Fin 4 → Vec Ideal S1x512x256 .f32)
    (hr : Rows x2 x3 x4 q (q + 1) hq x8 x9) (pp : Fin 4) (r : Fin 512) (e : Fin 64) :
    (oStep (x9 pp) (ix3 0 r ⟨e.val, by omega⟩) : EReal) = outAt x2 x3 x4 (hA pp) ⟨512 * q + r.val, by omega⟩ e
    ∧ (oStep (x9 pp) (ix3 0 r ⟨64 + e.val, by omega⟩) : EReal) = outAt x2 x3 x4 (hB pp) ⟨512 * q + r.val, by omega⟩ e := by
  have past : ∀ (h : Fin 8) (C : Fin 2048), 512 * (q + 1) ≤ C.val → lg x2 x3 h ⟨512 * q + r.val, by omega⟩ C = ⊥ := fun h C hC => lg_past x2 x3 h _ C (by show 512 * q + r.val < C.val; omega)
  constructor
  · rw [oStep_at]
    exact St.out _ _ (fun C => lg_ne_top x2 x3 hf _ _ C) (lg_zero x2 x3 hf _ _) (q + 1) (by omega) (past _) _ _ _ (hr pp r).1 e
  · rw [oStep_at]
    refine Eq.trans ?_ (St.out _ _ (fun C => lg_ne_top x2 x3 hf _ _ C) (lg_zero x2 x3 hf _ _) (q + 1) (by omega) (past _) _ _ _ (hr pp r).2 e)
    refine congrArg₂ Ideal.div rfl (congrArg (x9 pp) ?_)
    congr 1
    exact Fin.ext (by show 128 + (64 + e.val) = 192 + e.val; omega)

theorem done_next (x2 x3 : Vec Ideal S1x2048x1024 .bf16) (x4 : Vec Ideal S1x2048x512 .bf16) (hf : Fine x2 x3) (q : ℕ) (hq : q < 4) (x8 : Fin 8 → Vec Ideal S1x512x128 .f32) (x9 : Fin 4 → Vec Ideal S1x512x256 .f32)
    (hr : Rows x2 x3 x4 q (q + 1) hq x8 x9) (x5 : Vec Ideal S1x2048x512 .bf16) (hd : Done x2 x3 x4 q x5) {o0 o1 o2 o3 : Fin 3 → ℕ}
    (h0 : o0 = ![0, 512 * q, 0]) (h1 : o1 = ![0, 512 * q, 128]) (h2 : o2 = ![0, 512 * q, 256]) (h3 : o3 = ![0, 512 * q, 384]) :
    Done x2 x3 x4 (q + 1) (put (s := S1x2048x512) (put (s := S1x2048x512) (put (s := S1x2048x512) (put (s := S1x2048x512) x5 o0 S1x512x128.size (oStep (x9 0))) o1 S1x512x128.size (oStep (x9 1))) o2 S1x512x128.size (oStep (x9 2))) o3 S1x512x128.size (oStep (x9 3))) := by
  intro h R e hR
  by_cases hlt : R.val < 512 * q
  · rw [put3_out _ _ _ _ h3 _ _ _ _ (by omega), put3_out _ _ _ _ h2 _ _ _ _ (by omega), put3_out _ _ _ _ h1 _ _ _ _ (by omega), put3_out _ _ _ _ h0 _ _ _ _ (by omega)]
    exact hd h R e hlt
  · obtain ⟨r, hr'⟩ : ∃ r : Fin 512, R = ⟨512 * q + r.val, tile_lt q hq r⟩ := ⟨⟨R.val - 512 * q, by omega⟩, Fin.ext (by show R.val = 512 * q + (R.val - 512 * q); omega)⟩
    subst hr'
    have he := e.isLt
    match h with
    | 0 =>
      rw [put3_out _ _ _ _ h3 _ _ _ _ (fun hh => absurd (show 384 ≤ 64 * 0 + e.val from hh.2.2.2.2.1) (by omega)), put3_out _ _ _ _ h2 _ _ _ _ (fun hh => absurd (show 256 ≤ 64 * 0 + e.val from hh.2.2.2.2.1) (by omega)), put3_out _ _ _ _ h1 _ _ _ _ (fun hh => absurd (show 128 ≤ 64 * 0 + e.val from hh.2.2.2.2.1) (by omega))]
      refine (put3_in _ _ _ _ h0 _ _ _ _ 0 r ⟨e.val, by omega⟩ rfl rfl (by show 64 * 0 + e.val = 0 + e.val; omega)).trans ?_
      exact (out_row x2 x3 x4 hf q hq x8 x9 hr 0 r e).1
    | 1 =>
      rw [put3_out _ _ _ _ h3 _ _ _ _ (fun hh => absurd (show 384 ≤ 64 * 1 + e.val from hh.2.2.2.2.1) (by omega)), put3_out _ _ _ _ h2 _ _ _ _ (fun hh => absurd (show 256 ≤ 64 * 1 + e.val from hh.2.2.2.2.1) (by omega)), put3_out _ _ _ _ h1 _ _ _ _ (fun hh => absurd (show 128 ≤ 64 * 1 + e.val from hh.2.2.2.2.1) (by omega))]
      refine (put3_in _ _ _ _ h0 _ _ _ _ 0 r ⟨64 + e.val, by omega⟩ rfl rfl (by show 64 * 1 + e.val = 0 + (64 + e.val); omega)).trans ?_
      exact (out_row x2 x3 x4 hf q hq x8 x9 hr 0 r e).2
    | 2 =>
      rw [put3_out _ _ _ _ h3 _ _ _ _ (fun hh => absurd (show 384 ≤ 64 * 2 + e.val from hh.2.2.2.2.1) (by omega)), put3_out _ _ _ _ h2 _ _ _ _ (fun hh => absurd (show 256 ≤ 64 * 2 + e.val from hh.2.2.2.2.1) (by omega))]
      refine (put3_in _ _ _ _ h1 _ _ _ _ 0 r ⟨e.val, by omega⟩ rfl rfl (by show 64 * 2 + e.val = 128 + e.val; omega)).trans ?_
      exact (out_row x2 x3 x4 hf q hq x8 x9 hr 1 r e).1
    | 3 =>
      rw [put3_out _ _ _ _ h3 _ _ _ _ (fun hh => absurd (show 384 ≤ 64 * 3 + e.val from hh.2.2.2.2.1) (by omega)), put3_out _ _ _ _ h2 _ _ _ _ (fun hh => absurd (show 256 ≤ 64 * 3 + e.val from hh.2.2.2.2.1) (by omega))]
      refine (put3_in _ _ _ _ h1 _ _ _ _ 0 r ⟨64 + e.val, by omega⟩ rfl rfl (by show 64 * 3 + e.val = 128 + (64 + e.val); omega)).trans ?_
      exact (out_row x2 x3 x4 hf q hq x8 x9 hr 1 r e).2
    | 4 =>
      rw [put3_out _ _ _ _ h3 _ _ _ _ (fun hh => absurd (show 384 ≤ 64 * 4 + e.val from hh.2.2.2.2.1) (by omega))]
      refine (put3_in _ _ _ _ h2 _ _ _ _ 0 r ⟨e.val, by omega⟩ rfl rfl (by show 64 * 4 + e.val = 256 + e.val; omega)).trans ?_
      exact (out_row x2 x3 x4 hf q hq x8 x9 hr 2 r e).1
    | 5 =>
      rw [put3_out _ _ _ _ h3 _ _ _ _ (fun hh => absurd (show 384 ≤ 64 * 5 + e.val from hh.2.2.2.2.1) (by omega))]
      refine (put3_in _ _ _ _ h2 _ _ _ _ 0 r ⟨64 + e.val, by omega⟩ rfl rfl (by show 64 * 5 + e.val = 256 + (64 + e.val); omega)).trans ?_
      exact (out_row x2 x3 x4 hf q hq x8 x9 hr 2 r e).2
    | 6 =>
      skip
      refine (put3_in _ _ _ _ h3 _ _ _ _ 0 r ⟨e.val, by omega⟩ rfl rfl (by show 64 * 6 + e.val = 384 + e.val; omega)).trans ?_
      exact (out_row x2 x3 x4 hf q hq x8 x9 hr 3 r e).1
    | 7 =>
      skip
      refine (put3_in _ _ _ _ h3 _ _ _ _ 0 r ⟨64 + e.val, by omega⟩ rfl rfl (by show 64 * 7 + e.val = 384 + (64 + e.val); omega)).trans ?_
      exact (out_row x2 x3 x4 hf q hq x8 x9 hr 3 r e).2

end Cert.Proof.KernelIdeal
-- ==== Proof.Trips.lean ====
module

public import proofs.«01_k».proof.Proof.Rows

@[expose] public section

set_option maxRecDepth 16384

noncomputable section

namespace Cert.Proof.KernelIdeal

open Cert.KernelIdeal Cert.KernelIdeal.Gen Cert.Mem Cert.Soft
open Idealize.ShloMosaic Idealize.ShloMosaic.TcCoe
open VecWindow (window put)

/-! ## The tile pairs as numbers -/

/-- The query tile before trip `k`. -/
def qn : ℕ → ℕ
  | 0 => 0 | 1 => 1 | 2 => 1 | 3 => 2 | 4 => 2 | 5 => 2 | _ => 3
/-- The key tile before trip `k`. -/
def jn : ℕ → ℕ
  | 0 => 0 | 1 => 0 | 2 => 1 | 3 => 0 | 4 => 1 | 5 => 2 | 6 => 0 | 7 => 1 | 8 => 2 | _ => 3

theorem qn_lt (k : ℕ) : qn k < 4 := by
  match k with
  | 0 | 1 | 2 | 3 | 4 | 5 | 6 | 7 | 8 => decide
  | n + 9 => show 3 < 4; decide
theorem jn_le (k : ℕ) : jn k ≤ qn k := by
  match k with
  | 0 | 1 | 2 | 3 | 4 | 5 | 6 | 7 | 8 => decide
  | n + 9 => show 3 ≤ 3; decide

theorem off2_at (k : ℕ) (hk : k < 9) : k0_off2 (pairAt k).2 = ![0, 512 * jn k, 0] := by
  match k, hk with
  | 0, _ | 1, _ | 2, _ | 3, _ | 4, _ | 5, _ | 6, _ | 7, _ | 8, _ => decide
  | n + 9, h => exact absurd h (by omega)

theorem off3_at (k : ℕ) (hk : k < 9) : k0_off3 (pairAt k).2 = ![0, 512 * jn k, 128] := by
  match k, hk with
  | 0, _ | 1, _ | 2, _ | 3, _ | 4, _ | 5, _ | 6, _ | 7, _ | 8, _ => decide
  | n + 9, h => exact absurd h (by omega)

theorem off4_at (k : ℕ) (hk : k < 9) : k0_off4 (pairAt k).2 = ![0, 512 * jn k, 256] := by
  match k, hk with
  | 0, _ | 1, _ | 2, _ | 3, _ | 4, _ | 5, _ | 6, _ | 7, _ | 8, _ => decide
  | n + 9, h => exact absurd h (by omega)

theorem off5_at (k : ℕ) (hk : k < 9) : k0_off5 (pairAt k).2 = ![0, 512 * jn k, 384] := by
  match k, hk with
  | 0, _ | 1, _ | 2, _ | 3, _ | 4, _ | 5, _ | 6, _ | 7, _ | 8, _ => decide
  | n + 9, h => exact absurd h (by omega)

theorem off6_at (k : ℕ) (hk : k < 9) : k0_off6 (pairAt k).1 (pairAt k).2 = ![0, 512 * qn (k + 1), 0] := by
  match k, hk with
  | 0, _ | 1, _ | 2, _ | 3, _ | 4, _ | 5, _ | 6, _ | 7, _ | 8, _ => decide
  | n + 9, h => exact absurd h (by omega)

theorem off7_at (k : ℕ) (hk : k < 9) : k0_off7 (pairAt k).1 (pairAt k).2 = ![0, 512 * qn (k + 1), 256] := by
  match k, hk with
  | 0, _ | 1, _ | 2, _ | 3, _ | 4, _ | 5, _ | 6, _ | 7, _ | 8, _ => decide
  | n + 9, h => exact absurd h (by omega)

theorem off8_at (k : ℕ) (hk : k < 9) : k0_off8 (pairAt k).1 (pairAt k).2 = ![0, 512 * qn (k + 1), 512] := by
  match k, hk with
  | 0, _ | 1, _ | 2, _ | 3, _ | 4, _ | 5, _ | 6, _ | 7, _ | 8, _ => decide
  | n + 9, h => exact absurd h (by omega)

theorem off9_at (k : ℕ) (hk : k < 9) : k0_off9 (pairAt k).1 (pairAt k).2 = ![0, 512 * qn (k + 1), 768] := by
  match k, hk with
  | 0, _ | 1, _ | 2, _ | 3, _ | 4, _ | 5, _ | 6, _ | 7, _ | 8, _ => decide
  | n + 9, h => exact absurd h (by omega)

theorem off10_at (k : ℕ) (hk : k < 9) : k0_off10 (pairAt k).1 (pairAt k).2 = ![if qn (k + 1) = jn (k + 1) then 1 else 0, 0, 0] := by
  match k, hk with
  | 0, _ | 1, _ | 2, _ | 3, _ | 4, _ | 5, _ | 6, _ | 7, _ | 8, _ => decide
  | n + 9, h => exact absurd h (by omega)

theorem off11_at (k : ℕ) (hk : k < 9) : k0_off11 (pairAt k).1 (pairAt k).2 = ![0, 512 * jn (k + 1), 0] := by
  match k, hk with
  | 0, _ | 1, _ | 2, _ | 3, _ | 4, _ | 5, _ | 6, _ | 7, _ | 8, _ => decide
  | n + 9, h => exact absurd h (by omega)

theorem off12_at (k : ℕ) (hk : k < 9) : k0_off12 (pairAt k).1 (pairAt k).2 = ![0, 512 * jn (k + 1), 256] := by
  match k, hk with
  | 0, _ | 1, _ | 2, _ | 3, _ | 4, _ | 5, _ | 6, _ | 7, _ | 8, _ => decide
  | n + 9, h => exact absurd h (by omega)

theorem off13_at (k : ℕ) (hk : k < 9) : k0_off13 (pairAt k).1 (pairAt k).2 = ![0, 512 * jn (k + 1), 512] := by
  match k, hk with
  | 0, _ | 1, _ | 2, _ | 3, _ | 4, _ | 5, _ | 6, _ | 7, _ | 8, _ => decide
  | n + 9, h => exact absurd h (by omega)

theorem off14_at (k : ℕ) (hk : k < 9) : k0_off14 (pairAt k).1 (pairAt k).2 = ![0, 512 * jn (k + 1), 768] := by
  match k, hk with
  | 0, _ | 1, _ | 2, _ | 3, _ | 4, _ | 5, _ | 6, _ | 7, _ | 8, _ => decide
  | n + 9, h => exact absurd h (by omega)

theorem off15_at (k : ℕ) (hk : k < 9) : k0_off15 (pairAt k).1 = ![0, 512 * qn k, 0] := by
  match k, hk with
  | 0, _ | 1, _ | 2, _ | 3, _ | 4, _ | 5, _ | 6, _ | 7, _ | 8, _ => decide
  | n + 9, h => exact absurd h (by omega)

theorem off16_at (k : ℕ) (hk : k < 9) : k0_off16 (pairAt k).1 = ![0, 512 * qn k, 128] := by
  match k, hk with
  | 0, _ | 1, _ | 2, _ | 3, _ | 4, _ | 5, _ | 6, _ | 7, _ | 8, _ => decide
  | n + 9, h => exact absurd h (by omega)

theorem off17_at (k : ℕ) (hk : k < 9) : k0_off17 (pairAt k).1 = ![0, 512 * qn k, 256] := by
  match k, hk with
  | 0, _ | 1, _ | 2, _ | 3, _ | 4, _ | 5, _ | 6, _ | 7, _ | 8, _ => decide
  | n + 9, h => exact absurd h (by omega)

theorem off18_at (k : ℕ) (hk : k < 9) : k0_off18 (pairAt k).1 = ![0, 512 * qn k, 384] := by
  match k, hk with
  | 0, _ | 1, _ | 2, _ | 3, _ | 4, _ | 5, _ | 6, _ | 7, _ | 8, _ => decide
  | n + 9, h => exact absurd h (by omega)

theorem cond_at (k : ℕ) (hk : k < 9) : k0_cond2 (pairAt k).1 (pairAt k).2 = 1#1 ↔ qn k = jn k := by
  match k, hk with
  | 0, _ | 1, _ | 2, _ | 3, _ | 4, _ | 5, _ | 6, _ | 7, _ | 8, _ => decide
  | n + 9, h => exact absurd h (by omega)

theorem next_same (k : ℕ) (hk : k < 9) : qn k ≠ jn k → qn (k + 1) = qn k ∧ jn (k + 1) = jn k + 1 := by
  match k, hk with
  | 0, _ | 1, _ | 2, _ | 3, _ | 4, _ | 5, _ | 6, _ | 7, _ | 8, _ => decide
  | n + 9, h => exact absurd h (by omega)

theorem next_row (k : ℕ) (hk : k < 9) : qn k = jn k → qn (k + 1) = qn k + 1 ∧ jn (k + 1) = 0 := by
  match k, hk with
  | 0, _ | 1, _ | 2, _ | 3, _ | 4, _ | 5, _ | 6, _ | 7, _ | 8, _ => decide
  | n + 9, h => exact absurd h (by omega)

theorem jb_zero (k : ℕ) (hk : k < 9) : (jn k = 0 → (pairAt k).2 = 0#32) ∧ (jn k ≠ 0 → (pairAt k).2 ≠ 0#32) := by
  match k, hk with
  | 0, _ | 1, _ | 2, _ | 3, _ | 4, _ | 5, _ | 6, _ | 7, _ | 8, _ => decide
  | n + 9, h => exact absurd h (by omega)

/-! ## The fact the trips keep -/

/-- Before trip `k`: the scores are of the pair the trip works on, the rows have met the key tiles before it, and the rows of
    query tiles before it are written. -/
def Trips (x2 x3 : Vec Ideal S1x2048x1024 .bf16) (x4 : Vec Ideal S1x2048x512 .bf16) (y10 : Vec Ideal S2x512x512 .f32) (k : ℕ) (acc : BitVec 32 × BitVec 32) (x5 : Vec Ideal S1x2048x512 .bf16)
    (x6 : Fin 8 → Vec Ideal S1x512x512 .f32) (x7 x8 : Fin 8 → Vec Ideal S1x512x128 .f32) (x9 : Fin 4 → Vec Ideal S1x512x256 .f32) : Prop :=
  acc = pairAt k ∧ MaskOk y10 ∧ Tile x2 x3 (qn k) (jn k) (qn_lt k) (jn_le k) x6 x7 ∧ (jn k ≠ 0 → Rows x2 x3 x4 (qn k) (jn k) (qn_lt k) x8 x9) ∧ Done x2 x3 x4 (qn k) x5

theorem trips_first (x2 x3 : Vec Ideal S1x2048x1024 .bf16) (x4 : Vec Ideal S1x2048x512 .bf16) (y10 : Vec Ideal S2x512x512 .f32) (hy : MaskOk y10) (x5 : Vec Ideal S1x2048x512 .bf16)
    (x8 : Fin 8 → Vec Ideal S1x512x128 .f32) (x9 : Fin 4 → Vec Ideal S1x512x256 .f32) :
    Trips x2 x3 x4 y10 0 (0#32, 0#32) x5 (firstS x2 x3 y10) (firstMC x2 x3 y10) x8 x9 := by
  refine ⟨rfl, hy, ?_, fun h => absurd rfl h, fun h R e hR => absurd hR (Nat.not_lt_zero _)⟩
  rw [firstS_eq, firstMC_eq]
  exact tile_of x2 x3 y10 hy 0 0 (by decide) (by decide) (by decide) rfl rfl rfl rfl rfl rfl rfl rfl _ _ _ _ _ _ _ _ _

theorem tile_next (x2 x3 : Vec Ideal S1x2048x1024 .bf16) (y10 : Vec Ideal S2x512x512 .f32) (hy : MaskOk y10) (k : ℕ) (hk : k < 9) (hw : k0_chk1 (pairAt k).1 (pairAt k).2) :
    Tile x2 x3 (qn (k + 1)) (jn (k + 1)) (qn_lt _) (jn_le _) (tripS x2 x3 y10 (pairAt k).1 (pairAt k).2 hw) (tripMC x2 x3 y10 (pairAt k).1 (pairAt k).2 hw) := by
  rw [tripS_eq, tripMC_eq]
  exact tile_of x2 x3 y10 hy (qn (k + 1)) (jn (k + 1)) (qn_lt _) (jn_le _) (off10_at k hk) (off6_at k hk) (off7_at k hk) (off8_at k hk) (off9_at k hk)
    (off11_at k hk) (off12_at k hk) (off13_at k hk) (off14_at k hk) _ _ _ _ _ _ _ _ _

attribute [local irreducible] aStep mStep oStep

theorem rows_next (x2 x3 : Vec Ideal S1x2048x1024 .bf16) (x4 : Vec Ideal S1x2048x512 .bf16) (hf : Fine x2 x3) (k : ℕ) (hk : k < 9) (hw : k0_chk1 (pairAt k).1 (pairAt k).2)
    (x6 : Fin 8 → Vec Ideal S1x512x512 .f32) (x7 x8 : Fin 8 → Vec Ideal S1x512x128 .f32) (x9 : Fin 4 → Vec Ideal S1x512x256 .f32)
    (ht : Tile x2 x3 (qn k) (jn k) (qn_lt k) (jn_le k) x6 x7) (hr : jn k ≠ 0 → Rows x2 x3 x4 (qn k) (jn k) (qn_lt k) x8 x9) :
    Rows x2 x3 x4 (qn k) (jn k + 1) (qn_lt k) (tripM (pairAt k).2 x7 x8) (tripA k0_pay92 (k0_pay93 (F := Ideal)) (k0_pay94 (F := Ideal)) x4 (pairAt k).1 (pairAt k).2 hw x6 x7 x8 x9) := by
  rw [tripM_eq, tripA_eq]
  refine rows_step x2 x3 x4 hf (qn k) (jn k) (qn_lt k) (jn_le k) (pairAt k).2 (jb_zero k hk).1 (jb_zero k hk).2 x6 x7 x8 x9 _ ht hr fun pp => ?_
  match pp with
  | 0 => exact ⟨_, k0_off2_inb _ _ hw, off2_at k hk, rfl⟩
  | 1 => exact ⟨_, k0_off3_inb _ _ hw, off3_at k hk, rfl⟩
  | 2 => exact ⟨_, k0_off4_inb _ _ hw, off4_at k hk, rfl⟩
  | 3 => exact ⟨_, k0_off5_inb _ _ hw, off5_at k hk, rfl⟩

theorem rows_congr (x2 x3 : Vec Ideal S1x2048x1024 .bf16) (x4 : Vec Ideal S1x2048x512 .bf16) {q q' j j' : ℕ} (e1 : q' = q) (e2 : j' = j) (hq : q < 4) (hq' : q' < 4)
    {x8 : Fin 8 → Vec Ideal S1x512x128 .f32} {x9 : Fin 4 → Vec Ideal S1x512x256 .f32} (h : Rows x2 x3 x4 q j hq x8 x9) : Rows x2 x3 x4 q' j' hq' x8 x9 := by
  subst e1; subst e2; exact h

theorem trips_next (x2 x3 : Vec Ideal S1x2048x1024 .bf16) (x4 : Vec Ideal S1x2048x512 .bf16) (hf : Fine x2 x3) (y10 : Vec Ideal S2x512x512 .f32) (k : ℕ) (hk : k < 9) (acc : BitVec 32 × BitVec 32) (x5 : Vec Ideal S1x2048x512 .bf16)
    (x6 : Fin 8 → Vec Ideal S1x512x512 .f32) (x7 x8 : Fin 8 → Vec Ideal S1x512x128 .f32) (x9 : Fin 4 → Vec Ideal S1x512x256 .f32) (h : Trips x2 x3 x4 y10 k acc x5 x6 x7 x8 x9) :
    ∃ hw : k0_chk1 acc.1 acc.2,
      (k0_cond2 acc.1 acc.2 = 1#1 → Trips x2 x3 x4 y10 (k + 1) (tripNext acc.1 acc.2) (tripO acc.1 acc.2 x5 (tripA k0_pay92 (k0_pay93 (F := Ideal)) (k0_pay94 (F := Ideal)) x4 acc.1 acc.2 hw x6 x7 x8 x9)) (tripS x2 x3 y10 acc.1 acc.2 hw) (tripMC x2 x3 y10 acc.1 acc.2 hw) (tripM acc.2 x7 x8) (tripA k0_pay92 (k0_pay93 (F := Ideal)) (k0_pay94 (F := Ideal)) x4 acc.1 acc.2 hw x6 x7 x8 x9)) ∧
      (¬ (k0_cond2 acc.1 acc.2 = 1#1) → Trips x2 x3 x4 y10 (k + 1) (tripNext acc.1 acc.2) x5 (tripS x2 x3 y10 acc.1 acc.2 hw) (tripMC x2 x3 y10 acc.1 acc.2 hw) (tripM acc.2 x7 x8) (tripA k0_pay92 (k0_pay93 (F := Ideal)) (k0_pay94 (F := Ideal)) x4 acc.1 acc.2 hw x6 x7 x8 x9)) := by
  obtain ⟨rfl, hy, ht, hr, hd⟩ := h
  have hw := pair_chk k hk
  have hrows := rows_next x2 x3 x4 hf k hk hw x6 x7 x8 x9 ht hr
  refine ⟨hw, fun hc => ?_, fun hc => ?_⟩
  · have he := (cond_at k hk).mp hc
    obtain ⟨e1, e2⟩ := next_row k hk he
    refine ⟨pair_next k hk, hy, tile_next x2 x3 y10 hy k hk hw, fun h => absurd e2 h, ?_⟩
    rw [tripO_eq, e1]
    exact done_next x2 x3 x4 hf (qn k) (qn_lt k) _ _ (rows_congr x2 x3 x4 rfl (by rw [he]) (qn_lt k) (qn_lt k) hrows) x5 hd (off15_at k hk) (off16_at k hk) (off17_at k hk) (off18_at k hk)
  · have he : qn k ≠ jn k := fun e => hc ((cond_at k hk).mpr e)
    obtain ⟨e1, e2⟩ := next_same k hk he
    refine ⟨pair_next k hk, hy, tile_next x2 x3 y10 hy k hk hw, fun _ => rows_congr x2 x3 x4 e1 e2 (qn_lt k) (qn_lt _) hrows, ?_⟩
    rw [e1]; exact hd

theorem trips_last (x2 x3 : Vec Ideal S1x2048x1024 .bf16) (x4 : Vec Ideal S1x2048x512 .bf16) (hf : Fine x2 x3) (y10 : Vec Ideal S2x512x512 .f32) (acc : BitVec 32 × BitVec 32) (x5 : Vec Ideal S1x2048x512 .bf16)
    (x6 : Fin 8 → Vec Ideal S1x512x512 .f32) (x7 x8 : Fin 8 → Vec Ideal S1x512x128 .f32) (x9 : Fin 4 → Vec Ideal S1x512x256 .f32) (h : Trips x2 x3 x4 y10 9 acc x5 x6 x7 x8 x9) :
    Done x2 x3 x4 4 (lastO x4 x5 x6 x7 x8 x9) := by
  obtain ⟨rfl, hy, ht, hr, hd⟩ := h
  rw [lastO_eq]
  have hrows := rows_step x2 x3 x4 hf 3 3 (by decide) (le_refl _) 3#32 (fun h => absurd h (by decide)) (fun _ => by decide) x6 x7 x8 x9
    ![aStep 3#32 (window (s := S1x2048x512) x4 ![0, 1536, 0] S1x512x128.size inb_S1x2048x512_S1x512x128_0_1536_0) (x6 0) (x7 0) (x8 0) (x6 1) (x7 1) (x8 1) (x9 0),
      aStep 3#32 (window (s := S1x2048x512) x4 ![0, 1536, 128] S1x512x128.size inb_S1x2048x512_S1x512x128_0_1536_128) (x6 2) (x7 2) (x8 2) (x6 3) (x7 3) (x8 3) (x9 1),
      aStep 3#32 (window (s := S1x2048x512) x4 ![0, 1536, 256] S1x512x128.size inb_S1x2048x512_S1x512x128_0_1536_256) (x6 4) (x7 4) (x8 4) (x6 5) (x7 5) (x8 5) (x9 2),
      aStep 3#32 (window (s := S1x2048x512) x4 ![0, 1536, 384] S1x512x128.size inb_S1x2048x512_S1x512x128_0_1536_384) (x6 6) (x7 6) (x8 6) (x6 7) (x7 7) (x8 7) (x9 3)]
    ht hr (fun pp => match pp with
      | 0 => ⟨_, inb_S1x2048x512_S1x512x128_0_1536_0, rfl, rfl⟩
      | 1 => ⟨_, inb_S1x2048x512_S1x512x128_0_1536_128, rfl, rfl⟩
      | 2 => ⟨_, inb_S1x2048x512_S1x512x128_0_1536_256, rfl, rfl⟩
      | 3 => ⟨_, inb_S1x2048x512_S1x512x128_0_1536_384, rfl, rfl⟩)
  exact done_next x2 x3 x4 hf 3 (by decide) _ _ hrows x5 hd rfl rfl rfl rfl

end Cert.Proof.KernelIdeal
-- ==== Proof.ValueRun.lean ====
module

public import proofs.«01_k».proof.Proof.Trips
public import Idealize.ShloMosaic.Lib.Pipeline.ValueKit

@[expose] public section

set_option maxRecDepth 16384

noncomputable section

namespace Cert.Proof.KernelIdeal

open Cert.KernelIdeal Cert.KernelIdeal.Gen Cert.Mem Cert.Soft
open Idealize.ShloMosaic Idealize.ShloMosaic.TcCoe
open Idealize.ShloMosaic.Pipeline (Dat RDat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem

/-! ## The block one grid point leaves -/

/-- Column `n` of the block: its head and its place in the head. -/
def headOf (n : Fin 512) : Fin 8 := ⟨n.val / 64, by omega⟩
def laneOf (n : Fin 512) : Fin 64 := ⟨n.val % 64, by omega⟩

/-- The block the kernel leaves. -/
def blockOut (x2 x3 : Vec Ideal S1x2048x1024 .bf16) (x4 : Vec Ideal S1x2048x512 .bf16) : Vec Ideal S1x2048x512 .bf16 :=
  fun i => outAt x2 x3 x4 (headOf (i 2)) (i 1) (laneOf (i 2))

theorem blockOut_of_done (x2 x3 : Vec Ideal S1x2048x1024 .bf16) (x4 X : Vec Ideal S1x2048x512 .bf16) (h : Done x2 x3 x4 4 X) : X = blockOut x2 x3 x4 := by
  funext i
  have e := h (headOf (i 2)) (i 1) (laneOf (i 2)) (show (i 1).val < 512 * 4 from (i 1).isLt)
  refine Eq.trans (congrArg X (funext fun t => ?_)) e
  match t with
  | ⟨0, _⟩ => exact Fin.ext (by have := (i 0).isLt; show (i 0).val = 0; have h1 : (i 0).val < 1 := (i 0).isLt; omega)
  | ⟨1, _⟩ => rfl
  | ⟨2, _⟩ => exact Fin.ext (by show (i 2).val = 64 * ((i 2).val / 64) + (i 2).val % 64; omega)

theorem firstPoint_iff : ∀ t : Fin cfg0.N, firstPoint (grid0.coords t) ↔ t.val = 0 := by
  intro t
  unfold firstPoint
  revert t
  decide +kernel

/-! ## The run, with the output blocks followed -/

variable (m : (ℓ : Loc nD τ sig) → Buf (Elt Ideal) ℓ) (ρ : Dev nD → PrngReg)

/-- The proof data of the value run: inputs in place, the output block the softmax of the point's blocks. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ t := Inv (fun f => t.val ≠ 0 → MaskOk f) c
  q _ := fullShare
  owed _ := 0

theorem vA_eq (c : Dev nD) (w : Fin cfg0.W) : (vdats m 0 c).A w = V m c (Pipeline.arrRef spec0 w) := by dsimp only [vdats]
theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = blockOut (iblk m c 0 t) (iblk m c 1 t) (iblk m c 2 t) := by dsimp only [vdats]

/-- What a grid point starts from. -/
def vbodyPre (c : Dev nD) (t : Fin cfg0.N) : sProp (MT nD τ sig Unit (Elt Ideal) ℕ (UR sig nD τ) ℕ) :=
  iprop((vdats m 0 c).Φ t.castSucc ∗ (vdats m 0 c).owesAt () t.castSucc
    ∗ (∃ d, owns (c : Thread nD τ) (st0 t) fullShare ((vdats m 0 c).before 0 t d))
    ∗ (∃ d, owns (c : Thread nD τ) (st1 t) fullShare ((vdats m 0 c).before 1 t d))
    ∗ (∃ d, owns (c : Thread nD τ) (st2 t) fullShare ((vdats m 0 c).before 2 t d))
    ∗ (∃ d, owns (c : Thread nD τ) (st3 t) fullShare ((vdats m 0 c).before 3 t d)))

/-- What a grid point leaves. -/
def vbodyPost (c : Dev nD) (t : Fin cfg0.N) : sProp (MT nD τ sig Unit (Elt Ideal) ℕ (UR sig nD τ) ℕ) :=
  iprop((vdats m 0 c).Φ t.succ ∗ (vdats m 0 c).owesAt () t.succ
    ∗ owns (c : Thread nD τ) (st0 t) fullShare ((vdats m 0 c).after 0 t)
    ∗ owns (c : Thread nD τ) (st1 t) fullShare ((vdats m 0 c).after 1 t)
    ∗ owns (c : Thread nD τ) (st2 t) fullShare ((vdats m 0 c).after 2 t)
    ∗ owns (c : Thread nD τ) (st3 t) fullShare ((vdats m 0 c).after 3 t))

theorem point_value (c : Dev nD) (t : Fin cfg0.N) (hf : Fine (iblk m c 0 t) (iblk m c 1 t)) :
    vbodyPre m c t ⊢ wp frame (wpE (defs₀ (F := Ideal)) Variants.none (c : Thread nD τ) none) Set.univ (bodyAt0 t) (fun _ => vbodyPost m c t) := by
  unfold vbodyPre vbodyPost
  rw [show (vdats m 0 c).Φ t.succ = Inv (F := Ideal) (fun f => t.succ.val ≠ 0 → MaskOk f) c from rfl, show (vdats m 0 c).Φ t.castSucc = Inv (F := Ideal) (fun f => t.castSucc.val ≠ 0 → MaskOk f) c from rfl, vafter_0, vafter_1, vafter_2, vafter_3]
  unfold Dat.owesAt Pipeline.owesWithin
  rw [show (vdats m 0 c).owed t.castSucc = 0 from rfl, show (vdats m 0 c).owed t.succ = 0 from rfl]
  iintro ⟨HI, ⟨%W, -, HW⟩, ⟨%d0, H0⟩, ⟨%d1, H1⟩, ⟨%d2, H2⟩, ⟨%d3, H3⟩⟩
  rw [before0_0_of m (vdats m 0 c) (vA_eq m c 0) (vafter_0 m c) t d0, before0_1_of m (vdats m 0 c) (vA_eq m c 1) (vafter_1 m c) t d1,
    before0_2_of m (vdats m 0 c) (vA_eq m c 2) (vafter_2 m c) t d2]
  iapply (wp_wand_r (Fr := frame) (wpE := wpE (defs₀ (F := Ideal)) Variants.none (c : Thread nD τ) none) (E := Set.univ)
    (Q := fun _ => iprop(Inv (F := Ideal) (fun f => t.succ.val ≠ 0 → MaskOk f) c ∗ owns (c : Thread nD τ) (st0 t) fullShare (iblk m c 0 t) ∗ owns (c : Thread nD τ) (st1 t) fullShare (iblk m c 1 t)
      ∗ owns (c : Thread nD τ) (st2 t) fullShare (iblk m c 2 t) ∗ (∃ X, ⌜X = blockOut (iblk m c 0 t) (iblk m c 1 t) (iblk m c 2 t)⌝ ∗ owns (c : Thread nD τ) (st3 t) fullShare X))))
  isplitr [HW]
  · iapply (point_run c t (iblk m c 0 t) (iblk m c 1 t) (iblk m c 2 t) (fun f => t.castSucc.val ≠ 0 → MaskOk f) (fun f => t.succ.val ≠ 0 → MaskOk f) (fun X => X = blockOut (iblk m c 0 t) (iblk m c 1 t) (iblk m c 2 t))
      (fun x5 x6 x7 x8 x9 x10 hx => ⟨fun y10 k acc x5 x6 x7 x8 x9 => Trips (iblk m c 0 t) (iblk m c 1 t) (iblk m c 2 t) y10 k acc x5 x6 x7 x8 x9,
        fun y8 y9 y10 h1 h2 => by
          refine trips_first _ _ _ y10 ?_ x5 y8 y9
          by_cases h : firstPoint (grid0.coords t)
          · rw [(h1 h).2.2]; exact maskPut_ok x10
          · rw [(h2 h).2.2]; exact hx fun e => h ((firstPoint_iff t).mpr e),
        fun y10 k acc x5 x6 x7 x8 x9 hk hP => trips_next _ _ _ hf y10 k hk acc x5 x6 x7 x8 x9 hP,
        fun y10 acc x5 x6 x7 x8 x9 _ _ hP => ⟨fun _ => hP.2.1, blockOut_of_done _ _ _ _ (trips_last _ _ _ hf y10 acc x5 x6 x7 x8 x9 hP)⟩⟩))
    isplitl [HI]; · iexact HI
    isplitl [H0]; · iexact H0
    isplitl [H1]; · iexact H1
    isplitl [H2]; · iexact H2
    iexists _; iexact H3
  · iintro %_ ⟨HI, H0, H1, H2, ⟨%X, %hX, H3⟩⟩
    subst hX
    isplitl [HI]; · iexact HI
    isplitl [HW]
    · iexists W; isplitr; · ipureintro; exact fun _ _ => Or.inl trivial
      iexact HW
    isplitl [H0]; · iexact H0
    isplitl [H1]; · iexact H1
    isplitl [H2]; · iexact H2
    iexact H3

theorem body_value (hf : ∀ (c : Dev nD) (t : Fin cfg0.N), Fine (iblk m c 0 t) (iblk m c 1 t)) (c : Dev nD) : BodyObligationLoose (vdats m 0 c) (defs₀ (F := Ideal)) Variants.none () Set.univ := fun t => by
  rw [bigSep_W0, bigSep_W0, defs₀_row]
  exact triple_restated (point_value m c t (hf c t)) rfl .rfl fun _ => .rfl

end Cert.Proof.KernelIdeal
-- ==== Proof.ValueArr.lean ====
module

public import proofs.«01_k».proof.Proof.ValueRun

@[expose] public section

set_option maxRecDepth 16384

noncomputable section

namespace Cert.Proof.KernelIdeal

open Cert.KernelIdeal Cert.KernelIdeal.Gen Cert.Mem Cert.Soft
open Idealize.ShloMosaic Idealize.ShloMosaic.TcCoe
open Idealize.ShloMosaic.Pipeline (Dat RDat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem

/-! ## The array the run leaves -/

variable (m : (ℓ : Loc nD τ sig) → Buf (Elt Ideal) ℓ) (ρ : Dev nD → PrngReg)

/-- The result array: block `b` is what the grid point `b` leaves. -/
def arrOut (q k : Vec Ideal S32x2048x1024 .bf16) (v : Vec Ideal S32x2048x512 .bf16) : Vec Ideal S32x2048x512 .bf16 :=
  fun i => outAt (fun y => q (ix3 (i 0) (y 1) (y 2))) (fun y => k (ix3 (i 0) (y 1) (y 2))) (fun y => v (ix3 (i 0) (y 1) (y 2))) (headOf (i 2)) (i 1) (laneOf (i 2))

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel

theorem points_eq : cfg0.N = 32 := by decide +kernel

/-- The batch entry a grid point works on. -/
def batchOf (t : Fin cfg0.N) : Fin 32 := ⟨t.val, points_eq ▸ t.isLt⟩

theorem batchOf_val (t : Fin cfg0.N) : (batchOf t).val = t.val := rfl

theorem read0 (X : Vec Ideal S32x2048x1024 .bf16) (t : Fin cfg0.N) (b : Fin 32) (hb : b.val = t.val) (y : S1x2048x1024.Idx) :
    ((cfg0.win 0).blk t).view.read (Elt Ideal) X y = X (ix3 b (y 1) (y 2)) := by
  have h0 : (y 0).val < 1 := (y 0).isLt
  blk_simp
  refine congrArg X ?_
  blk_ext [index0 t]

theorem iblk0_eq (c : Dev nD) (t : Fin cfg0.N) : iblk m c 0 t = fun y : S1x2048x1024.Idx => V m c main_v12 (ix3 (batchOf t) (y 1) (y 2)) := by
  unfold iblk
  exact funext fun y => read0 _ t (batchOf t) (batchOf_val t) y

theorem read1 (X : Vec Ideal S32x2048x1024 .bf16) (t : Fin cfg0.N) (b : Fin 32) (hb : b.val = t.val) (y : S1x2048x1024.Idx) :
    ((cfg0.win 1).blk t).view.read (Elt Ideal) X y = X (ix3 b (y 1) (y 2)) := by
  have h0 : (y 0).val < 1 := (y 0).isLt
  blk_simp
  refine congrArg X ?_
  blk_ext [index1 t]

theorem iblk1_eq (c : Dev nD) (t : Fin cfg0.N) : iblk m c 1 t = fun y : S1x2048x1024.Idx => V m c main_v14 (ix3 (batchOf t) (y 1) (y 2)) := by
  unfold iblk
  exact funext fun y => read1 _ t (batchOf t) (batchOf_val t) y

theorem read2 (X : Vec Ideal S32x2048x512 .bf16) (t : Fin cfg0.N) (b : Fin 32) (hb : b.val = t.val) (y : S1x2048x512.Idx) :
    ((cfg0.win 2).blk t).view.read (Elt Ideal) X y = X (ix3 b (y 1) (y 2)) := by
  have h0 : (y 0).val < 1 := (y 0).isLt
  blk_simp
  refine congrArg X ?_
  blk_ext [index2 t]

theorem iblk2_eq (c : Dev nD) (t : Fin cfg0.N) : iblk m c 2 t = fun y : S1x2048x512.Idx => V m c main_v16 (ix3 (batchOf t) (y 1) (y 2)) := by
  unfold iblk
  exact funext fun y => read2 _ t (batchOf t) (batchOf_val t) y

theorem emb3 (t : Fin cfg0.N) (b : Fin 32) (hb : b.val = t.val) (y : S1x2048x512.Idx) : (win0_3.blk t).view.emb y = (ix3 b (y 1) (y 2) : S32x2048x512.Idx) := by
  have h0 : (y 0).val < 1 := (y 0).isLt
  blk_ext [index3 t]

attribute [local irreducible] outAt

theorem block_arr (q k : Vec Ideal S32x2048x1024 .bf16) (v : Vec Ideal S32x2048x512 .bf16) (b : Fin 32) (y : S1x2048x512.Idx) :
    blockOut (fun y => q (ix3 b (y 1) (y 2))) (fun y => k (ix3 b (y 1) (y 2))) (fun y => v (ix3 b (y 1) (y 2))) y = arrOut q k v (ix3 b (y 1) (y 2)) := rfl

theorem arr_of_blocks {c : Dev nD} (dat : Dat τ (Elt Ideal) Unit ℕ (UR sig nD τ) ℕ cfg0 c) (G : Vec Ideal S32x2048x512 .bf16) (B : Fin cfg0.N → Vec Ideal S1x2048x512 .bf16)
    (hB : ∀ t, dat.after 3 t = B t) (hG : ∀ (t : Fin cfg0.N) (y : S1x2048x512.Idx), B t y = G (ix3 (batchOf t) (y 1) (y 2))) : dat.arrAt 3 cfg0.N = G := by
  refine dat.arrAt_eq_of_covers 3 _ (by decide +kernel) fun t hfl y => ?_
  have e : G (ix3 (batchOf t) (y 1) (y 2)) = G ((win0_3.blk t).view.emb y) := congrArg G (emb3 t (batchOf t) (batchOf_val t) y).symm
  refine Eq.trans ?_ e
  refine Eq.trans ?_ (hG t y)
  rw [hB]
  rfl

theorem final3 (c : Dev nD) : (vdats m 0 c).arrAt 3 cfg0.N = arrOut (V m c main_v12) (V m c main_v14) (V m c main_v16) := by
  refine arr_of_blocks (vdats m 0 c) _ _ (vafter_3 m c) fun t y => ?_
  rw [iblk0_eq, iblk1_eq, iblk2_eq]
  exact block_arr _ _ _ (batchOf t) y

set_option backward.isDefEq.respectTransparency.types false in
/-- The kernel ends with its result the softmax of its packed operands, its arguments unchanged. -/
theorem value_run (hf : ∀ (c : Dev nD) (t : Fin cfg0.N), Fine (iblk m c 0 t) (iblk m c 1 t)) :
    θ_run defs (onTc (τ := τ) (main (F := Ideal))) ⟨m, fun _ => 0, ρ⟩ (fun r => ∀ c : Dev nD,
      r.2.mem ((c.tc : Thread nD τ).loc main_v17) = arrOut (V m c main_v12) (V m c main_v14) (V m c main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_frame_track cfgs (vdats m) 0 launch0 defs₀ Variants.none m ρ main
    (hbody := fun c => body_value m hf c) (hshare := fun c => (vdats m 0 c).share_full fun _ => rfl)
    (howed := fun _ _ => rfl) (V := V m) (hmain := hmain m Variants.none) (hA := vA_eq m)
    (hin := fun c => inv_of_free (fun f => (0 : ℕ) ≠ 0 → MaskOk f) (fun _ h => absurd rfl h) c) (hout := fun c => free_of_inv _ c)
    (Q' := _) (hQ' := fun r h c => ⟨(Pipeline.FramePost.out_eq h.1 c 3).trans (final3 m c), ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)

end Cert.Proof.KernelIdeal
-- ==== Proof.Pack.lean ====
module

public import proofs.«01_k».proof.Proof.ValueArr
public import proofs.«01_k».proof.Proof.Softmax
public import Idealize.ShloMosaic.Lib.Claim
public import Idealize.ShloMosaic.Lib.Pointwise
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ)

theorem upto_arg0 (c : Dev nD) (b : Fin 32) (R : Fin 2048) (n : Fin 8) (d : Fin 64) :
    (StableHlo.upto hostOps0 (fun b => m (c, b)) 9 (Proc.tc.devRef main_arg0) (ix4 b R n d) : EReal) = m (c, Proc.tc.devRef main_arg0) (ix4 b R n d) := by
  after_reads_at

theorem upto_arg1 (c : Dev nD) (b : Fin 32) (R : Fin 2048) (n : Fin 8) (d : Fin 32) :
    (StableHlo.upto hostOps0 (fun b => m (c, b)) 9 (Proc.tc.devRef main_arg1) (ix4 b R n d) : EReal) = m (c, Proc.tc.devRef main_arg1) (ix4 b R n d) := by
  after_reads_at

theorem upto_arg2 (c : Dev nD) (b : Fin 32) (R : Fin 2048) (n : Fin 8) (d : Fin 64) :
    (StableHlo.upto hostOps0 (fun b => m (c, b)) 14 (Proc.tc.devRef main_arg2) (ix4 b R n d) : EReal) = m (c, Proc.tc.devRef main_arg2) (ix4 b R n d) := by
  after_reads_at

theorem upto_arg3 (c : Dev nD) (b : Fin 32) (R : Fin 2048) (n : Fin 8) (d : Fin 32) :
    (StableHlo.upto hostOps0 (fun b => m (c, b)) 14 (Proc.tc.devRef main_v9) (ix4 b R n d) : EReal) = m (c, Proc.tc.devRef main_arg3) (ix3 b R d) := by
  after_reads_at

theorem upto_zero9 (c : Dev nD) (b : Fin 32) (R : Fin 2048) (n : Fin 8) (d : Fin 32) :
    (StableHlo.upto hostOps0 (fun b => m (c, b)) 9 (Proc.tc.devRef main_v0) (ix4 b R n d) : EReal) = (0 : EReal) := by
  after_reads_at

theorem upto_zero14 (c : Dev nD) (b : Fin 32) (R : Fin 2048) (n : Fin 8) (d : Fin 32) :
    (StableHlo.upto hostOps0 (fun b => m (c, b)) 14 (Proc.tc.devRef main_v0) (ix4 b R n d) : EReal) = (0 : EReal) := by
  after_reads_at

set_option maxHeartbeats 4000000 in
theorem q_at (c : Dev nD) (b : Fin 32) (R : Fin 2048) (n : Fin 1024) (h : Fin 8) (d : Fin 128) (hn : n.val = 128 * h.val + d.val) :
    (V m c main_v12 (ix3 b R n) : EReal) = Soft.packed (fun x => m (c, Proc.tc.devRef main_arg0) (ix4 b R h x)) (fun x => m (c, Proc.tc.devRef main_arg1) (ix4 b R h x)) d * Soft.scl := by
  obtain ⟨n, hlt⟩ := n
  obtain ⟨h, hh⟩ := h
  obtain ⟨d, hd⟩ := d
  simp only at hn
  obtain rfl : h = n / 128 := by omega
  obtain rfl : d = n % 128 := by omega
  unfold V
  after_reads_at
  unfold Soft.packed Soft.scl
  refine congrArg (fun x : EReal => x * _) ?_
  refine dite_congr rfl (fun h => upto_arg0 m c b R _ _) fun h => ?_
  exact dite_congr rfl (fun h => upto_arg1 m c b R _ _) fun h => upto_zero9 m c b R _ _

set_option maxHeartbeats 4000000 in
theorem k_at (c : Dev nD) (b : Fin 32) (R : Fin 2048) (n : Fin 1024) (h : Fin 8) (d : Fin 128) (hn : n.val = 128 * h.val + d.val) :
    (V m c main_v14 (ix3 b R n) : EReal) = Soft.packed (fun x => m (c, Proc.tc.devRef main_arg2) (ix4 b R h x)) (fun x => m (c, Proc.tc.devRef main_arg3) (ix3 b R x)) d := by
  obtain ⟨n, hlt⟩ := n
  obtain ⟨h, hh⟩ := h
  obtain ⟨d, hd⟩ := d
  simp only at hn
  obtain rfl : h = n / 128 := by omega
  obtain rfl : d = n % 128 := by omega
  unfold V
  after_reads_at
  unfold Soft.packed
  refine dite_congr rfl (fun h => upto_arg2 m c b R _ _) fun h => ?_
  exact dite_congr rfl (fun h => upto_arg3 m c b R _ _) fun h => upto_zero14 m c b R _ _

theorem v_at (c : Dev nD) (b : Fin 32) (R : Fin 2048) (n : Fin 512) :
    (V m c main_v16 (ix3 b R n) : EReal) = m (c, Proc.tc.devRef main_arg4) (ix4 b R (headOf n) (laneOf n)) := by
  unfold V
  after_reads_at
  rfl

end Cert.Proof.KernelIdeal
-- ==== Proof.Scores.lean ====
module

public import proofs.«01_k».proof.Proof.Gen.ReferenceIdeal.Run
public import proofs.«01_k».proof.Proof.Softmax
public import Idealize.ShloMosaic.Lib.Claim
public import Idealize.ShloMosaic.Lib.Pointwise
public import Idealize.ShloMosaic.Lib.Tactic.CleanTypes

@[expose] public section

set_option maxRecDepth 16384

noncomputable section

namespace Cert.Proof.ReferenceIdeal
open Cert.ReferenceIdeal Cert.ReferenceIdeal.Gen
open Idealize.ShloMosaic Idealize.ShloMosaic.TcCoe Idealize.ShloMosaic.StableHlo

theorem keep_bit (x R : Fin 2048) : (IntOp.cmpi .sle (BitVec.ofNat 32 ↑x) (BitVec.ofNat 32 ↑R)) = BitVec.ofBool (decide (x.val ≤ R.val)) := by
  have e : (BitVec.ofNat 32 x.val).sle (BitVec.ofNat 32 R.val) = decide (x.val ≤ R.val) := by
    rw [BitVec.sle_eq_decide]
    have hx : (BitVec.ofNat 32 x.val).toInt = x.val := by rw [BitVec.toInt_eq_toNat_of_lt (by rw [BitVec.toNat_ofNat]; omega), BitVec.toNat_ofNat, Nat.mod_eq_of_lt (by omega)]
    have hR : (BitVec.ofNat 32 R.val).toInt = R.val := by rw [BitVec.toInt_eq_toNat_of_lt (by rw [BitVec.toNat_ofNat]; omega), BitVec.toNat_ofNat, Nat.mod_eq_of_lt (by omega)]
    rw [hx, hR]
    simp
  simp only [IntOp.cmpi, e]

theorem select_keep (x R : Fin 2048) (y z : EReal) : Scalar.select (IntOp.cmpi .sle (BitVec.ofNat 32 ↑x) (BitVec.ofNat 32 ↑R)) y z = if x.val ≤ R.val then y else z := by
  rw [keep_bit]
  by_cases h : x.val ≤ R.val <;> simp [Scalar.select, h]

/-- One score of the reference's. -/
def sc (a0 : Fin 64 → EReal) (a1 : Fin 32 → EReal) (a2 : Fin 2048 → Fin 64 → EReal) (a3 : Fin 2048 → Fin 32 → EReal) (R x : Fin 2048) : EReal :=
  if x.val ≤ R.val then (∑ y, a0 y * a2 x y + ∑ y, a3 x y * a1 y) * Soft.scr else ⊥

/-- The scores, masked. -/
def rScores (a0 : FVec Ideal S32x2048x8x64 .f32) (a1 : FVec Ideal S32x2048x8x32 .f32) (a2 : FVec Ideal S32x2048x8x64 .f32) (a3 : FVec Ideal S32x2048x32 .f32) : FVec Ideal S32x8x2048x2048 .f32 :=
  select (broadcastInDim S32x8x2048x2048 ![2, 3] bcast_S2048x2048_S32x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (addf (Host.dotGeneral dot_S32x2048x8x64_S32x2048x8x64_S32x8x2048x2048_3_3_1_1_02_02 none a0 a2)
        (transpose S32x8x2048x2048 [0, 3, 2, 1] (Host.dotGeneral dot_S32x2048x32_S32x2048x8x32_S32x2048x2048x8_2_3_1_12_0_0 none a3 a1) transposes_S32x2048x2048x8_S32x8x2048x2048_0_3_2_1))
      (broadcastInDim S32x8x2048x2048 ![] bcast_S_S32x8x2048x2048 (Host.divf (constant (F := Ideal) S_ .f32 0x3F800000#32) (Host.sqrt (constant S_ .f32 0x42C00000#32)))))
    (broadcastInDim S32x8x2048x2048 ![] bcast_S_S32x8x2048x2048 (id (constant (F := Ideal) S_ .f32 0xFF800000#32)))

/-- Every row's maximum. -/
def rMax (s : FVec Ideal S32x8x2048x2048 .f32) : FVec Ideal S32x8x2048 .f32 :=
  maximumf (broadcastInDim S32x8x2048 ![] bcast_S_S32x8x2048 (constant S_ .f32 0xFF800000#32))
    (Host.reduce FloatOps.maximumf s (constant S_ .f32 0xFF800000#32) reducesTo_S32x8x2048x2048_S32x8x2048_d3 h_S_)

/-- A number to each row, at every column. -/
def rCols (x : FVec Ideal S32x8x2048 .f32) : FVec Ideal S32x8x2048x2048 .f32 :=
  broadcastInDim S32x8x2048x2048 ![0, 1, 2, 3] bcast_S32x8x2048x1_S32x8x2048x2048_0_1_2_3 (broadcastInDim S32x8x2048x1 ![0, 1, 2] bcast_S32x8x2048_S32x8x2048x1_0_1_2 x)

/-- The weights, not yet divided. -/
def rExp (s : FVec Ideal S32x8x2048x2048 .f32) (x : FVec Ideal S32x8x2048x2048 .f32) : FVec Ideal S32x8x2048x2048 .f32 := Host.exp (subf s x)

/-- Every row's sum. -/
def rSum (e : FVec Ideal S32x8x2048x2048 .f32) : FVec Ideal S32x8x2048 .f32 :=
  Host.reduceAdd e (constant S_ .f32 0x00000000#32) reducesTo_S32x8x2048x2048_S32x8x2048_d3 h_S_

/-- The weighted sums of the values, in the result's order. -/
def rOut (a4 : FVec Ideal S32x2048x8x64 .f32) (w : FVec Ideal S32x8x2048x2048 .f32) : FVec Ideal S32x2048x512 .bf16 :=
  truncf .bf16 (shapeCast S32x2048x512 (transpose S32x2048x8x64 [0, 3, 1, 2] (Host.dotGeneral dot_S32x2048x8x64_S32x8x2048x2048_S32x8x64x2048_1_3_3_2_02_01 none a4 w)
    transposes_S32x8x64x2048_S32x2048x8x64_0_3_1_2) shapeCasts_S32x2048x8x64_S32x2048x512) bitsLt_bf16_f32

/-- The weights. -/
def rWts (s : FVec Ideal S32x8x2048x2048 .f32) : FVec Ideal S32x8x2048x2048 .f32 := Host.divf (rExp s (rCols (rMax s))) (rCols (rSum (rExp s (rCols (rMax s)))))

/-- The result. -/
def rAll (a0 : FVec Ideal S32x2048x8x64 .f32) (a1 : FVec Ideal S32x2048x8x32 .f32) (a2 : FVec Ideal S32x2048x8x64 .f32) (a3 : FVec Ideal S32x2048x32 .f32) (a4 : FVec Ideal S32x2048x8x64 .f32) : FVec Ideal S32x2048x512 .bf16 :=
  rOut a4 (rWts (rScores a0 a1 a2 a3))

theorem rScores_at (a0 : FVec Ideal S32x2048x8x64 .f32) (a1 : FVec Ideal S32x2048x8x32 .f32) (a2 : FVec Ideal S32x2048x8x64 .f32) (a3 : FVec Ideal S32x2048x32 .f32) (b : Fin 32) (h : Fin 8) (R x : Fin 2048) :
    (rScores a0 a1 a2 a3 (ix4 b h R x) : EReal) = sc (fun y => a0 (ix4 b R h y)) (fun y => a1 (ix4 b R h y)) (fun x y => a2 (ix4 b x h y)) (fun x y => a3 (ix3 b x y)) R x := by
  unfold sc Soft.scr
  generalize hX : (if x.val ≤ R.val then _ else (⊥ : EReal)) = X
  unfold rScores
  pointwise
  rw [← hX]
  refine (select_keep x R _ _).trans ?_
  exact if_congr Iff.rfl rfl Soft.lit_bot

theorem fold_row {α : Type} (op : α → α → α) [Std.Commutative op] [Std.Associative op] (s : S32x8x2048x2048.Idx → α) (init : S_.Idx → α) (b : Fin 32) (h : Fin 8) (R : Fin 2048) :
    Host.reduce op s init reducesTo_S32x8x2048x2048_S32x8x2048_d3 h_S_ (ix3 b h R) = Finset.univ.fold op (init (Shape.Idx.first h_S_)) fun x : Fin 2048 => s (ix4 b h R x) := by
  rw [Host.reduce_eq_fold]
  exact Shape.ReducesTo.fold_fiber_r4_a3 _ _ _ _ _

theorem rMax_at (s : FVec Ideal S32x8x2048x2048 .f32) (b : Fin 32) (h : Fin 8) (R : Fin 2048) :
    (rMax s (ix3 b h R) : EReal) = max ⊥ (Finset.univ.fold max ⊥ fun x : Fin 2048 => (s (ix4 b h R x) : EReal)) := by
  rw [← Soft.lit_bot]
  unfold rMax
  rw [maximumf_apply, fold_row]
  rfl

theorem rCols_at (x : FVec Ideal S32x8x2048 .f32) (b : Fin 32) (h : Fin 8) (R C : Fin 2048) : (rCols x (ix4 b h R C) : EReal) = x (ix3 b h R) := by
  unfold rCols
  pointwise

theorem rSum_at (e : FVec Ideal S32x8x2048x2048 .f32) (b : Fin 32) (h : Fin 8) (R : Fin 2048) : (rSum e (ix3 b h R) : EReal) = ∑ x : Fin 2048, (e (ix4 b h R x) : EReal) := by
  unfold rSum
  pointwise

theorem rOut_at (a4 : FVec Ideal S32x2048x8x64 .f32) (w : FVec Ideal S32x8x2048x2048 .f32) (b : Fin 32) (R : Fin 2048) (n : Fin 512) :
    (rOut a4 w (ix3 b R n) : EReal) = ∑ x : Fin 2048, (a4 (ix4 b x ⟨n.val / 64, by omega⟩ ⟨n.val % 64, by omega⟩) : EReal) * w (ix4 b ⟨n.val / 64, by omega⟩ R x) := by
  unfold rOut
  pointwise

theorem rExp_at (s : FVec Ideal S32x8x2048x2048 .f32) (b : Fin 32) (h : Fin 8) (R C : Fin 2048) :
    (rExp s (rCols (rMax s)) (ix4 b h R C) : EReal) = Ideal.exp ((s (ix4 b h R C) : EReal) - max ⊥ (Finset.univ.fold max ⊥ fun x : Fin 2048 => (s (ix4 b h R x) : EReal))) :=
  congrArg (fun z : EReal => Ideal.exp ((s (ix4 b h R C) : EReal) - z)) ((rCols_at _ b h R C).trans (rMax_at s b h R))

theorem rWts_at (s : FVec Ideal S32x8x2048x2048 .f32) (S : Fin 2048 → EReal) (b : Fin 32) (h : Fin 8) (R C : Fin 2048) (hS : ∀ x, (s (ix4 b h R x) : EReal) = S x) :
    (rWts s (ix4 b h R C) : EReal) = Ideal.div (Ideal.exp (S C - max ⊥ (Finset.univ.fold max ⊥ S))) (∑ x, Ideal.exp (S x - max ⊥ (Finset.univ.fold max ⊥ S))) := by
  obtain rfl : _ = S := funext hS
  exact congrArg₂ (fun y z : EReal => Ideal.div y z) (rExp_at s b h R C) ((rCols_at _ b h R C).trans ((rSum_at _ b h R).trans (Finset.sum_congr rfl fun x _ => rExp_at s b h R x)))

/-- The reference's result at an index. -/
theorem ref_at (a0 : FVec Ideal S32x2048x8x64 .f32) (a1 : FVec Ideal S32x2048x8x32 .f32) (a2 : FVec Ideal S32x2048x8x64 .f32) (a3 : FVec Ideal S32x2048x32 .f32)
    (a4 : FVec Ideal S32x2048x8x64 .f32) (b : Fin 32) (R : Fin 2048) (n : Fin 512) :
    (rAll a0 a1 a2 a3 a4 (ix3 b R n) : EReal) = Soft.meanE (fun x => a4 (ix4 b x ⟨n.val / 64, by omega⟩ ⟨n.val % 64, by omega⟩))
      (sc (fun y => a0 (ix4 b R ⟨n.val / 64, by omega⟩ y)) (fun y => a1 (ix4 b R ⟨n.val / 64, by omega⟩ y)) (fun x y => a2 (ix4 b x ⟨n.val / 64, by omega⟩ y)) (fun x y => a3 (ix3 b x y)) R) :=
  (rOut_at a4 _ b R n).trans (Finset.sum_congr rfl fun x _ =>
    congrArg (fun z : EReal => (a4 (ix4 b x ⟨n.val / 64, by omega⟩ ⟨n.val % 64, by omega⟩) : EReal) * z) (rWts_at _ _ b _ R x fun y => rScores_at a0 a1 a2 a3 b _ R y))

theorem res_eq (m : (ℓ : Loc nD τ sig) → Buf (Elt Ideal) ℓ) (c : Dev nD) : Value.res_main_v29 m c = rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v29 rAll rWts rExp rSum rCols rMax rOut rScores
  rfl

end Cert.Proof.ReferenceIdeal
-- ==== Proof.Equal.lean ====
module

public import proofs.«01_k».proof.Proof.Pack
public import proofs.«01_k».proof.Proof.Scores

@[expose] public section

noncomputable section

namespace Cert.Proof.KernelIdeal

open Cert.KernelIdeal Cert.KernelIdeal.Gen
open Idealize.ShloMosaic Idealize.ShloMosaic.TcCoe

/-! ## The kernel's array is the reference's, of real queries and keys -/

section Real

variable (m : (ℓ : Loc nD τ sig) → Buf (Elt Ideal) ℓ) (c : Dev nD)
variable {A0 : Fin 32 → Fin 2048 → Fin 8 → Fin 64 → ℝ} {A1 : Fin 32 → Fin 2048 → Fin 8 → Fin 32 → ℝ} {A2 : Fin 32 → Fin 2048 → Fin 8 → Fin 64 → ℝ} {A3 : Fin 32 → Fin 2048 → Fin 32 → ℝ}
variable (h0 : ∀ b R h d, (m (c, Proc.tc.devRef main_arg0) (ix4 b R h d) : EReal) = (A0 b R h d : EReal)) (h1 : ∀ b R h d, (m (c, Proc.tc.devRef main_arg1) (ix4 b R h d) : EReal) = (A1 b R h d : EReal))
variable (h2 : ∀ b R h d, (m (c, Proc.tc.devRef main_arg2) (ix4 b R h d) : EReal) = (A2 b R h d : EReal)) (h3 : ∀ b R d, (m (c, Proc.tc.devRef main_arg3) (ix3 b R d) : EReal) = (A3 b R d : EReal))

include h0 h1 h2 h3

theorem dot_eq (b : Fin 32) (h : Fin 8) (R C : Fin 2048) :
    dot (fun y => V m c main_v12 (ix3 b (y 1) (y 2))) (fun y => V m c main_v14 (ix3 b (y 1) (y 2))) h R C = ((Soft.score (A0 b R h) (A2 b C h) (A1 b R h) (A3 b C) / Real.log 2 : ℝ) : EReal) := by
  unfold dot
  refine (Finset.sum_congr rfl fun d _ => ?_).trans (Soft.score_packed _ _ _ _)
  refine congrArg₂ (fun y z : EReal => y * z) ((q_at m c b R _ h d rfl).trans ?_) ((k_at m c b C _ h d rfl).trans ?_)
  · exact congrArg₂ (fun f g => Soft.packed f g d * Soft.scl) (funext fun x => h0 b R h x) (funext fun x => h1 b R h x)
  · exact congrArg₂ (fun f g => Soft.packed f g d) (funext fun x => h2 b C h x) (funext fun x => h3 b C x)

theorem fine_eq (t : Fin cfg0.N) : Fine (iblk m c 0 t) (iblk m c 1 t) := by
  rw [iblk0_eq, iblk1_eq]
  exact fun h R C => ⟨_, dot_eq m c h0 h1 h2 h3 (batchOf t) h R C⟩

theorem lg_eq (b : Fin 32) (h : Fin 8) (R C : Fin 2048) :
    lg (fun y => V m c main_v12 (ix3 b (y 1) (y 2))) (fun y => V m c main_v14 (ix3 b (y 1) (y 2))) h R C =
      Soft.masked (fun C : Fin 2048 => C.val ≤ R.val) (fun C => Soft.score (A0 b R h) (A2 b C h) (A1 b R h) (A3 b C) / Real.log 2) C := by
  unfold lg Soft.masked
  rw [dot_eq m c h0 h1 h2 h3]
  split
  · exact add_zero _
  · exact EReal.add_bot _

theorem sc_eq (b : Fin 32) (h : Fin 8) (R C : Fin 2048) :
    ReferenceIdeal.sc (fun y => m (c, Proc.tc.devRef main_arg0) (ix4 b R h y)) (fun y => m (c, Proc.tc.devRef main_arg1) (ix4 b R h y)) (fun x y => m (c, Proc.tc.devRef main_arg2) (ix4 b x h y))
      (fun x y => m (c, Proc.tc.devRef main_arg3) (ix3 b x y)) R C = Soft.masked (fun C : Fin 2048 => C.val ≤ R.val) (fun C => Soft.score (A0 b R h) (A2 b C h) (A1 b R h) (A3 b C)) C := by
  unfold ReferenceIdeal.sc Soft.masked
  refine if_congr Iff.rfl ((congrArg (fun z : EReal => z * Soft.scr) (congrArg₂ (fun y z : EReal => y + z) ?_ ?_)).trans (Soft.score_ref _ _ _ _)) rfl
  · exact Finset.sum_congr rfl fun x _ => congrArg₂ (fun y z : EReal => y * z) (h0 b R h x) (h2 b C h x)
  · exact Finset.sum_congr rfl fun x _ => congrArg₂ (fun y z : EReal => y * z) (h3 b C x) (h1 b R h x)

theorem out_eq (b : Fin 32) (h : Fin 8) (R : Fin 2048) (e : Fin 64) :
    outAt (fun y => V m c main_v12 (ix3 b (y 1) (y 2))) (fun y => V m c main_v14 (ix3 b (y 1) (y 2))) (fun y => V m c main_v16 (ix3 b (y 1) (y 2))) h R e =
      Soft.meanE (fun x => m (c, Proc.tc.devRef main_arg4) (ix4 b x h e))
        (ReferenceIdeal.sc (fun y => m (c, Proc.tc.devRef main_arg0) (ix4 b R h y)) (fun y => m (c, Proc.tc.devRef main_arg1) (ix4 b R h y)) (fun x y => m (c, Proc.tc.devRef main_arg2) (ix4 b x h y))
          (fun x y => m (c, Proc.tc.devRef main_arg3) (ix3 b x y)) R) := by
  have hv : vals (fun y => V m c main_v16 (ix3 b (y 1) (y 2))) h e = fun x : Fin 2048 => (m (c, Proc.tc.devRef main_arg4) (ix4 b x h e) : EReal) := funext fun C => by
    refine (v_at m c b C _).trans (congrArg₂ (fun y z => (m (c, Proc.tc.devRef main_arg4) (ix4 b C y z) : EReal)) (Fin.ext ?_) (Fin.ext ?_))
    · show (64 * h.val + e.val) / 64 = h.val
      omega
    · show (64 * h.val + e.val) % 64 = e.val
      omega
  unfold outAt
  rw [funext (sc_eq m c h0 h1 h2 h3 b h R), hv]
  simp only [lg_eq m c h0 h1 h2 h3 b h R]
  exact (Soft.row_eq (fun C : Fin 2048 => C.val ≤ R.val) (fun C => Soft.score (A0 b R h) (A2 b C h) (A1 b R h) (A3 b C)) _ 0 (Nat.zero_le _)).symm

end Real

end Cert.Proof.KernelIdeal
-- ==== Proof.Algebraic.lean ====
module

public import proofs.«01_k».proof.Defs
public import proofs.«01_k».proof.Proof.Entries
public import proofs.«01_k».proof.Proof.Equal

@[expose] public section

noncomputable section

namespace Cert.Pre_finite_queries_and_keys

/-- The shapes the precondition's operations take. -/
theorem facts : Facts where
  bcast_S32x2048x32_S32x2048x1x32_0_1_3 := by decide
  bcast_S32x2048x1x32_S32x2048x8x32_0_1_2_3 := by decide
  concatenates_S32x2048x8x64_S32x2048x8x32_S32x2048x8x64_S32x2048x8x32_S32x2048x8x192_d3 := by decide
  bcast_S_S32x2048x8x192 := by decide

end Cert.Pre_finite_queries_and_keys

namespace Cert.Proof

open Cert.KernelIdeal Cert.KernelIdeal.Gen
open Idealize.ShloMosaic Idealize.ShloMosaic.TcCoe Idealize.SL.Sem

theorem arr_eq (m : (ℓ : Loc nD τ sig) → Buf (Elt Ideal) ℓ) (c : Dev nD) [Cert.Pre_finite_queries_and_keys.Facts]
    (h : Cert.Pre_finite_queries_and_keys.fn (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) = fun _ => 1#1) :
    (∀ t : Fin cfg0.N, KernelIdeal.Fine (iblk m c 0 t) (iblk m c 1 t)) ∧
      KernelIdeal.arrOut (V m c main_v12) (V m c main_v14) (V m c main_v16) =
        ReferenceIdeal.rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  choose A0 h0 using Soft.pre0 h
  choose A1 h1 using Soft.pre1 h
  choose A2 h2 using Soft.pre2 h
  choose A3 h3 using Soft.pre3 h
  refine ⟨KernelIdeal.fine_eq m c h0 h1 h2 h3, funext fun i => ?_⟩
  obtain ⟨b, R, n, rfl⟩ : ∃ (b : Fin 32) (R : Fin 2048) (n : Fin 512), i = ix3 b R n := ⟨i 0, i 1, i 2, eq_ix3 i⟩
  exact (KernelIdeal.out_eq m c h0 h1 h2 h3 b (KernelIdeal.headOf n) R (KernelIdeal.laneOf n)).trans (ReferenceIdeal.ref_at _ _ _ _ _ b R n).symm

theorem ref_congr {a0 b0 : FVec Ideal Cert.ReferenceIdeal.S32x2048x8x64 .f32} {a1 b1 : FVec Ideal Cert.ReferenceIdeal.S32x2048x8x32 .f32} {a2 b2 : FVec Ideal Cert.ReferenceIdeal.S32x2048x8x64 .f32}
    {a3 b3 : FVec Ideal Cert.ReferenceIdeal.S32x2048x32 .f32} {a4 b4 : FVec Ideal Cert.ReferenceIdeal.S32x2048x8x64 .f32} (e0 : a0 = b0) (e1 : a1 = b1) (e2 : a2 = b2) (e3 : a3 = b3) (e4 : a4 = b4) :
    ReferenceIdeal.rAll a0 a1 a2 a3 a4 = ReferenceIdeal.rAll b0 b1 b2 b3 b4 := by
  subst e0 e1 e2 e3 e4
  rfl

/-- From equal arguments, queries and keys real, both end with one array. -/
theorem algebraic [Cert.Pre_finite_queries_and_keys.Facts] : Cert.algebraic_KernelIdeal_ReferenceIdeal_pre_finite_queries_and_keys := by
  intro m g m' g' hP hA
  refine ⟨fun c => KernelIdeal.arrOut (V m c main_v12) (V m c main_v14) (V m c main_v16), ?_, ?_⟩
  · exact KernelIdeal.value_run m g fun c => (arr_eq m c (hP c)).1
  · refine (θ_run Cert.ReferenceIdeal.defs _ _).mono (fun r h c => ?_) (Cert.ReferenceIdeal.Value.run (F := Ideal) m' g')
    obtain ⟨e0, e1, e2, e3, e4⟩ := hA c
    refine ⟨((h c).1.trans (ReferenceIdeal.res_eq m' c)).trans ((ref_congr e0 e1 e2 e3 e4).trans (arr_eq m c (hP c)).2.symm), (h c).2⟩

end Cert.Proof
-- ==== Proof.TailMath.lean ====
module

public import Idealize.ShloMosaic.Lib.Pointwise

@[expose] public section

noncomputable section

namespace Cert.Tail

open Idealize.ShloMosaic

/-! ## A layer's tail, one row at a time -/

/-- The factor of the residual stream. -/
def alpha : EReal := Ideal.ofBits .f32 0x3FD744FD#32

/-- The mean of a row. -/
def mean (z : Fin 1024 → EReal) : EReal := Ideal.div (∑ x, z x) (Ideal.ofBits .f32 0x44800000#32)

/-- A row's norm, with its gain and its shift. -/
def norm (z g b : Fin 1024 → EReal) (n : Fin 1024) : EReal :=
  (z n - mean z) * Ideal.rsqrt (mean (fun x => (z x - mean z) * (z x - mean z)) + Ideal.ofBits .f32 0x3727C5AC#32) * g n + b n

/-- The residual stream and the attentions' projections. -/
def mix (o p : Fin 512 → EReal) (w u : Fin 512 → Fin 1024 → EReal) (x : Fin 1024 → EReal) (n : Fin 1024) : EReal :=
  alpha * x n + (∑ k, o k * w k n + ∑ k, p k * u k n)

/-- A hidden unit: the square of the positive part. -/
def unit (y : Fin 1024 → EReal) (w : Fin 1024 → EReal) : EReal := max (∑ k, y k * w k) 0 * max (∑ k, y k * w k) 0

/-- The residual stream and the feed-forward part. -/
def feed (y : Fin 1024 → EReal) (wu : Fin 1024 → Fin 4096 → EReal) (wd : Fin 4096 → Fin 1024 → EReal) (n : Fin 1024) : EReal :=
  alpha * y n + ∑ f, unit y (fun k => wu k f) * wd f n

/-- The residual stream and the gated embedding of the layer. -/
def gated (y : Fin 1024 → EReal) (wg : Fin 1024 → Fin 1024 → EReal) (bg : Fin 1024 → EReal) (p : Fin 256 → EReal) (wp : Fin 256 → Fin 1024 → EReal) (n : Fin 1024) : EReal :=
  y n + Ideal.logistic (∑ k, y k * wg k n + bg n) * ∑ k, p k * wp k n

/-- The whole tail of a row. -/
def tail (o p : Fin 512 → EReal) (w u : Fin 512 → Fin 1024 → EReal) (x g b : Fin 1024 → EReal) (wu : Fin 1024 → Fin 4096 → EReal) (wd : Fin 4096 → Fin 1024 → EReal)
    (g' b' : Fin 1024 → EReal) (wg : Fin 1024 → Fin 1024 → EReal) (bg : Fin 1024 → EReal) (e : Fin 256 → EReal) (wp : Fin 256 → Fin 1024 → EReal) (n : Fin 1024) : EReal :=
  gated (norm (feed (norm (mix o p w u x) g b) wu wd) g' b') wg bg e wp n

/-- The residual stream and the projection of one attention. -/
def mixOne (o : Fin 1024 → EReal) (w : Fin 1024 → Fin 1024 → EReal) (x : Fin 1024 → EReal) (n : Fin 1024) : EReal := alpha * x n + ∑ k, o k * w k n

/-- The whole tail of a row, after one attention. -/
def tailOne (o : Fin 1024 → EReal) (w : Fin 1024 → Fin 1024 → EReal) (x g b : Fin 1024 → EReal) (wu : Fin 1024 → Fin 4096 → EReal) (wd : Fin 4096 → Fin 1024 → EReal)
    (g' b' : Fin 1024 → EReal) (wg : Fin 1024 → Fin 1024 → EReal) (bg : Fin 1024 → EReal) (e : Fin 256 → EReal) (wp : Fin 256 → Fin 1024 → EReal) (n : Fin 1024) : EReal :=
  gated (norm (feed (norm (mixOne o w x) g b) wu wd) g' b') wg bg e wp n

/-- A sum over the hidden units, in four groups. -/
theorem sum_groups (f : Fin 4096 → EReal) :
    ∑ x, f x = (((∑ x : Fin 1024, f ⟨x.val, by omega⟩) + ∑ x : Fin 1024, f ⟨1024 + x.val, by omega⟩) + ∑ x : Fin 1024, f ⟨2048 + x.val, by omega⟩) + ∑ x : Fin 1024, f ⟨3072 + x.val, by omega⟩ := by
  have h1 := Fin.sum_univ_add (a := 3072) (b := 1024) f
  have h2 := Fin.sum_univ_add (a := 2048) (b := 1024) fun x => f (Fin.castAdd 1024 x)
  have h3 := Fin.sum_univ_add (a := 1024) (b := 1024) fun x => f (Fin.castAdd 1024 (Fin.castAdd 1024 x))
  exact h1.trans (congrArg (· + _) (h2.trans (congrArg (· + _) h3)))

/-- A sum over both attentions' columns. -/
theorem sum_halves (f : Fin 1024 → EReal) : ∑ x, f x = (∑ x : Fin 512, f ⟨x.val, by omega⟩) + ∑ x : Fin 512, f ⟨512 + x.val, by omega⟩ :=
  Fin.sum_univ_add (a := 512) (b := 512) f

end Cert.Tail
-- ==== Proof.TailPay.lean ====
module

public import proofs.«01_k».proof.Proof.Gen.Kernel2Ideal.Skeleton
public import proofs.«01_k».proof.Proof.TailMath
public import Idealize.ShloMosaic.Lib.Pointwise

@[expose] public section

set_option maxRecDepth 16384

noncomputable section

namespace Cert.Tail

open Cert.Kernel2Ideal Cert.Kernel2Ideal.Gen
open Idealize.ShloMosaic Idealize.ShloMosaic.TcCoe

/-! ## The payloads of a row group, at an index -/

theorem mix_at (o : Vec Ideal S256x512 .bf16) (w : Vec Ideal S512x1024 .bf16) (p : Vec Ideal S256x512 .bf16) (u : Vec Ideal S512x1024 .bf16) (x : Vec Ideal S256x1024 .f32) (r : Fin 256) (n : Fin 1024) :
    (k0_pay3 o w p u x (ix2 r n) : EReal) = mix (fun k => o (ix2 r k)) (fun k => p (ix2 r k)) (fun k n => w (ix2 k n)) (fun k n => u (ix2 k n)) (fun n => x (ix2 r n)) n := by
  unfold mix alpha
  pointwise [k0_pay3]

theorem norm_at (z : FVec Ideal S256x1024 .f32) (g b : FVec Ideal S1x1024 .f32) (r : Fin 256) (n : Fin 1024) :
    (k0_pay6 z g b (ix2 r n) : EReal) = norm (fun x => z (ix2 r x)) (fun x => g (ix2 0 x)) (fun x => b (ix2 0 x)) n := by
  unfold norm mean
  pointwise [k0_pay6]

theorem norm_at' (o : Vec Ideal S256x512 .bf16) (w : Vec Ideal S512x1024 .bf16) (p : Vec Ideal S256x512 .bf16) (u : Vec Ideal S512x1024 .bf16) (x : Vec Ideal S256x1024 .f32) (g b : FVec Ideal S1x1024 .f32) :
    k0_pay11 g b (k0_pay9 (k0_pay2 o w p u) x) (k0_pay10 (k0_pay2 o w p u) x) = k0_pay6 (k0_pay3 o w p u x) g b := rfl

theorem feed_at (y : FVec Ideal S256x1024 .f32) (u0 d0 u1 d1 u2 d2 u3 d3 : Vec Ideal S1024x1024 .bf16) (r : Fin 256) (n : Fin 1024) :
    (k0_pay14 y (k0_pay12 y) (k0_pay13 y u0 d0 u1 d1 u2 d2) u3 d3 (ix2 r n) : EReal) = alpha * y (ix2 r n) +
      ((((∑ f, unit (fun k => y (ix2 r k)) (fun k => u0 (ix2 k f)) * d0 (ix2 f n)) + ∑ f, unit (fun k => y (ix2 r k)) (fun k => u1 (ix2 k f)) * d1 (ix2 f n))
        + ∑ f, unit (fun k => y (ix2 r k)) (fun k => u2 (ix2 k f)) * d2 (ix2 f n)) + ∑ f, unit (fun k => y (ix2 r k)) (fun k => u3 (ix2 k f)) * d3 (ix2 f n)) := by
  unfold unit alpha
  pointwise [k0_pay14, k0_pay13, k0_pay12]

theorem feed_at' (y : FVec Ideal S256x1024 .f32) (u0 d0 u1 d1 u2 d2 u3 d3 : Vec Ideal S1024x1024 .bf16) :
    k0_pay17 y (k0_pay15 y) (k0_pay16 y u0 d0 u1 d1) u2 d2 u3 d3 = k0_pay14 y (k0_pay12 y) (k0_pay13 y u0 d0 u1 d1 u2 d2) u3 d3 := rfl

/-- The last part of a row group, from its norm. -/
theorem gated_norm (z : FVec Ideal S256x1024 .f32) (g b : FVec Ideal S1x1024 .f32) (wg : Vec Ideal S1024x1024 .bf16) (bg : Vec Ideal S1x1024 .f32) (p : Vec Ideal S1x256x256 .f32) (wp : Vec Ideal S256x1024 .bf16) (r : Fin 256) (n : Fin 1024) :
    (k0_pay22 g b (k0_pay20 z) (k0_pay21 z) wg bg p wp (ix2 r n) : EReal) =
      gated (norm (fun x => z (ix2 r x)) (fun x => g (ix2 0 x)) (fun x => b (ix2 0 x))) (fun k n => wg (ix2 k n)) (fun n => bg (ix2 0 n)) (fun k => p (ix3 0 r k)) (fun k n => wp (ix2 k n)) n := by
  unfold gated norm mean
  pointwise [k0_pay22, k0_pay20, k0_pay21]

theorem gated_norm' (z : FVec Ideal S256x1024 .f32) (g b : FVec Ideal S1x1024 .f32) (wg : Vec Ideal S1024x1024 .bf16) (bg : Vec Ideal S1x1024 .f32) (p : Vec Ideal S1x256x256 .f32) (wp : Vec Ideal S256x1024 .bf16) :
    k0_pay1 g b (k0_pay25 z) (k0_pay26 z) wg bg p wp = k0_pay22 g b (k0_pay20 z) (k0_pay21 z) wg bg p wp := rfl

end Cert.Tail
-- ==== Proof.TailBlock.lean ====
module

public import proofs.«01_k».proof.Proof.Gen.Kernel2Ideal.Value
public import proofs.«01_k».proof.Proof.TailPay
public import Idealize.ShloMosaic.Lib.Claim
public import Idealize.ShloMosaic.Lib.Pointwise
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe

/-! ## What a grid point leaves in its block of the result -/

/-- The feed-forward part of a row group, from the weights' whole blocks. -/
theorem feed_blk (y : FVec Ideal S256x1024 .f32) (wu : Vec Ideal S1024x4096 .bf16) (wd : Vec Ideal S4096x1024 .bf16) (r : Fin 256) (n : Fin 1024) :
    (k0_pay14 y (k0_pay12 y) (k0_pay13 y (View.ld wu r0_6) (View.ld wd r0_7) (View.ld wu r0_8) (View.ld wd r0_9) (View.ld wu r0_10) (View.ld wd r0_11)) (View.ld wu r0_12) (View.ld wd r0_13) (ix2 r n) : EReal) =
      feed (fun x => y (ix2 r x)) (fun k f => wu (ix2 k f)) (fun f n => wd (ix2 f n)) n := by
  rw [feed_at]
  unfold feed
  rw [sum_groups]
  unfold unit
  pointwise

/-- What follows a row group's projection, from the weights' whole blocks. -/
theorem rest_at (wu : Vec Ideal S1024x4096 .bf16) (wd : Vec Ideal S4096x1024 .bf16) (v : FVec Ideal S256x1024 .f32) (g b g' b' : FVec Ideal S1x1024 .f32) (wg : Vec Ideal S1024x1024 .bf16) (bg : Vec Ideal S1x1024 .f32)
    (e : Vec Ideal S1x256x256 .f32) (wp : Vec Ideal S256x1024 .bf16) (y : FVec Ideal S256x1024 .f32) (hy : y = k0_pay6 v g b) (z : FVec Ideal S256x1024 .f32)
    (hz : z = k0_pay14 y (k0_pay12 y) (k0_pay13 y (View.ld wu r0_6) (View.ld wd r0_7) (View.ld wu r0_8) (View.ld wd r0_9) (View.ld wu r0_10) (View.ld wd r0_11)) (View.ld wu r0_12) (View.ld wd r0_13)) (r : Fin 256) (n : Fin 1024) :
    (k0_pay22 g' b' (k0_pay20 z) (k0_pay21 z) wg bg e wp (ix2 r n) : EReal) =
      gated (norm (feed (norm (fun n => v (ix2 r n)) (fun n => g (ix2 0 n)) (fun n => b (ix2 0 n))) (fun k f => wu (ix2 k f)) (fun f n => wd (ix2 f n))) (fun n => g' (ix2 0 n)) (fun n => b' (ix2 0 n)))
        (fun k n => wg (ix2 k n)) (fun n => bg (ix2 0 n)) (fun k => e (ix3 0 r k)) (fun k n => wp (ix2 k n)) n := by
  subst hy hz
  refine (gated_norm _ _ _ _ _ _ _ r n).trans (congrArg (fun y => gated (norm y _ _) _ _ _ _ n) (funext fun n => ?_))
  refine (feed_blk _ _ _ r n).trans (congrArg (fun y => feed y _ _ n) (funext fun n => ?_))
  exact norm_at _ _ _ r n

section Block

variable (x0 x1 : Vec Ideal S512x512 .bf16) (x2 x3 : Vec Ideal S512x1024 .bf16) (x4 : Vec Ideal S512x1024 .f32) (x5 x6 : Vec Ideal S1x1024 .f32) (x7 : Vec Ideal S1024x4096 .bf16) (x8 : Vec Ideal S4096x1024 .bf16)
  (x9 x10 : Vec Ideal S1x1024 .f32) (x11 : Vec Ideal S1024x1024 .bf16) (x12 : Vec Ideal S1x1024 .f32) (x13 : Vec Ideal S1x512x256 .f32) (x14 : Vec Ideal S256x1024 .bf16)

/-- The tail of one row of a block. -/
def rowOf (R : Fin 512) (n : Fin 1024) : EReal :=
  tail (fun k => x0 (ix2 R k)) (fun k => x1 (ix2 R k)) (fun k n => x2 (ix2 k n)) (fun k n => x3 (ix2 k n)) (fun n => x4 (ix2 R n)) (fun n => x5 (ix2 0 n)) (fun n => x6 (ix2 0 n))
    (fun k f => x7 (ix2 k f)) (fun f n => x8 (ix2 f n)) (fun n => x9 (ix2 0 n)) (fun n => x10 (ix2 0 n)) (fun k n => x11 (ix2 k n)) (fun n => x12 (ix2 0 n)) (fun k => x13 (ix3 0 R k)) (fun k n => x14 (ix2 k n)) n

/-- A row group's payload at an index, from its operands' loads. -/
theorem group_at (o p : Vec Ideal S256x512 .bf16) (w u : Vec Ideal S512x1024 .bf16) (x : Vec Ideal S256x1024 .f32) (g b g' b' : FVec Ideal S1x1024 .f32) (wg : Vec Ideal S1024x1024 .bf16) (bg : Vec Ideal S1x1024 .f32)
    (e : Vec Ideal S1x256x256 .f32) (wp : Vec Ideal S256x1024 .bf16) (y : FVec Ideal S256x1024 .f32) (hy : y = k0_pay6 (k0_pay3 o w p u x) g b) (z : FVec Ideal S256x1024 .f32)
    (hz : z = k0_pay14 y (k0_pay12 y) (k0_pay13 y (View.ld x7 r0_6) (View.ld x8 r0_7) (View.ld x7 r0_8) (View.ld x8 r0_9) (View.ld x7 r0_10) (View.ld x8 r0_11)) (View.ld x7 r0_12) (View.ld x8 r0_13)) (r : Fin 256) (n : Fin 1024) :
    (k0_pay22 g' b' (k0_pay20 z) (k0_pay21 z) wg bg e wp (ix2 r n) : EReal) =
      tail (fun k => o (ix2 r k)) (fun k => p (ix2 r k)) (fun k n => w (ix2 k n)) (fun k n => u (ix2 k n)) (fun n => x (ix2 r n)) (fun n => g (ix2 0 n)) (fun n => b (ix2 0 n))
        (fun k f => x7 (ix2 k f)) (fun f n => x8 (ix2 f n)) (fun n => g' (ix2 0 n)) (fun n => b' (ix2 0 n)) (fun k n => wg (ix2 k n)) (fun n => bg (ix2 0 n)) (fun k => e (ix3 0 r k)) (fun k n => wp (ix2 k n)) n := by
  refine (rest_at x7 x8 _ g b g' b' wg bg e wp y hy z hz r n).trans (congrArg (fun y => gated (norm (feed (norm y _ _) _ _) _ _) _ _ _ _ n) (funext fun n => ?_))
  exact mix_at _ _ _ _ _ r n

theorem lo_at (r : Fin 256) (n : Fin 1024) :
    (k0_pay22 (k0_pay18 (View.ld x9 r0_4)) (k0_pay19 (View.ld x10 r0_4)) (k0_pay20 (k0_pay30 x0 x1 x2 x3 x4 x5 x6 x7 x8 x9 x10 x11 x12 x13 x14)) (k0_pay21 (k0_pay30 x0 x1 x2 x3 x4 x5 x6 x7 x8 x9 x10 x11 x12 x13 x14)) (View.ld x11 r0_14) (View.ld x12 r0_4) (View.ld x13 r0_15) (View.ld x14 r0_16) (ix2 r n) : EReal) =
      rowOf x0 x1 x2 x3 x4 x5 x6 x7 x8 x9 x10 x11 x12 x13 x14 ⟨r.val, by omega⟩ n := by
  refine (group_at x7 x8 (View.ld x0 r0_0) (View.ld x1 r0_0) (View.ld x2 r0_1) (View.ld x3 r0_1) (View.ld x4 r0_3) (k0_pay4 (View.ld x5 r0_4)) (k0_pay5 (View.ld x6 r0_4)) _ _ _ _ _ _ (k0_pay28 x0 x1 x2 x3 x4 x5 x6 x7 x8 x9 x10 x11 x12 x13 x14) rfl _ rfl r n).trans ?_
  unfold rowOf
  pointwise [k0_pay4, k0_pay5, k0_pay18, k0_pay19]

theorem hi_at (r : Fin 256) (n : Fin 1024) :
    (k0_pay1 (k0_pay23 (View.ld x9 r0_4)) (k0_pay24 (View.ld x10 r0_4)) (k0_pay25 (k0_pay31 x0 x1 x2 x3 x4 x5 x6 x7 x8 x9 x10 x11 x12 x13 x14)) (k0_pay26 (k0_pay31 x0 x1 x2 x3 x4 x5 x6 x7 x8 x9 x10 x11 x12 x13 x14)) (View.ld x11 r0_14) (View.ld x12 r0_4) (View.ld x13 r0_17) (View.ld x14 r0_16) (ix2 r n) : EReal) =
      rowOf x0 x1 x2 x3 x4 x5 x6 x7 x8 x9 x10 x11 x12 x13 x14 ⟨256 + r.val, by omega⟩ n := by
  rw [gated_norm']
  refine (group_at x7 x8 (View.ld x0 r0_2) (View.ld x1 r0_2) (View.ld x2 r0_1) (View.ld x3 r0_1) (View.ld x4 r0_5) (k0_pay7 (View.ld x5 r0_4)) (k0_pay8 (View.ld x6 r0_4)) _ _ _ _ _ _ (k0_pay29 x0 x1 x2 x3 x4 x5 x6 x7 x8 x9 x10 x11 x12 x13 x14) (norm_at' _ _ _ _ _ _ _) _ (feed_at' _ _ _ _ _ _ _ _ _) r n).trans ?_
  unfold rowOf
  pointwise [k0_pay7, k0_pay8, k0_pay23, k0_pay24]

/-- Every row of the block holds its tail. -/
theorem block_at (R : Fin 512) (n : Fin 1024) : (out0_15 x0 x1 x2 x3 x4 x5 x6 x7 x8 x9 x10 x11 x12 x13 x14 (ix2 R n) : EReal) = rowOf x0 x1 x2 x3 x4 x5 x6 x7 x8 x9 x10 x11 x12 x13 x14 R n := by
  unfold out0_15
  canon_tiles z h
  · idx_vars z
    obtain rfl : R = ⟨256 + z0.val, by clear h0; omega⟩ := Fin.ext h0
    obtain rfl : n = z1 := Fin.ext h1
    exact hi_at x0 x1 x2 x3 x4 x5 x6 x7 x8 x9 x10 x11 x12 x13 x14 z0 n
  · idx_vars z
    obtain rfl : R = ⟨z0.val, by clear h0; omega⟩ := Fin.ext h0
    obtain rfl : n = z1 := Fin.ext h1
    exact lo_at x0 x1 x2 x3 x4 x5 x6 x7 x8 x9 x10 x11 x12 x13 x14 z0 n

end Block

end Cert.Tail
-- ==== Proof.TailRef.lean ====
module

public import proofs.«01_k».proof.Proof.Gen.Reference2Ideal.Run
public import proofs.«01_k».proof.Proof.TailMath
public import Idealize.ShloMosaic.Lib.Pointwise

@[expose] public section

set_option maxRecDepth 16384

noncomputable section

namespace Cert.Tail

open Cert.Reference2Ideal Cert.Reference2Ideal.Gen Cert.Reference2Ideal.Value
open Idealize.ShloMosaic Idealize.ShloMosaic.TcCoe Idealize.ShloMosaic.StableHlo

/-! ## The reference's stages, at an index -/

/-- The residual stream and the attentions' projection. -/
def rMix (o p : FVec Ideal S32x2048x512 .bf16) (w : FVec Ideal S1024x1024 .f32) (x : FVec Ideal S32x2048x1024 .f32) : FVec Ideal S32x2048x1024 .f32 :=
  addf (mulf (broadcastInDim S32x2048x1024 ![] bcast_S_S32x2048x1024 (constant S_ .f32 0x3FD744FD#32)) x) (Host.dotGeneral dot_S32x2048x1024_S1024x1024_S32x2048x1024_2_0_01_1_n_n none (extf .f32 (concatenate S32x2048x1024 2 [⟨S32x2048x512, o⟩, ⟨S32x2048x512, p⟩] concatenates_S32x2048x512_S32x2048x512_S32x2048x1024_d2) bitsLt_bf16_f32) w)

/-- The mean of every row. -/
def rMean (z : FVec Ideal S32x2048x1024 .f32) : FVec Ideal S32x2048x1 .f32 :=
  Host.divf (broadcastInDim S32x2048x1 ![0, 1] bcast_S32x2048_S32x2048x1_0_1 (Host.reduceAdd z (constant S_ .f32 0x00000000#32) reducesTo_S32x2048x1024_S32x2048_d2 h_S_)) (broadcastInDim S32x2048x1 ![] bcast_S_S32x2048x1 (constant S_ .f32 0x44800000#32))

/-- Every row less its mean. -/
def rDev (z : FVec Ideal S32x2048x1024 .f32) : FVec Ideal S32x2048x1024 .f32 :=
  subf z (broadcastInDim S32x2048x1024 ![0, 1, 2] bcast_S32x2048x1_S32x2048x1024_0_1_2 (rMean z))

/-- The norm of every row. -/
def rNorm (z : FVec Ideal S32x2048x1024 .f32) (g b : FVec Ideal S1024 .f32) : FVec Ideal S32x2048x1024 .f32 :=
  addf (mulf (mulf (rDev z) (broadcastInDim S32x2048x1024 ![0, 1, 2] bcast_S32x2048x1_S32x2048x1024_0_1_2 (Host.rsqrt (addf (rMean (mulf (rDev z) (rDev z))) (broadcastInDim S32x2048x1 ![] bcast_S_S32x2048x1 (constant S_ .f32 0x3727C5AC#32))))))
    (broadcastInDim S32x2048x1024 ![0, 1, 2] bcast_S1x1x1024_S32x2048x1024_0_1_2 (broadcastInDim S1x1x1024 ![2] bcast_S1024_S1x1x1024_2 g))) (broadcastInDim S32x2048x1024 ![0, 1, 2] bcast_S1x1x1024_S32x2048x1024_0_1_2 (broadcastInDim S1x1x1024 ![2] bcast_S1024_S1x1x1024_2 b))

/-- The positive parts of the hidden units. -/
def rHid (y : FVec Ideal S32x2048x1024 .f32) (wu : FVec Ideal S1024x4096 .f32) : FVec Ideal S32x2048x4096 .f32 :=
  maximumf (Host.dotGeneral dot_S32x2048x1024_S1024x4096_S32x2048x4096_2_0_01_1_n_n none y wu) (broadcastInDim S32x2048x4096 ![] bcast_S_S32x2048x4096 (constant S_ .f32 0x00000000#32))

/-- The residual stream and the feed-forward part. -/
def rFeed (y : FVec Ideal S32x2048x1024 .f32) (wu : FVec Ideal S1024x4096 .f32) (wd : FVec Ideal S4096x1024 .f32) : FVec Ideal S32x2048x1024 .f32 :=
  addf (mulf (broadcastInDim S32x2048x1024 ![] bcast_S_S32x2048x1024 (constant S_ .f32 0x3FD744FD#32)) y) (Host.dotGeneral dot_S32x2048x4096_S4096x1024_S32x2048x1024_2_0_01_1_n_n none (mulf (rHid y wu) (rHid y wu)) wd)

/-- The residual stream and the gated embedding of the layer. -/
def rGated (y : FVec Ideal S32x2048x1024 .f32) (wg : FVec Ideal S1024x1024 .f32) (bg : FVec Ideal S1024 .f32) (e : FVec Ideal S4x32x2048x256 .f32) (wp : FVec Ideal S256x1024 .f32) : FVec Ideal S65536x1024 .f32 :=
  shapeCast _ (addf y (mulf (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (addf (Host.dotGeneral dot_S32x2048x1024_S1024x1024_S32x2048x1024_2_0_01_1_n_n none y wg) (broadcastInDim S32x2048x1024 ![0, 1, 2] bcast_S1x1x1024_S32x2048x1024_0_1_2 (broadcastInDim S1x1x1024 ![2] bcast_S1024_S1x1x1024_2 bg)))))))
    (Host.dotGeneral dot_S32x2048x256_S256x1024_S32x2048x1024_2_0_01_1_n_n none (shapeCast _ (extractStridedSlice S1x32x2048x256 ![0, 0, 0, 0] e slices_S4x32x2048x256_S1x32x2048x256_0_0_0_0) shapeCasts_S1x32x2048x256_S32x2048x256) wp))) shapeCasts_S32x2048x1024_S65536x1024

/-- The reference's result. -/
def rTail (o p : FVec Ideal S32x2048x512 .bf16) (w : FVec Ideal S1024x1024 .f32) (x : FVec Ideal S32x2048x1024 .f32) (g b : FVec Ideal S1024 .f32) (wu : FVec Ideal S1024x4096 .f32) (wd : FVec Ideal S4096x1024 .f32)
    (g' b' : FVec Ideal S1024 .f32) (wg : FVec Ideal S1024x1024 .f32) (bg : FVec Ideal S1024 .f32) (e : FVec Ideal S4x32x2048x256 .f32) (wp : FVec Ideal S256x1024 .f32) : FVec Ideal S65536x1024 .f32 :=
  rGated (rNorm (rFeed (rNorm (rMix o p w x) g b) wu wd) g' b') wg bg e wp

theorem rMix_at (o p : FVec Ideal S32x2048x512 .bf16) (w : FVec Ideal S1024x1024 .f32) (x : FVec Ideal S32x2048x1024 .f32) (a : Fin 32) (R : Fin 2048) (n : Fin 1024) :
    (rMix o p w x (ix3 a R n) : EReal) = mix (fun k => o (ix3 a R k)) (fun k => p (ix3 a R k)) (fun k n => w (ix2 ⟨k.val, by omega⟩ n)) (fun k n => w (ix2 ⟨512 + k.val, by omega⟩ n)) (fun n => x (ix3 a R n)) n := by
  unfold mix alpha
  pointwise [rMix]

theorem rMean_at (z : FVec Ideal S32x2048x1024 .f32) (a : Fin 32) (R : Fin 2048) : (rMean z (ix3 a R 0) : EReal) = mean fun x => z (ix3 a R x) := by
  unfold mean
  pointwise [rMean]

theorem rDev_at (z : FVec Ideal S32x2048x1024 .f32) (a : Fin 32) (R : Fin 2048) (n : Fin 1024) : (rDev z (ix3 a R n) : EReal) = z (ix3 a R n) - mean fun x => z (ix3 a R x) := by
  rw [← rMean_at]
  pointwise [rDev]

theorem rNorm_at (z : FVec Ideal S32x2048x1024 .f32) (g b : FVec Ideal S1024 .f32) (a : Fin 32) (R : Fin 2048) (n : Fin 1024) :
    (rNorm z g b (ix3 a R n) : EReal) = norm (fun x => z (ix3 a R x)) (fun x => g (ix1 x)) (fun x => b (ix1 x)) n := by
  unfold norm mean
  pointwise [rNorm, rMean, rDev]

theorem rFeed_at (y : FVec Ideal S32x2048x1024 .f32) (wu : FVec Ideal S1024x4096 .f32) (wd : FVec Ideal S4096x1024 .f32) (a : Fin 32) (R : Fin 2048) (n : Fin 1024) :
    (rFeed y wu wd (ix3 a R n) : EReal) = feed (fun x => y (ix3 a R x)) (fun k f => wu (ix2 k f)) (fun f n => wd (ix2 f n)) n := by
  unfold feed unit alpha
  pointwise [rFeed, rHid]

theorem rGated_at (y : FVec Ideal S32x2048x1024 .f32) (wg : FVec Ideal S1024x1024 .f32) (bg : FVec Ideal S1024 .f32) (e : FVec Ideal S4x32x2048x256 .f32) (wp : FVec Ideal S256x1024 .f32) (q : Fin 65536) (n : Fin 1024) :
    (rGated y wg bg e wp (ix2 q n) : EReal) = gated (fun x => y (ix3 ⟨q.val / 2048, by omega⟩ ⟨q.val % 2048, by omega⟩ x)) (fun k n => wg (ix2 k n)) (fun n => bg (ix1 n))
      (fun k => e (ix4 0 ⟨q.val / 2048, by omega⟩ ⟨q.val % 2048, by omega⟩ k)) (fun k n => wp (ix2 k n)) n := by
  unfold gated Ideal.logistic
  pointwise [rGated]

/-- The reference's result at an index: the tail of that row. -/
theorem rTail_at (o p : FVec Ideal S32x2048x512 .bf16) (w : FVec Ideal S1024x1024 .f32) (x : FVec Ideal S32x2048x1024 .f32) (g b : FVec Ideal S1024 .f32) (wu : FVec Ideal S1024x4096 .f32) (wd : FVec Ideal S4096x1024 .f32)
    (g' b' : FVec Ideal S1024 .f32) (wg : FVec Ideal S1024x1024 .f32) (bg : FVec Ideal S1024 .f32) (e : FVec Ideal S4x32x2048x256 .f32) (wp : FVec Ideal S256x1024 .f32) (q : Fin 65536) (n : Fin 1024) :
    (rTail o p w x g b wu wd g' b' wg bg e wp (ix2 q n) : EReal) =
      tail (fun k => o (ix3 ⟨q.val / 2048, by omega⟩ ⟨q.val % 2048, by omega⟩ k)) (fun k => p (ix3 ⟨q.val / 2048, by omega⟩ ⟨q.val % 2048, by omega⟩ k))
        (fun k n => w (ix2 ⟨k.val, by omega⟩ n)) (fun k n => w (ix2 ⟨512 + k.val, by omega⟩ n)) (fun n => x (ix3 ⟨q.val / 2048, by omega⟩ ⟨q.val % 2048, by omega⟩ n)) (fun x => g (ix1 x)) (fun x => b (ix1 x))
        (fun k f => wu (ix2 k f)) (fun f n => wd (ix2 f n)) (fun x => g' (ix1 x)) (fun x => b' (ix1 x)) (fun k n => wg (ix2 k n)) (fun n => bg (ix1 n))
        (fun k => e (ix4 0 ⟨q.val / 2048, by omega⟩ ⟨q.val % 2048, by omega⟩ k)) (fun k n => wp (ix2 k n)) n := by
  refine (rGated_at _ _ _ _ _ q n).trans (congrArg (fun y => gated y _ _ _ _ n) (funext fun n => ?_))
  refine (rNorm_at _ _ _ _ _ n).trans (congrArg (fun y => norm y _ _ n) (funext fun n => ?_))
  refine (rFeed_at _ _ _ _ _ n).trans (congrArg (fun y => feed y _ _ n) (funext fun n => ?_))
  refine (rNorm_at _ _ _ _ _ n).trans (congrArg (fun y => norm y _ _ n) (funext fun n => ?_))
  exact rMix_at _ _ _ _ _ _ n

/-- What the reference's run leaves is `rTail` of the arguments. -/
theorem rTail_eq (V : Valuation τ sig (Elt Ideal)) :
    after ops V (Proc.devRef .tc main_v76) = rTail (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  refine ((congrFun (after_ops V) (Proc.devRef .tc main_v76)).trans (val2_main_v76 V)).trans ?_
  unfold rTail rGated rNorm rFeed rHid rDev rMean rMix res_main_v60 res_main_v42 res_main_v40 res_main_v36 res_main_v33 res_main_v29 res_main_v11 res_main_v9 res_main_v5
  rfl

end Cert.Tail
-- ==== Proof.TailArr.lean ====
module

public import proofs.«01_k».proof.Proof.TailBlock
public import proofs.«01_k».proof.Proof.TailRef
public import Idealize.ShloMosaic.Lib.StableHlo.ReadAt

@[expose] public section

set_option maxRecDepth 16384

noncomputable section

namespace Cert.Tail

open Cert.Kernel2Ideal Cert.Kernel2Ideal.Gen
open Idealize.ShloMosaic Idealize.ShloMosaic.TcCoe Idealize.SL.Sem
open Idealize.ShloMosaic.Pipeline (Dat Window)
open Idealize.SL Idealize.SL.RA

variable (m : (ℓ : Loc nD τ sig) → Buf (Elt Ideal) ℓ) (ρ : Dev nD → PrngReg) (c : Dev nD)

/-! ## The operands, as the region finds them -/

/-- Every operand of the region at an index, from the arguments. -/
theorem operands :
    (∀ (q : Fin 65536) (k : Fin 512), (V m c main_v0 (ix2 q k) : EReal) = m (c, Proc.tc.devRef main_arg0) (ix3 ⟨q.val / 2048, by omega⟩ ⟨q.val % 2048, by omega⟩ k))
    ∧ (∀ (q : Fin 65536) (k : Fin 512), (V m c main_v1 (ix2 q k) : EReal) = m (c, Proc.tc.devRef main_arg1) (ix3 ⟨q.val / 2048, by omega⟩ ⟨q.val % 2048, by omega⟩ k))
    ∧ (∀ (k : Fin 512) (n : Fin 1024), (V m c main_v3 (ix2 k n) : EReal) = m (c, Proc.tc.devRef main_arg2) (ix2 ⟨k.val, by omega⟩ n))
    ∧ (∀ (k : Fin 512) (n : Fin 1024), (V m c main_v5 (ix2 k n) : EReal) = m (c, Proc.tc.devRef main_arg2) (ix2 ⟨512 + k.val, by omega⟩ n))
    ∧ (∀ (q : Fin 65536) (n : Fin 1024), (V m c main_v6 (ix2 q n) : EReal) = m (c, Proc.tc.devRef main_arg3) (ix3 ⟨q.val / 2048, by omega⟩ ⟨q.val % 2048, by omega⟩ n))
    ∧ (∀ (n : Fin 1024), (V m c main_v7 (ix2 0 n) : EReal) = m (c, Proc.tc.devRef main_arg4) (ix1 n))
    ∧ (∀ (n : Fin 1024), (V m c main_v8 (ix2 0 n) : EReal) = m (c, Proc.tc.devRef main_arg5) (ix1 n))
    ∧ (∀ (k : Fin 1024) (f : Fin 4096), (V m c main_v9 (ix2 k f) : EReal) = m (c, Proc.tc.devRef main_arg6) (ix2 k f))
    ∧ (∀ (f : Fin 4096) (n : Fin 1024), (V m c main_v10 (ix2 f n) : EReal) = m (c, Proc.tc.devRef main_arg7) (ix2 f n))
    ∧ (∀ (n : Fin 1024), (V m c main_v11 (ix2 0 n) : EReal) = m (c, Proc.tc.devRef main_arg8) (ix1 n))
    ∧ (∀ (n : Fin 1024), (V m c main_v12 (ix2 0 n) : EReal) = m (c, Proc.tc.devRef main_arg9) (ix1 n))
    ∧ (∀ (k n : Fin 1024), (V m c main_v13 (ix2 k n) : EReal) = m (c, Proc.tc.devRef main_arg10) (ix2 k n))
    ∧ (∀ (n : Fin 1024), (V m c main_v14 (ix2 0 n) : EReal) = m (c, Proc.tc.devRef main_arg11) (ix1 n))
    ∧ (∀ (q : Fin 65536) (k : Fin 256), (V m c main_v15 (ix3 0 q k) : EReal) = m (c, Proc.tc.devRef main_arg12) (ix4 0 ⟨q.val / 2048, by omega⟩ ⟨q.val % 2048, by omega⟩ k))
    ∧ (∀ (k : Fin 256) (n : Fin 1024), (V m c main_v16 (ix2 k n) : EReal) = m (c, Proc.tc.devRef main_arg13) (ix2 k n)) := by
  refine ⟨?_, ?_, ?_, ?_, ?_, ?_, ?_, ?_, ?_, ?_, ?_, ?_, ?_, ?_, ?_⟩ <;>
  · intros
    unfold V
    after_reads_at

/-! ## The blocks a grid point reads -/

theorem points_eq : cfg0.N = 128 := by decide +kernel

/-- The row of the arrays that row `R` of the grid point `t`'s blocks is. -/
def rowAt (t : Fin cfg0.N) (R : Fin 512) : Fin 65536 := ⟨512 * t.val + R.val, by have h : t.val < 128 := t.isLt.trans_eq points_eq; omega⟩

theorem rowAt_val (t : Fin cfg0.N) (R : Fin 512) : (rowAt t R).val = 512 * t.val + R.val := rfl

/-- The block that each window holds at a grid point. -/
theorem index : ∀ t : Fin cfg0.N,
    win0_0.index t = ![t.val, 0]
    ∧ win0_1.index t = ![t.val, 0]
    ∧ win0_2.index t = ![0, 0]
    ∧ win0_3.index t = ![0, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, t.val, 0]
    ∧ win0_14.index t = ![0, 0]
    ∧ win0_15.index t = ![t.val, 0] := by decide +kernel

set_option maxHeartbeats 2000000 in
/-- Every block a grid point reads, at an index of the block: row `R` of a block of rows is row `q` of its array. -/
theorem reads (t : Fin cfg0.N) (R : Fin 512) (q : Fin 65536) (hq : q.val = 512 * t.val + R.val) :
    (∀ (X : Vec Ideal S65536x512 .bf16) (k : Fin 512), ((cfg0.win 0).blk t).view.read (Elt Ideal) X (ix2 R k : S512x512.Idx) = X (ix2 q k))
    ∧ (∀ (X : Vec Ideal S65536x512 .bf16) (k : Fin 512), ((cfg0.win 1).blk t).view.read (Elt Ideal) X (ix2 R k : S512x512.Idx) = X (ix2 q k))
    ∧ (∀ (X : Vec Ideal S512x1024 .bf16) (k : Fin 512) (n : Fin 1024), ((cfg0.win 2).blk t).view.read (Elt Ideal) X (ix2 k n : S512x1024.Idx) = X (ix2 k n))
    ∧ (∀ (X : Vec Ideal S512x1024 .bf16) (k : Fin 512) (n : Fin 1024), ((cfg0.win 3).blk t).view.read (Elt Ideal) X (ix2 k n : S512x1024.Idx) = X (ix2 k n))
    ∧ (∀ (X : Vec Ideal S65536x1024 .f32) (k : Fin 1024), ((cfg0.win 4).blk t).view.read (Elt Ideal) X (ix2 R k : S512x1024.Idx) = X (ix2 q k))
    ∧ (∀ (X : Vec Ideal S1x1024 .f32) (n : Fin 1024), ((cfg0.win 5).blk t).view.read (Elt Ideal) X (ix2 0 n : S1x1024.Idx) = X (ix2 0 n))
    ∧ (∀ (X : Vec Ideal S1x1024 .f32) (n : Fin 1024), ((cfg0.win 6).blk t).view.read (Elt Ideal) X (ix2 0 n : S1x1024.Idx) = X (ix2 0 n))
    ∧ (∀ (X : Vec Ideal S1024x4096 .bf16) (k : Fin 1024) (n : Fin 4096), ((cfg0.win 7).blk t).view.read (Elt Ideal) X (ix2 k n : S1024x4096.Idx) = X (ix2 k n))
    ∧ (∀ (X : Vec Ideal S4096x1024 .bf16) (k : Fin 4096) (n : Fin 1024), ((cfg0.win 8).blk t).view.read (Elt Ideal) X (ix2 k n : S4096x1024.Idx) = X (ix2 k n))
    ∧ (∀ (X : Vec Ideal S1x1024 .f32) (n : Fin 1024), ((cfg0.win 9).blk t).view.read (Elt Ideal) X (ix2 0 n : S1x1024.Idx) = X (ix2 0 n))
    ∧ (∀ (X : Vec Ideal S1x1024 .f32) (n : Fin 1024), ((cfg0.win 10).blk t).view.read (Elt Ideal) X (ix2 0 n : S1x1024.Idx) = X (ix2 0 n))
    ∧ (∀ (X : Vec Ideal S1024x1024 .bf16) (k : Fin 1024) (n : Fin 1024), ((cfg0.win 11).blk t).view.read (Elt Ideal) X (ix2 k n : S1024x1024.Idx) = X (ix2 k n))
    ∧ (∀ (X : Vec Ideal S1x1024 .f32) (n : Fin 1024), ((cfg0.win 12).blk t).view.read (Elt Ideal) X (ix2 0 n : S1x1024.Idx) = X (ix2 0 n))
    ∧ (∀ (X : Vec Ideal S4x65536x256 .f32) (k : Fin 256), ((cfg0.win 13).blk t).view.read (Elt Ideal) X (ix3 0 R k : S1x512x256.Idx) = X (ix3 0 q k))
    ∧ (∀ (X : Vec Ideal S256x1024 .bf16) (k : Fin 256) (n : Fin 1024), ((cfg0.win 14).blk t).view.read (Elt Ideal) X (ix2 k n : S256x1024.Idx) = X (ix2 k n)) := by
  refine ⟨?_, ?_, ?_, ?_, ?_, ?_, ?_, ?_, ?_, ?_, ?_, ?_, ?_, ?_, ?_⟩ <;>
  · intro X
    intros
    blk_simp
    refine congrArg X ?_
    blk_ext [index t]

theorem emb15 (t : Fin cfg0.N) (R : Fin 512) (q : Fin 65536) (hq : q.val = 512 * t.val + R.val) (y : S512x1024.Idx) (hR : R = y 0) : (win0_15.blk t).view.emb y = (ix2 q (y 1) : S65536x1024.Idx) := by
  subst hR
  blk_ext [index t]

/-! ## The array after the run -/

theorem tail_congr {a0 b0 : Fin 512 → EReal} {a1 b1 : Fin 512 → EReal} {a2 b2 : Fin 512 → Fin 1024 → EReal} {a3 b3 : Fin 512 → Fin 1024 → EReal} {a4 b4 : Fin 1024 → EReal} {a5 b5 : Fin 1024 → EReal} {a6 b6 : Fin 1024 → EReal} {a7 b7 : Fin 1024 → Fin 4096 → EReal} {a8 b8 : Fin 4096 → Fin 1024 → EReal} {a9 b9 : Fin 1024 → EReal} {a10 b10 : Fin 1024 → EReal} {a11 b11 : Fin 1024 → Fin 1024 → EReal} {a12 b12 : Fin 1024 → EReal} {a13 b13 : Fin 256 → EReal} {a14 b14 : Fin 256 → Fin 1024 → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (n : Fin 1024) : tail a0 a1 a2 a3 a4 a5 a6 a7 a8 a9 a10 a11 a12 a13 a14 n = tail b0 b1 b2 b3 b4 b5 b6 b7 b8 b9 b10 b11 b12 b13 b14 n := by
  subst h0 h1 h2 h3 h4 h5 h6 h7 h8 h9 h10 h11 h12 h13 h14
  rfl

/-- The result of the arguments the memory holds. -/
def outArr : FVec Ideal S65536x1024 .f32 :=
  rTail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- Every block a grid point leaves is its rows of the result. -/
theorem point_at (t : Fin cfg0.N) (R : Fin 512) (n : Fin 1024) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 R n) : EReal) = outArr m c (ix2 (rowAt t R) n) := by
  obtain ⟨r0, r1, r2, r3, r4, r5, r6, r7, r8, r9, r10, r11, r12, r13, r14⟩ := reads t R (rowAt t R) (rowAt_val t R)
  obtain ⟨v0, v1, v2, v3, v4, v5, v6, v7, v8, v9, v10, v11, v12, v13, v14⟩ := operands m c
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) R n).trans (Eq.trans ?_ (rTail_at _ _ _ _ _ _ _ _ _ _ _ _ _ _ (rowAt t R) n).symm)
  unfold rowOf
  exact tail_congr
    (funext fun k => (r0 _ k).trans (v0 (rowAt t R) k))
    (funext fun k => (r1 _ k).trans (v1 (rowAt t R) k))
    (funext fun k => funext fun n => (r2 _ k n).trans (v2 k n))
    (funext fun k => funext fun n => (r3 _ k n).trans (v3 k n))
    (funext fun k => (r4 _ k).trans (v4 (rowAt t R) k))
    (funext fun k => (r5 _ k).trans (v5 k))
    (funext fun k => (r6 _ k).trans (v6 k))
    (funext fun k => funext fun n => (r7 _ k n).trans (v7 k n))
    (funext fun k => funext fun n => (r8 _ k n).trans (v8 k n))
    (funext fun k => (r9 _ k).trans (v9 k))
    (funext fun k => (r10 _ k).trans (v10 k))
    (funext fun k => funext fun n => (r11 _ k n).trans (v11 k n))
    (funext fun k => (r12 _ k).trans (v12 k))
    (funext fun k => (r13 _ k).trans (v13 (rowAt t R) k))
    (funext fun k => funext fun n => (r14 _ k n).trans (v14 k n)) n

theorem arr_of_blocks {c : Dev nD} (dat : Dat τ (Elt Ideal) Unit ℕ (UR sig nD τ) ℕ cfg0 c) (G : Vec Ideal S65536x1024 .f32) (B : Fin cfg0.N → Vec Ideal S512x1024 .f32)
    (hB : ∀ t, dat.after 15 t = B t) (hG : ∀ (t : Fin cfg0.N) (y : S512x1024.Idx), B t y = G (ix2 (rowAt t (y 0)) (y 1))) : dat.arrAt 15 cfg0.N = G := by
  refine dat.arrAt_eq_of_covers 15 _ (by decide +kernel) fun t hfl y => ?_
  have e : G (ix2 (rowAt t (y 0)) (y 1)) = G ((win0_15.blk t).view.emb y) := congrArg G (emb15 t _ (rowAt t (y 0)) (rowAt_val t (y 0)) y rfl).symm
  refine Eq.trans ?_ e
  refine Eq.trans ?_ (hG t y)
  rw [hB]
  rfl

attribute [local irreducible] outArr

theorem arr_eq : (dats m 0 c).arrAt 15 cfg0.N = outArr m c := by
  refine arr_of_blocks (dats m 0 c) _ _ (after0_15 m c) fun t y => ?_
  obtain ⟨R, n, rfl⟩ : ∃ (R : Fin 512) (n : Fin 1024), y = (ix2 R n : S512x1024.Idx) := ⟨y 0, y 1, eq_ix2 y⟩
  exact point_at m c t R n

end Cert.Tail
-- ==== Proof.TailAlgebraic.lean ====
module

public import proofs.«01_k».proof.Defs
public import proofs.«01_k».proof.Proof.TailArr

@[expose] public section

noncomputable section

namespace Cert.Tail

open Idealize.ShloMosaic Idealize.ShloMosaic.TcCoe Idealize.SL.Sem

section Arguments

open Cert.Reference2Ideal

theorem rTail_congr {a0 b0 : FVec Ideal S32x2048x512 .bf16} {a1 b1 : FVec Ideal S32x2048x512 .bf16} {a2 b2 : FVec Ideal S1024x1024 .f32} {a3 b3 : FVec Ideal S32x2048x1024 .f32} {a4 b4 : FVec Ideal S1024 .f32} {a5 b5 : FVec Ideal S1024 .f32} {a6 b6 : FVec Ideal S1024x4096 .f32} {a7 b7 : FVec Ideal S4096x1024 .f32} {a8 b8 : FVec Ideal S1024 .f32} {a9 b9 : FVec Ideal S1024 .f32} {a10 b10 : FVec Ideal S1024x1024 .f32} {a11 b11 : FVec Ideal S1024 .f32} {a12 b12 : FVec Ideal S4x32x2048x256 .f32} {a13 b13 : FVec Ideal S256x1024 .f32}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) :
    rTail a0 a1 a2 a3 a4 a5 a6 a7 a8 a9 a10 a11 a12 a13 = rTail b0 b1 b2 b3 b4 b5 b6 b7 b8 b9 b10 b11 b12 b13 := by
  subst e0 e1 e2 e3 e4 e5 e6 e7 e8 e9 e10 e11 e12 e13
  rfl

end Arguments

open Cert.Reference2Ideal in
/-- From equal arguments, both end with one array. -/
theorem algebraic : Cert.algebraic_Kernel2Ideal_Reference2Ideal := by
  intro m g m' g' _ hA
  refine ⟨fun c => outArr m c, ?_, ?_⟩
  · exact (θ_run Cert.Kernel2Ideal.defs _ _).mono (fun r h c => ⟨(h c).1.trans (arr_eq m c), (h c).2⟩) (Cert.Kernel2Ideal.Value.run_blocks (F := Ideal) m g)
  · refine (θ_run Cert.Reference2Ideal.defs _ _).mono (fun r h c => ?_) (Cert.Reference2Ideal.Value.run (F := Ideal) m' g')
    obtain ⟨e0, e1, e2, e3, e4, e5, e6, e7, e8, e9, e10, e11, e12, e13⟩ := hA c
    have k := (h c).1.trans ((congrFun (Value.after_ops (StableHlo.launchContents m' c)) (Proc.devRef .tc main_v76)).trans (Value.val2_main_v76 (StableHlo.launchContents m' c))).symm
    refine ⟨k.trans ((rTail_eq (StableHlo.launchContents m' c)).trans ?_), (h c).2⟩
    unfold outArr
    exact rTail_congr e0 e1 e2 e3 e4 e5 e6 e7 e8 e9 e10 e11 e12 e13

end Cert.Tail
-- ==== Proof.OneBlock.lean ====
module

public import proofs.«01_k».proof.Proof.Gen.Kernel3Ideal.Value
public import proofs.«01_k».proof.Proof.TailBlock

@[expose] public section

set_option maxRecDepth 16384

noncomputable section

namespace Cert.One

open Cert.Kernel3Ideal Cert.Kernel3Ideal.Gen Cert.Tail
open Idealize.ShloMosaic Idealize.ShloMosaic.TcCoe

/-! ## What a grid point leaves in its block of the result, after one attention -/

/-- The residual stream and the projection of a row group. -/
def mixed (o : Vec Ideal S256x1024 .bf16) (w : Vec Ideal S1024x1024 .bf16) (x : Vec Ideal S256x1024 .f32) : FVec Ideal S256x1024 .f32 :=
  addf (mulf (broadcast S256x1024 (Scalar.ofBits .f32 0x3FD744FD#32)) (shapeCast S256x1024 x shapeCasts_S256x1024_S256x1024)) (k0_pay2 o w)

theorem mixed_at (o : Vec Ideal S256x1024 .bf16) (w : Vec Ideal S1024x1024 .bf16) (x : Vec Ideal S256x1024 .f32) (r : Fin 256) (n : Fin 1024) :
    (mixed o w x (ix2 r n) : EReal) = mixOne (fun k => o (ix2 r k)) (fun k n => w (ix2 k n)) (fun n => x (ix2 r n)) n := by
  unfold mixOne alpha
  pointwise [mixed, k0_pay2]

theorem norm_lo (o : Vec Ideal S256x1024 .bf16) (w : Vec Ideal S1024x1024 .bf16) (x : Vec Ideal S256x1024 .f32) (g b : Vec Ideal S1x1024 .f32) :
    k0_pay5 (k0_pay3 b) (k0_pay4 o w x g) = Cert.Kernel2Ideal.Gen.k0_pay6 (mixed o w x) (k0_pay3 g) (k0_pay3 b) := rfl

theorem norm_hi (o : Vec Ideal S256x1024 .bf16) (w : Vec Ideal S1024x1024 .bf16) (x : Vec Ideal S256x1024 .f32) (g b : Vec Ideal S1x1024 .f32) :
    k0_pay6 (k0_pay2 o w) x g b = Cert.Kernel2Ideal.Gen.k0_pay6 (mixed o w x) (k0_pay3 g) (k0_pay3 b) := rfl

theorem feed_lo (s : FVec Ideal S1x1024 .f32) (v : FVec Ideal S256x1024 .f32) (u0 d0 u1 d1 u2 d2 u3 d3 : Vec Ideal S1024x1024 .bf16) :
    k0_pay10 (k0_pay5 s v) (k0_pay7 s v) (k0_pay8 s v u0) (k0_pay9 d0) (constant S256x1024 .f32 0x00000000#32) u1 d1 u2 d2 u3 d3 =
      Cert.Kernel2Ideal.Gen.k0_pay14 (k0_pay5 s v) (Cert.Kernel2Ideal.Gen.k0_pay12 (k0_pay5 s v)) (Cert.Kernel2Ideal.Gen.k0_pay13 (k0_pay5 s v) u0 d0 u1 d1 u2 d2) u3 d3 := rfl

theorem feed_hi (y : FVec Ideal S256x1024 .f32) (u0 d0 u1 d1 u2 d2 u3 d3 : Vec Ideal S1024x1024 .bf16) :
    k0_pay14 y (k0_pay12 (k0_pay11 y) u0 d0 u1 d1 u2 d2) (k0_pay13 (k0_pay11 y) u3) (Scalar.ofBits .f32 0x00000000#32) d3 =
      Cert.Kernel2Ideal.Gen.k0_pay14 y (Cert.Kernel2Ideal.Gen.k0_pay12 y) (Cert.Kernel2Ideal.Gen.k0_pay13 y u0 d0 u1 d1 u2 d2) u3 d3 := rfl

theorem gated_lo (z : FVec Ideal S256x1024 .f32) (g b : Vec Ideal S1x1024 .f32) (wg : Vec Ideal S1024x1024 .bf16) (bg : Vec Ideal S1x1024 .f32) (e : Vec Ideal S1x256x256 .f32) (wp : Vec Ideal S256x1024 .bf16) :
    k0_pay18 (k0_pay15 z g b) (k0_pay16 z g b wg) (k0_pay17 bg) e wp =
      Cert.Kernel2Ideal.Gen.k0_pay22 (k0_pay3 g) (k0_pay3 b) (Cert.Kernel2Ideal.Gen.k0_pay20 z) (Cert.Kernel2Ideal.Gen.k0_pay21 z) wg bg e wp := rfl

theorem gated_hi (z : FVec Ideal S256x1024 .f32) (g b : Vec Ideal S1x1024 .f32) (wg : Vec Ideal S1024x1024 .bf16) (bg : Vec Ideal S1x1024 .f32) (e : Vec Ideal S1x256x256 .f32) (wp : Vec Ideal S256x1024 .bf16) :
    k0_pay1 (k0_pay19 z g b) (k0_pay20 z g b wg) bg e wp =
      Cert.Kernel2Ideal.Gen.k0_pay22 (k0_pay3 g) (k0_pay3 b) (Cert.Kernel2Ideal.Gen.k0_pay20 z) (Cert.Kernel2Ideal.Gen.k0_pay21 z) wg bg e wp := rfl

section Block

variable (x0 : Vec Ideal S512x1024 .bf16) (x1 : Vec Ideal S1024x1024 .bf16) (x2 : Vec Ideal S512x1024 .f32) (x3 x4 : Vec Ideal S1x1024 .f32) (x5 : Vec Ideal S1024x4096 .bf16) (x6 : Vec Ideal S4096x1024 .bf16)
  (x7 x8 : Vec Ideal S1x1024 .f32) (x9 : Vec Ideal S1024x1024 .bf16) (x10 : Vec Ideal S1x1024 .f32) (x11 : Vec Ideal S1x512x256 .f32) (x12 : Vec Ideal S256x1024 .bf16)

/-- The tail of one row of a block. -/
def rowOf (R : Fin 512) (n : Fin 1024) : EReal :=
  tailOne (fun k => x0 (ix2 R k)) (fun k n => x1 (ix2 k n)) (fun n => x2 (ix2 R n)) (fun n => x3 (ix2 0 n)) (fun n => x4 (ix2 0 n))
    (fun k f => x5 (ix2 k f)) (fun f n => x6 (ix2 f n)) (fun n => x7 (ix2 0 n)) (fun n => x8 (ix2 0 n)) (fun k n => x9 (ix2 k n)) (fun n => x10 (ix2 0 n)) (fun k => x11 (ix3 0 R k)) (fun k n => x12 (ix2 k n)) n

/-- A row group's payload at an index, from its operands' loads. -/
theorem group_at (o : Vec Ideal S256x1024 .bf16) (w : Vec Ideal S1024x1024 .bf16) (x : Vec Ideal S256x1024 .f32) (g b g' b' : FVec Ideal S1x1024 .f32) (wg : Vec Ideal S1024x1024 .bf16) (bg : Vec Ideal S1x1024 .f32)
    (e : Vec Ideal S1x256x256 .f32) (wp : Vec Ideal S256x1024 .bf16) (y : FVec Ideal S256x1024 .f32) (hy : y = Cert.Kernel2Ideal.Gen.k0_pay6 (mixed o w x) (k0_pay3 g) (k0_pay3 b)) (z : FVec Ideal S256x1024 .f32)
    (hz : z = Cert.Kernel2Ideal.Gen.k0_pay14 y (Cert.Kernel2Ideal.Gen.k0_pay12 y) (Cert.Kernel2Ideal.Gen.k0_pay13 y (View.ld x5 r0_4) (View.ld x6 r0_5) (View.ld x5 r0_6) (View.ld x6 r0_7) (View.ld x5 r0_8) (View.ld x6 r0_9)) (View.ld x5 r0_10) (View.ld x6 r0_11))
    (r : Fin 256) (n : Fin 1024) :
    (Cert.Kernel2Ideal.Gen.k0_pay22 (k0_pay3 g') (k0_pay3 b') (Cert.Kernel2Ideal.Gen.k0_pay20 z) (Cert.Kernel2Ideal.Gen.k0_pay21 z) wg bg e wp (ix2 r n) : EReal) =
      tailOne (fun k => o (ix2 r k)) (fun k n => w (ix2 k n)) (fun n => x (ix2 r n)) (fun n => g (ix2 0 n)) (fun n => b (ix2 0 n))
        (fun k f => x5 (ix2 k f)) (fun f n => x6 (ix2 f n)) (fun n => g' (ix2 0 n)) (fun n => b' (ix2 0 n)) (fun k n => wg (ix2 k n)) (fun n => bg (ix2 0 n)) (fun k => e (ix3 0 r k)) (fun k n => wp (ix2 k n)) n := by
  have id_at : ∀ (t : FVec Ideal S1x1024 .f32) (n : Fin 1024), ((k0_pay3 (F := Ideal) t : FVec Ideal S1x1024 .f32) (ix2 0 n) : EReal) = t (ix2 0 n) := by
    intro t n
    pointwise [k0_pay3]
  refine (rest_at x5 x6 _ (k0_pay3 g) (k0_pay3 b) (k0_pay3 g') (k0_pay3 b') wg bg e wp y hy z hz r n).trans ?_
  simp only [id_at, mixed_at]
  rfl

theorem lo_at (r : Fin 256) (n : Fin 1024) :
    (k0_pay18 (k0_pay15 (k0_pay24 x0 x1 x2 x3 x4 x5 x6 x7 x8 x9 x10 x11 x12) (View.ld x7 r0_3) (View.ld x8 r0_3)) (k0_pay16 (k0_pay24 x0 x1 x2 x3 x4 x5 x6 x7 x8 x9 x10 x11 x12) (View.ld x7 r0_3) (View.ld x8 r0_3) (View.ld x9 r0_1)) (k0_pay17 (View.ld x10 r0_3)) (View.ld x11 r0_12) (View.ld x12 r0_13) (ix2 r n) : EReal) =
      rowOf x0 x1 x2 x3 x4 x5 x6 x7 x8 x9 x10 x11 x12 ⟨r.val, by omega⟩ n := by
  rw [gated_lo]
  refine (group_at x5 x6 (View.ld x0 r0_0) (View.ld x1 r0_1) (View.ld x2 r0_0) (View.ld x3 r0_3) (View.ld x4 r0_3) _ _ _ _ _ _ _ (norm_lo _ _ _ _ _) _ (feed_lo _ _ _ _ _ _ _ _ _ _) r n).trans ?_
  unfold rowOf
  pointwise

theorem hi_at (r : Fin 256) (n : Fin 1024) :
    (k0_pay1 (k0_pay19 (k0_pay26 x0 x1 x2 x3 x4 x5 x6 x7 x8 x9 x10 x11 x12) (View.ld x7 r0_3) (View.ld x8 r0_3)) (k0_pay20 (k0_pay26 x0 x1 x2 x3 x4 x5 x6 x7 x8 x9 x10 x11 x12) (View.ld x7 r0_3) (View.ld x8 r0_3) (View.ld x9 r0_1)) (View.ld x10 r0_3) (View.ld x11 r0_14) (View.ld x12 r0_13) (ix2 r n) : EReal) =
      rowOf x0 x1 x2 x3 x4 x5 x6 x7 x8 x9 x10 x11 x12 ⟨256 + r.val, by omega⟩ n := by
  rw [gated_hi]
  refine (group_at x5 x6 (View.ld x0 r0_2) (View.ld x1 r0_1) (View.ld x2 r0_2) (View.ld x3 r0_3) (View.ld x4 r0_3) _ _ _ _ _ _ _ (norm_hi _ _ _ _ _) _ (feed_hi _ _ _ _ _ _ _ _ _) r n).trans ?_
  unfold rowOf
  pointwise

/-- Every row of the block holds its tail. -/
theorem block_at (R : Fin 512) (n : Fin 1024) : (out0_13 x0 x1 x2 x3 x4 x5 x6 x7 x8 x9 x10 x11 x12 (ix2 R n) : EReal) = rowOf x0 x1 x2 x3 x4 x5 x6 x7 x8 x9 x10 x11 x12 R n := by
  unfold out0_13
  canon_tiles z h
  · idx_vars z
    obtain rfl : R = ⟨256 + z0.val, by clear h0; omega⟩ := Fin.ext h0
    obtain rfl : n = z1 := Fin.ext h1
    exact hi_at x0 x1 x2 x3 x4 x5 x6 x7 x8 x9 x10 x11 x12 z0 n
  · idx_vars z
    obtain rfl : R = ⟨z0.val, by clear h0; omega⟩ := Fin.ext h0
    obtain rfl : n = z1 := Fin.ext h1
    exact lo_at x0 x1 x2 x3 x4 x5 x6 x7 x8 x9 x10 x11 x12 z0 n

end Block

end Cert.One
-- ==== Proof.OneRef.lean ====
module

public import proofs.«01_k».proof.Proof.Gen.Reference3Ideal.Run
public import proofs.«01_k».proof.Proof.TailRef

@[expose] public section

set_option maxRecDepth 16384

noncomputable section

namespace Cert.One

open Cert.Reference3Ideal Cert.Reference3Ideal.Gen Cert.Reference3Ideal.Value Cert.Tail
open Idealize.ShloMosaic Idealize.ShloMosaic.TcCoe Idealize.ShloMosaic.StableHlo

/-! ## The reference after one attention, at an index -/

/-- The residual stream and the attention's projection. -/
def rMix (o : FVec Ideal S32x2048x1024 .bf16) (w : FVec Ideal S1024x1024 .f32) (x : FVec Ideal S32x2048x1024 .f32) : FVec Ideal S32x2048x1024 .f32 :=
  addf (mulf (broadcastInDim S32x2048x1024 ![] bcast_S_S32x2048x1024 (constant S_ .f32 0x3FD744FD#32)) x) (Host.dotGeneral dot_S32x2048x1024_S1024x1024_S32x2048x1024_2_0_01_1_n_n none (extf .f32 o bitsLt_bf16_f32) w)

/-- The residual stream and the gated embedding of the last layer. -/
def rGated (y : FVec Ideal S32x2048x1024 .f32) (wg : FVec Ideal S1024x1024 .f32) (bg : FVec Ideal S1024 .f32) (e : FVec Ideal S4x32x2048x256 .f32) (wp : FVec Ideal S256x1024 .f32) : FVec Ideal S65536x1024 .f32 :=
  shapeCast _ (addf y (mulf (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (addf (Host.dotGeneral dot_S32x2048x1024_S1024x1024_S32x2048x1024_2_0_01_1_n_n none y wg) (broadcastInDim S32x2048x1024 ![0, 1, 2] bcast_S1x1x1024_S32x2048x1024_0_1_2 (broadcastInDim S1x1x1024 ![2] bcast_S1024_S1x1x1024_2 bg)))))))
    (Host.dotGeneral dot_S32x2048x256_S256x1024_S32x2048x1024_2_0_01_1_n_n none (shapeCast _ (extractStridedSlice S1x32x2048x256 ![3, 0, 0, 0] e slices_S4x32x2048x256_S1x32x2048x256_3_0_0_0) shapeCasts_S1x32x2048x256_S32x2048x256) wp))) shapeCasts_S32x2048x1024_S65536x1024

/-- The reference's result; the stages between are those after two attentions. -/
def rTail (o : FVec Ideal S32x2048x1024 .bf16) (w : FVec Ideal S1024x1024 .f32) (x : FVec Ideal S32x2048x1024 .f32) (g b : FVec Ideal S1024 .f32) (wu : FVec Ideal S1024x4096 .f32) (wd : FVec Ideal S4096x1024 .f32)
    (g' b' : FVec Ideal S1024 .f32) (wg : FVec Ideal S1024x1024 .f32) (bg : FVec Ideal S1024 .f32) (e : FVec Ideal S4x32x2048x256 .f32) (wp : FVec Ideal S256x1024 .f32) : FVec Ideal S65536x1024 .f32 :=
  rGated (rNorm (rFeed (rNorm (rMix o w x) g b) wu wd) g' b') wg bg e wp

theorem rMix_at (o : FVec Ideal S32x2048x1024 .bf16) (w : FVec Ideal S1024x1024 .f32) (x : FVec Ideal S32x2048x1024 .f32) (a : Fin 32) (R : Fin 2048) (n : Fin 1024) :
    (rMix o w x (ix3 a R n) : EReal) = mixOne (fun k => o (ix3 a R k)) (fun k n => w (ix2 k n)) (fun n => x (ix3 a R n)) n := by
  unfold mixOne alpha
  pointwise [rMix]

theorem rGated_at (y : FVec Ideal S32x2048x1024 .f32) (wg : FVec Ideal S1024x1024 .f32) (bg : FVec Ideal S1024 .f32) (e : FVec Ideal S4x32x2048x256 .f32) (wp : FVec Ideal S256x1024 .f32) (q : Fin 65536) (n : Fin 1024) :
    (rGated y wg bg e wp (ix2 q n) : EReal) = gated (fun x => y (ix3 ⟨q.val / 2048, by omega⟩ ⟨q.val % 2048, by omega⟩ x)) (fun k n => wg (ix2 k n)) (fun n => bg (ix1 n))
      (fun k => e (ix4 3 ⟨q.val / 2048, by omega⟩ ⟨q.val % 2048, by omega⟩ k)) (fun k n => wp (ix2 k n)) n := by
  unfold gated Ideal.logistic
  pointwise [rGated]

/-- The reference's result at an index: the tail of that row. -/
theorem rTail_at (o : FVec Ideal S32x2048x1024 .bf16) (w : FVec Ideal S1024x1024 .f32) (x : FVec Ideal S32x2048x1024 .f32) (g b : FVec Ideal S1024 .f32) (wu : FVec Ideal S1024x4096 .f32) (wd : FVec Ideal S4096x1024 .f32)
    (g' b' : FVec Ideal S1024 .f32) (wg : FVec Ideal S1024x1024 .f32) (bg : FVec Ideal S1024 .f32) (e : FVec Ideal S4x32x2048x256 .f32) (wp : FVec Ideal S256x1024 .f32) (q : Fin 65536) (n : Fin 1024) :
    (rTail o w x g b wu wd g' b' wg bg e wp (ix2 q n) : EReal) =
      tailOne (fun k => o (ix3 ⟨q.val / 2048, by omega⟩ ⟨q.val % 2048, by omega⟩ k)) (fun k n => w (ix2 k n))
        (fun n => x (ix3 ⟨q.val / 2048, by omega⟩ ⟨q.val % 2048, by omega⟩ n)) (fun x => g (ix1 x)) (fun x => b (ix1 x))
        (fun k f => wu (ix2 k f)) (fun f n => wd (ix2 f n)) (fun x => g' (ix1 x)) (fun x => b' (ix1 x)) (fun k n => wg (ix2 k n)) (fun n => bg (ix1 n))
        (fun k => e (ix4 3 ⟨q.val / 2048, by omega⟩ ⟨q.val % 2048, by omega⟩ k)) (fun k n => wp (ix2 k n)) n := by
  refine (rGated_at _ _ _ _ _ q n).trans (congrArg (fun y => gated y _ _ _ _ n) (funext fun n => ?_))
  refine (rNorm_at _ _ _ _ _ n).trans (congrArg (fun y => norm y _ _ n) (funext fun n => ?_))
  refine (rFeed_at _ _ _ _ _ n).trans (congrArg (fun y => feed y _ _ n) (funext fun n => ?_))
  refine (rNorm_at _ _ _ _ _ n).trans (congrArg (fun y => norm y _ _ n) (funext fun n => ?_))
  exact rMix_at _ _ _ _ _ n

/-- What the reference's run leaves is `rTail` of the arguments. -/
theorem rTail_eq (V : Valuation τ sig (Elt Ideal)) :
    after ops V (Proc.devRef .tc main_v75) = rTail (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  refine ((congrFun (after_ops V) (Proc.devRef .tc main_v75)).trans (val2_main_v75 V)).trans ?_
  unfold rTail rGated rNorm rFeed rHid rDev rMean rMix res_main_v59 res_main_v41 res_main_v39 res_main_v35 res_main_v32 res_main_v28 res_main_v10 res_main_v8 res_main_v4
  rfl

end Cert.One
-- ==== Proof.OneArr.lean ====
module

public import proofs.«01_k».proof.Proof.OneBlock
public import proofs.«01_k».proof.Proof.OneRef
public import Idealize.ShloMosaic.Lib.StableHlo.ReadAt

@[expose] public section

set_option maxRecDepth 16384

noncomputable section

namespace Cert.One

open Cert.Kernel3Ideal Cert.Kernel3Ideal.Gen
open Cert.Tail (feed norm gated)
open Idealize.ShloMosaic Idealize.ShloMosaic.TcCoe Idealize.SL.Sem
open Idealize.ShloMosaic.Pipeline (Dat Window)
open Idealize.SL Idealize.SL.RA

variable (m : (ℓ : Loc nD τ sig) → Buf (Elt Ideal) ℓ) (ρ : Dev nD → PrngReg) (c : Dev nD)

/-! ## The operands, as the region finds them -/

/-- Every operand of the region at an index, from the arguments. -/
theorem operands :
    (∀ (q : Fin 65536) (n : Fin 1024), (V m c main_v0 (ix2 q n) : EReal) = m (c, Proc.tc.devRef main_arg0) (ix3 ⟨q.val / 2048, by omega⟩ ⟨q.val % 2048, by omega⟩ n))
    ∧ (∀ (k : Fin 1024) (n : Fin 1024), (V m c main_v1 (ix2 k n) : EReal) = m (c, Proc.tc.devRef main_arg1) (ix2 k n))
    ∧ (∀ (q : Fin 65536) (n : Fin 1024), (V m c main_v2 (ix2 q n) : EReal) = m (c, Proc.tc.devRef main_arg2) (ix3 ⟨q.val / 2048, by omega⟩ ⟨q.val % 2048, by omega⟩ n))
    ∧ (∀ (n : Fin 1024), (V m c main_v3 (ix2 0 n) : EReal) = m (c, Proc.tc.devRef main_arg3) (ix1 n))
    ∧ (∀ (n : Fin 1024), (V m c main_v4 (ix2 0 n) : EReal) = m (c, Proc.tc.devRef main_arg4) (ix1 n))
    ∧ (∀ (k : Fin 1024) (n : Fin 4096), (V m c main_v5 (ix2 k n) : EReal) = m (c, Proc.tc.devRef main_arg5) (ix2 k n))
    ∧ (∀ (k : Fin 4096) (n : Fin 1024), (V m c main_v6 (ix2 k n) : EReal) = m (c, Proc.tc.devRef main_arg6) (ix2 k n))
    ∧ (∀ (n : Fin 1024), (V m c main_v7 (ix2 0 n) : EReal) = m (c, Proc.tc.devRef main_arg7) (ix1 n))
    ∧ (∀ (n : Fin 1024), (V m c main_v8 (ix2 0 n) : EReal) = m (c, Proc.tc.devRef main_arg8) (ix1 n))
    ∧ (∀ (k : Fin 1024) (n : Fin 1024), (V m c main_v9 (ix2 k n) : EReal) = m (c, Proc.tc.devRef main_arg9) (ix2 k n))
    ∧ (∀ (n : Fin 1024), (V m c main_v10 (ix2 0 n) : EReal) = m (c, Proc.tc.devRef main_arg10) (ix1 n))
    ∧ (∀ (q : Fin 65536) (k : Fin 256), (V m c main_v11 (ix3 3 q k) : EReal) = m (c, Proc.tc.devRef main_arg11) (ix4 3 ⟨q.val / 2048, by omega⟩ ⟨q.val % 2048, by omega⟩ k))
    ∧ (∀ (k : Fin 256) (n : Fin 1024), (V m c main_v12 (ix2 k n) : EReal) = m (c, Proc.tc.devRef main_arg12) (ix2 k n)) := by
  refine ⟨?_, ?_, ?_, ?_, ?_, ?_, ?_, ?_, ?_, ?_, ?_, ?_, ?_⟩ <;>
  · intros
    unfold V
    after_reads_at

/-! ## The blocks a grid point reads -/

theorem points_eq : cfg0.N = 128 := by decide +kernel

/-- The row of the arrays that row `R` of the grid point `t`'s blocks is. -/
def rowAt (t : Fin cfg0.N) (R : Fin 512) : Fin 65536 := ⟨512 * t.val + R.val, by have h : t.val < 128 := t.isLt.trans_eq points_eq; omega⟩

theorem rowAt_val (t : Fin cfg0.N) (R : Fin 512) : (rowAt t R).val = 512 * t.val + R.val := rfl

/-- The block that each window holds at a grid point. -/
theorem index : ∀ t : Fin cfg0.N,
    win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![3, t.val, 0]
    ∧ win0_12.index t = ![0, 0]
    ∧ win0_13.index t = ![t.val, 0] := by decide +kernel

set_option maxHeartbeats 2000000 in
/-- Every block a grid point reads, at an index of the block: row `R` of a block of rows is row `q` of its array. -/
theorem reads (t : Fin cfg0.N) (R : Fin 512) (q : Fin 65536) (hq : q.val = 512 * t.val + R.val) :
    (∀ (X : Vec Ideal S65536x1024 .bf16) (k : Fin 1024), ((cfg0.win 0).blk t).view.read (Elt Ideal) X (ix2 R k : S512x1024.Idx) = X (ix2 q k))
    ∧ (∀ (X : Vec Ideal S1024x1024 .bf16) (k : Fin 1024) (n : Fin 1024), ((cfg0.win 1).blk t).view.read (Elt Ideal) X (ix2 k n : S1024x1024.Idx) = X (ix2 k n))
    ∧ (∀ (X : Vec Ideal S65536x1024 .f32) (k : Fin 1024), ((cfg0.win 2).blk t).view.read (Elt Ideal) X (ix2 R k : S512x1024.Idx) = X (ix2 q k))
    ∧ (∀ (X : Vec Ideal S1x1024 .f32) (n : Fin 1024), ((cfg0.win 3).blk t).view.read (Elt Ideal) X (ix2 0 n : S1x1024.Idx) = X (ix2 0 n))
    ∧ (∀ (X : Vec Ideal S1x1024 .f32) (n : Fin 1024), ((cfg0.win 4).blk t).view.read (Elt Ideal) X (ix2 0 n : S1x1024.Idx) = X (ix2 0 n))
    ∧ (∀ (X : Vec Ideal S1024x4096 .bf16) (k : Fin 1024) (n : Fin 4096), ((cfg0.win 5).blk t).view.read (Elt Ideal) X (ix2 k n : S1024x4096.Idx) = X (ix2 k n))
    ∧ (∀ (X : Vec Ideal S4096x1024 .bf16) (k : Fin 4096) (n : Fin 1024), ((cfg0.win 6).blk t).view.read (Elt Ideal) X (ix2 k n : S4096x1024.Idx) = X (ix2 k n))
    ∧ (∀ (X : Vec Ideal S1x1024 .f32) (n : Fin 1024), ((cfg0.win 7).blk t).view.read (Elt Ideal) X (ix2 0 n : S1x1024.Idx) = X (ix2 0 n))
    ∧ (∀ (X : Vec Ideal S1x1024 .f32) (n : Fin 1024), ((cfg0.win 8).blk t).view.read (Elt Ideal) X (ix2 0 n : S1x1024.Idx) = X (ix2 0 n))
    ∧ (∀ (X : Vec Ideal S1024x1024 .bf16) (k : Fin 1024) (n : Fin 1024), ((cfg0.win 9).blk t).view.read (Elt Ideal) X (ix2 k n : S1024x1024.Idx) = X (ix2 k n))
    ∧ (∀ (X : Vec Ideal S1x1024 .f32) (n : Fin 1024), ((cfg0.win 10).blk t).view.read (Elt Ideal) X (ix2 0 n : S1x1024.Idx) = X (ix2 0 n))
    ∧ (∀ (X : Vec Ideal S4x65536x256 .f32) (k : Fin 256), ((cfg0.win 11).blk t).view.read (Elt Ideal) X (ix3 0 R k : S1x512x256.Idx) = X (ix3 3 q k))
    ∧ (∀ (X : Vec Ideal S256x1024 .bf16) (k : Fin 256) (n : Fin 1024), ((cfg0.win 12).blk t).view.read (Elt Ideal) X (ix2 k n : S256x1024.Idx) = X (ix2 k n)) := by
  refine ⟨?_, ?_, ?_, ?_, ?_, ?_, ?_, ?_, ?_, ?_, ?_, ?_, ?_⟩ <;>
  · intro X
    intros
    blk_simp
    refine congrArg X ?_
    blk_ext [index t]

theorem emb13 (t : Fin cfg0.N) (R : Fin 512) (q : Fin 65536) (hq : q.val = 512 * t.val + R.val) (y : S512x1024.Idx) (hR : R = y 0) : (win0_13.blk t).view.emb y = (ix2 q (y 1) : S65536x1024.Idx) := by
  subst hR
  blk_ext [index t]

/-! ## The array after the run -/

theorem tail_congr {a0 b0 : Fin 1024 → EReal} {a1 b1 : Fin 1024 → Fin 1024 → EReal} {a2 b2 : Fin 1024 → EReal} {a3 b3 : Fin 1024 → EReal} {a4 b4 : Fin 1024 → EReal} {a5 b5 : Fin 1024 → Fin 4096 → EReal} {a6 b6 : Fin 4096 → Fin 1024 → EReal} {a7 b7 : Fin 1024 → EReal} {a8 b8 : Fin 1024 → EReal} {a9 b9 : Fin 1024 → Fin 1024 → EReal} {a10 b10 : Fin 1024 → EReal} {a11 b11 : Fin 256 → EReal} {a12 b12 : Fin 256 → Fin 1024 → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (n : Fin 1024) : Cert.Tail.tailOne a0 a1 a2 a3 a4 a5 a6 a7 a8 a9 a10 a11 a12 n = Cert.Tail.tailOne b0 b1 b2 b3 b4 b5 b6 b7 b8 b9 b10 b11 b12 n := by
  subst h0 h1 h2 h3 h4 h5 h6 h7 h8 h9 h10 h11 h12
  rfl

/-- The result of the arguments the memory holds. -/
def outArr : FVec Ideal S65536x1024 .f32 :=
  rTail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- Every block a grid point leaves is its rows of the result. -/
theorem point_at (t : Fin cfg0.N) (R : Fin 512) (n : Fin 1024) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R n) : EReal) = outArr m c (ix2 (rowAt t R) n) := by
  obtain ⟨r0, r1, r2, r3, r4, r5, r6, r7, r8, r9, r10, r11, r12⟩ := reads t R (rowAt t R) (rowAt_val t R)
  obtain ⟨v0, v1, v2, v3, v4, v5, v6, v7, v8, v9, v10, v11, v12⟩ := operands m c
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) R n).trans (Eq.trans ?_ (rTail_at _ _ _ _ _ _ _ _ _ _ _ _ _ (rowAt t R) n).symm)
  unfold rowOf
  exact tail_congr
    (funext fun k => (r0 _ k).trans (v0 (rowAt t R) k))
    (funext fun k => funext fun n => (r1 _ k n).trans (v1 k n))
    (funext fun k => (r2 _ k).trans (v2 (rowAt t R) k))
    (funext fun k => (r3 _ k).trans (v3 k))
    (funext fun k => (r4 _ k).trans (v4 k))
    (funext fun k => funext fun n => (r5 _ k n).trans (v5 k n))
    (funext fun k => funext fun n => (r6 _ k n).trans (v6 k n))
    (funext fun k => (r7 _ k).trans (v7 k))
    (funext fun k => (r8 _ k).trans (v8 k))
    (funext fun k => funext fun n => (r9 _ k n).trans (v9 k n))
    (funext fun k => (r10 _ k).trans (v10 k))
    (funext fun k => (r11 _ k).trans (v11 (rowAt t R) k))
    (funext fun k => funext fun n => (r12 _ k n).trans (v12 k n)) n

theorem arr_of_blocks {c : Dev nD} (dat : Dat τ (Elt Ideal) Unit ℕ (UR sig nD τ) ℕ cfg0 c) (G : Vec Ideal S65536x1024 .f32) (B : Fin cfg0.N → Vec Ideal S512x1024 .f32)
    (hB : ∀ t, dat.after 13 t = B t) (hG : ∀ (t : Fin cfg0.N) (y : S512x1024.Idx), B t y = G (ix2 (rowAt t (y 0)) (y 1))) : dat.arrAt 13 cfg0.N = G := by
  refine dat.arrAt_eq_of_covers 13 _ (by decide +kernel) fun t hfl y => ?_
  have e : G (ix2 (rowAt t (y 0)) (y 1)) = G ((win0_13.blk t).view.emb y) := congrArg G (emb13 t _ (rowAt t (y 0)) (rowAt_val t (y 0)) y rfl).symm
  refine Eq.trans ?_ e
  refine Eq.trans ?_ (hG t y)
  rw [hB]
  rfl

attribute [local irreducible] outArr

theorem arr_eq : (dats m 0 c).arrAt 13 cfg0.N = outArr m c := by
  refine arr_of_blocks (dats m 0 c) _ _ (after0_13 m c) fun t y => ?_
  obtain ⟨R, n, rfl⟩ : ∃ (R : Fin 512) (n : Fin 1024), y = (ix2 R n : S512x1024.Idx) := ⟨y 0, y 1, eq_ix2 y⟩
  exact point_at m c t R n

end Cert.One
-- ==== Proof.OneAlgebraic.lean ====
module

public import proofs.«01_k».proof.Defs
public import proofs.«01_k».proof.Proof.OneArr

@[expose] public section

noncomputable section

namespace Cert.One

open Idealize.ShloMosaic Idealize.ShloMosaic.TcCoe Idealize.SL.Sem

section Arguments

open Cert.Reference3Ideal

theorem rTail_congr {a0 b0 : FVec Ideal S32x2048x1024 .bf16} {a1 b1 : FVec Ideal S1024x1024 .f32} {a2 b2 : FVec Ideal S32x2048x1024 .f32} {a3 b3 : FVec Ideal S1024 .f32} {a4 b4 : FVec Ideal S1024 .f32} {a5 b5 : FVec Ideal S1024x4096 .f32} {a6 b6 : FVec Ideal S4096x1024 .f32} {a7 b7 : FVec Ideal S1024 .f32} {a8 b8 : FVec Ideal S1024 .f32} {a9 b9 : FVec Ideal S1024x1024 .f32} {a10 b10 : FVec Ideal S1024 .f32} {a11 b11 : FVec Ideal S4x32x2048x256 .f32} {a12 b12 : FVec Ideal S256x1024 .f32}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) :
    rTail a0 a1 a2 a3 a4 a5 a6 a7 a8 a9 a10 a11 a12 = rTail b0 b1 b2 b3 b4 b5 b6 b7 b8 b9 b10 b11 b12 := by
  subst e0 e1 e2 e3 e4 e5 e6 e7 e8 e9 e10 e11 e12
  rfl

end Arguments

open Cert.Reference3Ideal in
/-- From equal arguments, both end with one array. -/
theorem algebraic : Cert.algebraic_Kernel3Ideal_Reference3Ideal := by
  intro m g m' g' _ hA
  refine ⟨fun c => outArr m c, ?_, ?_⟩
  · exact (θ_run Cert.Kernel3Ideal.defs _ _).mono (fun r h c => ⟨(h c).1.trans (arr_eq m c), (h c).2⟩) (Cert.Kernel3Ideal.Value.run_blocks (F := Ideal) m g)
  · refine (θ_run Cert.Reference3Ideal.defs _ _).mono (fun r h c => ?_) (Cert.Reference3Ideal.Value.run (F := Ideal) m' g')
    obtain ⟨e0, e1, e2, e3, e4, e5, e6, e7, e8, e9, e10, e11, e12⟩ := hA c
    have k := (h c).1.trans ((congrFun (Value.after_ops (StableHlo.launchContents m' c)) (Proc.devRef .tc main_v75)).trans (Value.val2_main_v75 (StableHlo.launchContents m' c))).symm
    refine ⟨k.trans ((rTail_eq (StableHlo.launchContents m' c)).trans ?_), (h c).2⟩
    unfold outArr
    exact rTail_congr e0 e1 e2 e3 e4 e5 e6 e7 e8 e9 e10 e11 e12

end Cert.One
-- ==== Proof.lean ====
module

public import proofs.«01_k».proof.Defs
public import proofs.«01_k».proof.Proof.FrameKernel
public import proofs.«01_k».proof.Proof.FrameKernelIdeal
public import proofs.«01_k».proof.Proof.Algebraic
public import proofs.«01_k».proof.Proof.TailAlgebraic
public import proofs.«01_k».proof.Proof.OneAlgebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Lib.Quiescent
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_queries_and_keys.facts, by
  refine ⟨fun m ρ _ => Cert.Proof.Kernel.frame_run m ρ, fun m ρ _ => Cert.Proof.KernelIdeal.frame_run m ρ, fun m ρ _ => Cert.Proof.KernelIdeal.frame_run m ρ, ?_, ?_, fun m ρ _ => Cert.Kernel2.Gen.frame m ρ, fun m ρ _ => Cert.Kernel2Ideal.Gen.frame m ρ, ?_, fun m ρ _ => Cert.Kernel3.Gen.frame m ρ, fun m ρ _ => Cert.Kernel3Ideal.Gen.frame m ρ, ?_, ?_, ?_, trivial, Cert.Tail.algebraic, trivial, Cert.One.algebraic⟩
  · exact fun m ρ _ => (θ_run Cert.ReferenceIdeal.defs _ _).mono (fun r h => ⟨fun c => (h c).2, sem_eq_zero_of_no_sems (by decide) r.2⟩)
      (Cert.ReferenceIdeal.Value.run (F := Ideal) m ρ)
  · exact fun m ρ _ => (θ_run Cert.ReferenceIdeal.defs _ _).mono (fun r h => ⟨fun c => (h c).2, sem_eq_zero_of_no_sems (by decide) r.2⟩)
      (Cert.ReferenceIdeal.Value.run (F := Ideal) m ρ)
  · exact fun m ρ _ => (θ_run Cert.Reference2Ideal.defs _ _).mono (fun r h => ⟨fun c => (h c).2, sem_eq_zero_of_no_sems (by decide) r.2⟩)
      (Cert.Reference2Ideal.Value.run (F := Ideal) m ρ)
  · exact fun m ρ _ => (θ_run Cert.Reference3Ideal.defs _ _).mono (fun r h => ⟨fun c => (h c).2, sem_eq_zero_of_no_sems (by decide) r.2⟩)
      (Cert.Reference3Ideal.Value.run (F := Ideal) m ρ)
  · exact ⟨IdealRules.named_const.statement Cert.KernelIdeal.κ "mask" .f32 0xF149F2CA#32 ⊥ rfl,
      IdealRules.named_const.statement Cert.KernelIdeal.κ "uncapped" .f32 0x7149F2CA#32 ⊤ rfl⟩
  · exact @Cert.Proof.algebraic Cert.Pre_finite_queries_and_keys.facts⟩

end Cert.Proof

end
